-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_admissible [hPre_admissible : Cert.Pre_admissible.Facts] (m : (ℓ : Loc Cert.KernelIdeal.nD Cert.KernelIdeal.τ Cert.KernelIdeal.sig) → Buf (Elt Ideal) ℓ) : Prop :=
  ∀ c : Dev Cert.KernelIdeal.nD,
    (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_admissible [hPre_admissible : Cert.Pre_admissible.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_admissible [hKernelIdeal : Cert.KernelIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_admissible m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_admissible [hReferenceIdeal : Cert.ReferenceIdeal.Facts] [hPre_admissible : Cert.Pre_admissible.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_admissible m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_admissible [hKernelIdeal : Cert.KernelIdeal.Facts] [hReferenceIdeal : Cert.ReferenceIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_admissible m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31_0) = v0 c
          ∧ r.2.mem ((c.tc : Thread Cert.ReferenceIdeal.nD Cert.ReferenceIdeal.τ).loc Cert.ReferenceIdeal.main_v31_1) = v1 c
          ∧ r.2.mem ((c.tc : Thread Cert.ReferenceIdeal.nD Cert.ReferenceIdeal.τ).loc Cert.ReferenceIdeal.main_v24) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_admissible : Cert.Pre_admissible.Facts),
    quiescent_Kernel (hKernel := hKernel)
    ∧ quiescent_KernelIdeal (hKernelIdeal := hKernelIdeal)
    ∧ quiescent_KernelIdeal_pre_admissible (hKernelIdeal := hKernelIdeal) (hPre_admissible := hPre_admissible)
    ∧ quiescent_ReferenceIdeal (hReferenceIdeal := hReferenceIdeal)
    ∧ quiescent_ReferenceIdeal_pre_admissible (hReferenceIdeal := hReferenceIdeal) (hPre_admissible := hPre_admissible)
    ∧ preserves_Kernel_KernelIdeal
    ∧ algebraic_KernelIdeal_ReferenceIdeal_pre_admissible (hKernelIdeal := hKernelIdeal) (hReferenceIdeal := hReferenceIdeal) (hPre_admissible := hPre_admissible)
-- ==== Pre_admissible.lean ====
abbrev S2x8192x2048 : Shape := ⟨3, ![2, 8192, 2048]⟩
abbrev S128 : Shape := ⟨1, ![128]⟩
abbrev S1920 : Shape := ⟨1, ![1920]⟩
abbrev S128x8192 : Shape := ⟨2, ![128, 8192]⟩
abbrev S1920x8192 : Shape := ⟨2, ![1920, 8192]⟩
abbrev S15x64 : Shape := ⟨2, ![15, 64]⟩
abbrev S_ : Shape := ⟨0, ![]⟩

class Facts : Prop where
  bcast_S_S1920 : S_.BroadcastsInDim S1920 (![] : Fin 0 → Fin S1920.rank)
  bcast_S_S2x8192x2048 : S_.BroadcastsInDim S2x8192x2048 (![] : Fin 0 → Fin S2x8192x2048.rank)
  bcast_S_S128 : S_.BroadcastsInDim S128 (![] : Fin 0 → Fin S128.rank)

variable [Facts]

def fn_where {F : FTy → Type} [FloatOps F] (arg0 : IVec S1920 1) (arg1 : IVec S1920 32) (arg2 : IVec S1920 32) : IVec S1920 32 :=
  let v0 : IVec S1920 32 := select arg0 arg1 arg2
  v0

def fn_floor_divide {F : FTy → Type} [FloatOps F] (arg0 : IVec S1920 32) (arg1 : IVec S_ 32) : IVec S1920 32 :=
  let v0 : IVec S_ 32 := id arg1
  let v1 : IVec S1920 32 := broadcastInDim S1920 ![] bcast_S_S1920 v0
  let v2 : IVec S1920 32 := Host.divsi arg0 v1
  let v3 : IVec S1920 32 := signi arg0
  let v4 : IVec S_ 32 := signi v0
  let v5 : IVec S1920 32 := broadcastInDim S1920 ![] bcast_S_S1920 v4
  let v6 : IVec S1920 1 := cmpi .ne v3 v5
  let v7 : IVec S1920 32 := broadcastInDim S1920 ![] bcast_S_S1920 v0
  let v8 : IVec S1920 32 := Host.remsi arg0 v7
  let c : IVec S_ 32 := constantI S_ 32 0#32
  let v9 : IVec S1920 32 := broadcastInDim S1920 ![] bcast_S_S1920 c
  let v10 : IVec S1920 1 := cmpi .ne v8 v9
  let v11 : IVec S1920 1 := andi v6 v10
  let c_0 : IVec S_ 32 := constantI S_ 32 1#32
  let v12 : IVec S1920 32 := broadcastInDim S1920 ![] bcast_S_S1920 c_0
  let v13 : IVec S1920 32 := subi v2 v12
  let v14 : IVec S1920 32 := fn_where (F := F) v11 v13 v2
  v14

def fn {F : FTy → Type} [FloatOps F] (main_arg0 : FVec F S2x8192x2048 .bf16) (main_arg1 : IVec S128 32) (main_arg2 : IVec S1920 32) (main_arg3 : FVec F S128x8192 .bf16) (main_arg4 : FVec F S1920x8192 .fp8e4m3) (main_arg5 : FVec F S15x64 .f32) : IVec S2x8192x2048 1 × IVec S128 1 × IVec S1920 1 :=
  let main_v0 : IVec S1920 32 := iotaInDim S1920 32 0
  let main_c : IVec S_ 32 := constantI S_ 32 128#32
  let main_v1 : IVec S1920 32 := fn_floor_divide (F := F) main_v0 main_c
  let main_c_0 : IVec S_ 32 := constantI S_ 32 128#32
  let main_v2 : IVec S1920 32 := broadcastInDim S1920 ![] bcast_S_S1920 main_c_0
  let main_v3 : IVec S1920 32 := muli main_v1 main_v2
  let main_v4 : FVec F S2x8192x2048 .bf16 := Host.absf main_arg0
  let main_cst : FVec F S_ .bf16 := constant S_ .bf16 0x7F7F#16
  let main_v5 : FVec F S2x8192x2048 .bf16 := broadcastInDim S2x8192x2048 ![] bcast_S_S2x8192x2048 main_cst
  let main_v6 : IVec S2x8192x2048 1 := cmpf .ole main_v4 main_v5
  let main_c_1 : IVec S_ 32 := constantI S_ 32 0#32
  let main_v7 : IVec S128 32 := broadcastInDim S128 ![] bcast_S_S128 main_c_1
  let main_v8 : IVec S128 1 := cmpi .sge main_arg1 main_v7
  let main_c_2 : IVec S_ 32 := constantI S_ 32 2048#32
  let main_v9 : IVec S128 32 := broadcastInDim S128 ![] bcast_S_S128 main_c_2
  let main_v10 : IVec S128 1 := cmpi .slt main_arg1 main_v9
  let main_v11 : IVec S128 1 := andi main_v8 main_v10
  let main_v12 : IVec S1920 1 := cmpi .sge main_arg2 main_v3
  let main_c_3 : IVec S_ 32 := constantI S_ 32 256#32
  let main_v13 : IVec S1920 32 := broadcastInDim S1920 ![] bcast_S_S1920 main_c_3
  let main_v14 : IVec S1920 32 := addi main_v3 main_v13
  let main_v15 : IVec S1920 1 := cmpi .slt main_arg2 main_v14
  let main_v16 : IVec S1920 1 := andi main_v12 main_v15
  (main_v6, main_v11, main_v16)
-- ==== Kernel.lean ====
abbrev S2x8192x2048 : Shape := ⟨3, ![2, 8192, 2048]⟩
abbrev S128 : Shape := ⟨1, ![128]⟩
abbrev S1920 : Shape := ⟨1, ![1920]⟩
abbrev S128x8192 : Shape := ⟨2, ![128, 8192]⟩
abbrev S1920x8192 : Shape := ⟨2, ![1920, 8192]⟩
abbrev S15x64 : Shape := ⟨2, ![15, 64]⟩
abbrev S15x128 : Shape := ⟨2, ![15, 128]⟩
abbrev S1x128 : Shape := ⟨2, ![1, 128]⟩
abbrev S16384x2048 : Shape := ⟨2, ![16384, 2048]⟩
abbrev S16384x8192 : Shape := ⟨2, ![16384, 8192]⟩
abbrev S16384x1920 : Shape := ⟨2, ![16384, 1920]⟩
abbrev S16384x15 : Shape := ⟨2, ![16384, 15]⟩
abbrev S2048x8192 : Shape := ⟨2, ![2048, 8192]⟩
abbrev S2x128x8192 : Shape := ⟨3, ![2, 128, 8192]⟩
abbrev S256x2048 : Shape := ⟨2, ![256, 2048]⟩
abbrev S256x1920 : Shape := ⟨2, ![256, 1920]⟩
abbrev S256x15 : Shape := ⟨2, ![256, 15]⟩
abbrev S256x8192 : Shape := ⟨2, ![256, 8192]⟩
abbrev S2 : Shape := ⟨1, ![2]⟩
abbrev S_ : Shape := ⟨0, ![]⟩
abbrev S256x128 : Shape := ⟨2, ![256, 128]⟩
abbrev S1 : Shape := ⟨1, ![1]⟩
abbrev S1x128x8192 : Shape := ⟨3, ![1, 128, 8192]⟩
abbrev S1x1 : Shape := ⟨2, ![1, 1]⟩
abbrev S1x128x128 : Shape := ⟨3, ![1, 128, 128]⟩
abbrev S128x128 : Shape := ⟨2, ![128, 128]⟩
abbrev S256x128x1 : Shape := ⟨3, ![256, 128, 1]⟩
abbrev S256 : Shape := ⟨1, ![256]⟩
abbrev S256x1 : Shape := ⟨2, ![256, 1]⟩
abbrev S256x256 : Shape := ⟨2, ![256, 256]⟩
abbrev S2048x512 : Shape := ⟨2, ![2048, 512]⟩
abbrev S256x512 : Shape := ⟨2, ![256, 512]⟩

abbrev nBuf : Space → Nat
  | .hbm => 12
  | .vmem => 14
  | .smem => 1
  | _ => 0

abbrev bufTy : (tb : Table) → Fin (tcTables nBuf tb) → BufTy
  | .hbm, ⟨0, _⟩ => ⟨S2x8192x2048, .bf16⟩
  | .hbm, ⟨1, _⟩ => ⟨S128, .i32⟩
  | .hbm, ⟨2, _⟩ => ⟨S1920, .i32⟩
  | .hbm, ⟨3, _⟩ => ⟨S128x8192, .bf16⟩
  | .hbm, ⟨4, _⟩ => ⟨S1920x8192, .fp8e4m3⟩
  | .hbm, ⟨5, _⟩ => ⟨S15x64, .f32⟩
  | .hbm, ⟨6, _⟩ => ⟨S15x128, .i32⟩
  | .hbm, ⟨7, _⟩ => ⟨S1x128, .i32⟩
  | .hbm, ⟨8, _⟩ => ⟨S16384x2048, .bf16⟩
  | .hbm, ⟨9, _⟩ => ⟨S16384x8192, .bf16⟩
  | .hbm, ⟨10, _⟩ => ⟨S16384x1920, .fp8e4m3⟩
  | .hbm, ⟨11, _⟩ => ⟨S16384x15, .f32⟩
  | .local _ .vmem, ⟨0, _⟩ => ⟨S15x128, .i32⟩
  | .local _ .vmem, ⟨1, _⟩ => ⟨S1x128, .i32⟩
  | .local _ .vmem, ⟨2, _⟩ => ⟨S2048x8192, .bf16⟩
  | .local _ .vmem, ⟨3, _⟩ => ⟨S2x128x8192, .fp8e4m3⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x1920, .fp8e4m3⟩
  | .local _ .vmem, ⟨9, _⟩ => ⟨S256x1920, .fp8e4m3⟩
  | .local _ .vmem, ⟨10, _⟩ => ⟨S256x15, .f32⟩
  | .local _ .vmem, ⟨11, _⟩ => ⟨S256x15, .f32⟩
  | .local _ .vmem, ⟨12, _⟩ => ⟨S256x8192, .bf16⟩
  | .local _ .vmem, ⟨13, _⟩ => ⟨S256x8192, .bf16⟩
  | .local _ .smem, ⟨0, _⟩ => ⟨S15x64, .f32⟩
  | _, _ => ⟨S2x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_scratch9 : Ref sig .tc := ⟨.vmem, 11, rfl⟩
abbrev cc0_scratch10 : Ref sig .tc := ⟨.vmem, 12, rfl⟩
abbrev cc0_scratch11 : Ref sig .tc := ⟨.vmem, 13, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32_9 : BitVec 32 := 0#32
  let c15_i32 : BitVec 32 := 15#32
  let v10 : BitVec 32 := Scalar.addi c0_i32_9 c15_i32
  let c1_i32 : BitVec 32 := 1#32
  ⟨c0_i32_9, v10, c1_i32⟩
def k0_cond1 (k0_t1 : Fin k0_t1_loop.trips) : BitVec 1 :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c1_i32_978 : BitVec 32 := 1#32
  let v2878 : BitVec 32 := Scalar.addi v2876 c1_i32_978
  let c15_i32_979 : BitVec 32 := 15#32
  let v2879 : BitVec 1 := Scalar.cmpi .slt v2878 c15_i32_979
  let v2880 : BitVec 32 := Scalar.extui v2879
  let c0_i32_980 : BitVec 32 := 0#32
  let v2881 : BitVec 1 := Scalar.cmpi .ne v2880 c0_i32_980
  v2881

def k0_off1 (k0_t1 : Fin k0_t1_loop.trips) : Fin 1 → Nat :=
  let c1_i32_1209 : BitVec 32 := 1#32
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v3785 : BitVec 32 := Scalar.subi c1_i32_1209 v2877
  ![v3785.toNat]
def k0_off2 (k0_t1 : Fin k0_t1_loop.trips) : Fin 3 → Nat :=
  let c1_i32_1209 : BitVec 32 := 1#32
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v3785 : BitVec 32 := Scalar.subi c1_i32_1209 v2877
  let c0_i32_1211 : BitVec 32 := 0#32
  let c0_i32_1212 : BitVec 32 := 0#32
  ![v3785.toNat, 0, 0]
def k0_off3 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c1_i32_1208 : BitVec 32 := 1#32
  let v3784 : BitVec 32 := Scalar.addi v2876 c1_i32_1208
  let c128_i32_1210 : BitVec 32 := 128#32
  let v3786 : BitVec 32 := Scalar.muli v3784 c128_i32_1210
  let c0_i32_1213 : BitVec 32 := 0#32
  ![v3786.toNat, 0]
def k0_off4 (k0_t1 : Fin k0_t1_loop.trips) : Fin 1 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  ![v2877.toNat]
def k0_off5 (k0_t1 : Fin k0_t1_loop.trips) : Fin 3 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let c0_i32_982 : BitVec 32 := 0#32
  let c0_i32_983 : BitVec 32 := 0#32
  ![v2877.toNat, 0, 0]
def k0_off6 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c128_i32_981 : BitVec 32 := 128#32
  let v2882 : BitVec 32 := Scalar.muli v2876 c128_i32_981
  let c0_i32_984 : BitVec 32 := 0#32
  ![v2882.toNat, 0]
def k0_off7 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let v2888 : Index := Scalar.indexCast v2876
  let c0_985 : Index := 0#32
  ![v2888.toNat, 0]
def k0_off8 (k0_t1 : Fin k0_t1_loop.trips) : Fin 3 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v2891 : Index := Scalar.indexCast v2877
  let c0_986 : Index := 0#32
  let c0_987 : Index := 0#32
  ![v2891.toNat, 0, 0]
def k0_off9 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c128_i32_988 : BitVec 32 := 128#32
  let v2897 : BitVec 32 := Scalar.muli v2876 c128_i32_988
  let v2898 : Index := Scalar.indexCast v2897
  let c0_989 : Index := 0#32
  ![v2898.toNat, 0]
def k0_off10 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let v2902 : Index := Scalar.indexCast v2876
  let c1_990 : Index := 1#32
  ![v2902.toNat, 1]
def k0_off11 (k0_t1 : Fin k0_t1_loop.trips) : Fin 3 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v2905 : Index := Scalar.indexCast v2877
  let c0_991 : Index := 0#32
  let c128_992 : Index := 128#32
  ![v2905.toNat, 0, 128]
def k0_off12 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c128_i32_993 : BitVec 32 := 128#32
  let v2911 : BitVec 32 := Scalar.muli v2876 c128_i32_993
  let v2912 : Index := Scalar.indexCast v2911
  let c128_994 : Index := 128#32
  ![v2912.toNat, 128]
def k0_off13 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let v2916 : Index := Scalar.indexCast v2876
  let c2_995 : Index := 2#32
  ![v2916.toNat, 2]
def k0_off14 (k0_t1 : Fin k0_t1_loop.trips) : Fin 3 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v2919 : Index := Scalar.indexCast v2877
  let c0_996 : Index := 0#32
  let c256_997 : Index := 256#32
  ![v2919.toNat, 0, 256]
def k0_off15 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c128_i32_998 : BitVec 32 := 128#32
  let v2925 : BitVec 32 := Scalar.muli v2876 c128_i32_998
  let v2926 : Index := Scalar.indexCast v2925
  let c256_999 : Index := 256#32
  ![v2926.toNat, 256]
def k0_off16 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let v2930 : Index := Scalar.indexCast v2876
  let c3_1000 : Index := 3#32
  ![v2930.toNat, 3]
def k0_off17 (k0_t1 : Fin k0_t1_loop.trips) : Fin 3 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v2933 : Index := Scalar.indexCast v2877
  let c0_1001 : Index := 0#32
  let c384_1002 : Index := 384#32
  ![v2933.toNat, 0, 384]
def k0_off18 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c128_i32_1003 : BitVec 32 := 128#32
  let v2939 : BitVec 32 := Scalar.muli v2876 c128_i32_1003
  let v2940 : Index := Scalar.indexCast v2939
  let c384_1004 : Index := 384#32
  ![v2940.toNat, 384]
def k0_off19 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let v2944 : Index := Scalar.indexCast v2876
  let c4_1005 : Index := 4#32
  ![v2944.toNat, 4]
def k0_off20 (k0_t1 : Fin k0_t1_loop.trips) : Fin 3 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v2947 : Index := Scalar.indexCast v2877
  let c0_1006 : Index := 0#32
  let c512_1007 : Index := 512#32
  ![v2947.toNat, 0, 512]
def k0_off21 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c128_i32_1008 : BitVec 32 := 128#32
  let v2953 : BitVec 32 := Scalar.muli v2876 c128_i32_1008
  let v2954 : Index := Scalar.indexCast v2953
  let c512_1009 : Index := 512#32
  ![v2954.toNat, 512]
def k0_off22 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let v2958 : Index := Scalar.indexCast v2876
  let c5_1010 : Index := 5#32
  ![v2958.toNat, 5]
def k0_off23 (k0_t1 : Fin k0_t1_loop.trips) : Fin 3 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v2961 : Index := Scalar.indexCast v2877
  let c0_1011 : Index := 0#32
  let c640_1012 : Index := 640#32
  ![v2961.toNat, 0, 640]
def k0_off24 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c128_i32_1013 : BitVec 32 := 128#32
  let v2967 : BitVec 32 := Scalar.muli v2876 c128_i32_1013
  let v2968 : Index := Scalar.indexCast v2967
  let c640_1014 : Index := 640#32
  ![v2968.toNat, 640]
def k0_off25 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let v2972 : Index := Scalar.indexCast v2876
  let c6_1015 : Index := 6#32
  ![v2972.toNat, 6]
def k0_off26 (k0_t1 : Fin k0_t1_loop.trips) : Fin 3 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v2975 : Index := Scalar.indexCast v2877
  let c0_1016 : Index := 0#32
  let c768_1017 : Index := 768#32
  ![v2975.toNat, 0, 768]
def k0_off27 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c128_i32_1018 : BitVec 32 := 128#32
  let v2981 : BitVec 32 := Scalar.muli v2876 c128_i32_1018
  let v2982 : Index := Scalar.indexCast v2981
  let c768_1019 : Index := 768#32
  ![v2982.toNat, 768]
def k0_off28 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let v2986 : Index := Scalar.indexCast v2876
  let c7_1020 : Index := 7#32
  ![v2986.toNat, 7]
def k0_off29 (k0_t1 : Fin k0_t1_loop.trips) : Fin 3 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v2989 : Index := Scalar.indexCast v2877
  let c0_1021 : Index := 0#32
  let c896_1022 : Index := 896#32
  ![v2989.toNat, 0, 896]
def k0_off30 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c128_i32_1023 : BitVec 32 := 128#32
  let v2995 : BitVec 32 := Scalar.muli v2876 c128_i32_1023
  let v2996 : Index := Scalar.indexCast v2995
  let c896_1024 : Index := 896#32
  ![v2996.toNat, 896]
def k0_off31 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let v3000 : Index := Scalar.indexCast v2876
  let c8_1025 : Index := 8#32
  ![v3000.toNat, 8]
def k0_off32 (k0_t1 : Fin k0_t1_loop.trips) : Fin 3 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v3003 : Index := Scalar.indexCast v2877
  let c0_1026 : Index := 0#32
  let c1024_1027 : Index := 1024#32
  ![v3003.toNat, 0, 1024]
def k0_off33 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c128_i32_1028 : BitVec 32 := 128#32
  let v3009 : BitVec 32 := Scalar.muli v2876 c128_i32_1028
  let v3010 : Index := Scalar.indexCast v3009
  let c1024_1029 : Index := 1024#32
  ![v3010.toNat, 1024]
def k0_off34 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let v3014 : Index := Scalar.indexCast v2876
  let c9_1030 : Index := 9#32
  ![v3014.toNat, 9]
def k0_off35 (k0_t1 : Fin k0_t1_loop.trips) : Fin 3 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v3017 : Index := Scalar.indexCast v2877
  let c0_1031 : Index := 0#32
  let c1152_1032 : Index := 1152#32
  ![v3017.toNat, 0, 1152]
def k0_off36 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c128_i32_1033 : BitVec 32 := 128#32
  let v3023 : BitVec 32 := Scalar.muli v2876 c128_i32_1033
  let v3024 : Index := Scalar.indexCast v3023
  let c1152_1034 : Index := 1152#32
  ![v3024.toNat, 1152]
def k0_off37 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let v3028 : Index := Scalar.indexCast v2876
  let c10_1035 : Index := 10#32
  ![v3028.toNat, 10]
def k0_off38 (k0_t1 : Fin k0_t1_loop.trips) : Fin 3 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v3031 : Index := Scalar.indexCast v2877
  let c0_1036 : Index := 0#32
  let c1280_1037 : Index := 1280#32
  ![v3031.toNat, 0, 1280]
def k0_off39 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c128_i32_1038 : BitVec 32 := 128#32
  let v3037 : BitVec 32 := Scalar.muli v2876 c128_i32_1038
  let v3038 : Index := Scalar.indexCast v3037
  let c1280_1039 : Index := 1280#32
  ![v3038.toNat, 1280]
def k0_off40 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let v3042 : Index := Scalar.indexCast v2876
  let c11_1040 : Index := 11#32
  ![v3042.toNat, 11]
def k0_off41 (k0_t1 : Fin k0_t1_loop.trips) : Fin 3 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v3045 : Index := Scalar.indexCast v2877
  let c0_1041 : Index := 0#32
  let c1408_1042 : Index := 1408#32
  ![v3045.toNat, 0, 1408]
def k0_off42 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c128_i32_1043 : BitVec 32 := 128#32
  let v3051 : BitVec 32 := Scalar.muli v2876 c128_i32_1043
  let v3052 : Index := Scalar.indexCast v3051
  let c1408_1044 : Index := 1408#32
  ![v3052.toNat, 1408]
def k0_off43 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let v3056 : Index := Scalar.indexCast v2876
  let c12_1045 : Index := 12#32
  ![v3056.toNat, 12]
def k0_off44 (k0_t1 : Fin k0_t1_loop.trips) : Fin 3 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v3059 : Index := Scalar.indexCast v2877
  let c0_1046 : Index := 0#32
  let c1536_1047 : Index := 1536#32
  ![v3059.toNat, 0, 1536]
def k0_off45 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c128_i32_1048 : BitVec 32 := 128#32
  let v3065 : BitVec 32 := Scalar.muli v2876 c128_i32_1048
  let v3066 : Index := Scalar.indexCast v3065
  let c1536_1049 : Index := 1536#32
  ![v3066.toNat, 1536]
def k0_off46 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let v3070 : Index := Scalar.indexCast v2876
  let c13_1050 : Index := 13#32
  ![v3070.toNat, 13]
def k0_off47 (k0_t1 : Fin k0_t1_loop.trips) : Fin 3 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v3073 : Index := Scalar.indexCast v2877
  let c0_1051 : Index := 0#32
  let c1664_1052 : Index := 1664#32
  ![v3073.toNat, 0, 1664]
def k0_off48 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c128_i32_1053 : BitVec 32 := 128#32
  let v3079 : BitVec 32 := Scalar.muli v2876 c128_i32_1053
  let v3080 : Index := Scalar.indexCast v3079
  let c1664_1054 : Index := 1664#32
  ![v3080.toNat, 1664]
def k0_off49 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let v3084 : Index := Scalar.indexCast v2876
  let c14_1055 : Index := 14#32
  ![v3084.toNat, 14]
def k0_off50 (k0_t1 : Fin k0_t1_loop.trips) : Fin 3 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v3087 : Index := Scalar.indexCast v2877
  let c0_1056 : Index := 0#32
  let c1792_1057 : Index := 1792#32
  ![v3087.toNat, 0, 1792]
def k0_off51 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c128_i32_1058 : BitVec 32 := 128#32
  let v3093 : BitVec 32 := Scalar.muli v2876 c128_i32_1058
  let v3094 : Index := Scalar.indexCast v3093
  let c1792_1059 : Index := 1792#32
  ![v3094.toNat, 1792]
def k0_off52 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let v3098 : Index := Scalar.indexCast v2876
  let c15 : Index := 15#32
  ![v3098.toNat, 15]
def k0_off53 (k0_t1 : Fin k0_t1_loop.trips) : Fin 3 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v3101 : Index := Scalar.indexCast v2877
  let c0_1060 : Index := 0#32
  let c1920_1061 : Index := 1920#32
  ![v3101.toNat, 0, 1920]
def k0_off54 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c128_i32_1062 : BitVec 32 := 128#32
  let v3107 : BitVec 32 := Scalar.muli v2876 c128_i32_1062
  let v3108 : Index := Scalar.indexCast v3107
  let c1920_1063 : Index := 1920#32
  ![v3108.toNat, 1920]
def k0_off55 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let v3112 : Index := Scalar.indexCast v2876
  let c16 : Index := 16#32
  ![v3112.toNat, 16]
def k0_off56 (k0_t1 : Fin k0_t1_loop.trips) : Fin 3 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v3115 : Index := Scalar.indexCast v2877
  let c0_1064 : Index := 0#32
  let c2048 : Index := 2048#32
  ![v3115.toNat, 0, 2048]
def k0_off57 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c128_i32_1065 : BitVec 32 := 128#32
  let v3121 : BitVec 32 := Scalar.muli v2876 c128_i32_1065
  let v3122 : Index := Scalar.indexCast v3121
  let c2048_1066 : Index := 2048#32
  ![v3122.toNat, 2048]
def k0_off58 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let v3126 : Index := Scalar.indexCast v2876
  let c17 : Index := 17#32
  ![v3126.toNat, 17]
def k0_off59 (k0_t1 : Fin k0_t1_loop.trips) : Fin 3 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v3129 : Index := Scalar.indexCast v2877
  let c0_1067 : Index := 0#32
  let c2176 : Index := 2176#32
  ![v3129.toNat, 0, 2176]
def k0_off60 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c128_i32_1068 : BitVec 32 := 128#32
  let v3135 : BitVec 32 := Scalar.muli v2876 c128_i32_1068
  let v3136 : Index := Scalar.indexCast v3135
  let c2176_1069 : Index := 2176#32
  ![v3136.toNat, 2176]
def k0_off61 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let v3140 : Index := Scalar.indexCast v2876
  let c18 : Index := 18#32
  ![v3140.toNat, 18]
def k0_off62 (k0_t1 : Fin k0_t1_loop.trips) : Fin 3 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v3143 : Index := Scalar.indexCast v2877
  let c0_1070 : Index := 0#32
  let c2304 : Index := 2304#32
  ![v3143.toNat, 0, 2304]
def k0_off63 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c128_i32_1071 : BitVec 32 := 128#32
  let v3149 : BitVec 32 := Scalar.muli v2876 c128_i32_1071
  let v3150 : Index := Scalar.indexCast v3149
  let c2304_1072 : Index := 2304#32
  ![v3150.toNat, 2304]
def k0_off64 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let v3154 : Index := Scalar.indexCast v2876
  let c19 : Index := 19#32
  ![v3154.toNat, 19]
def k0_off65 (k0_t1 : Fin k0_t1_loop.trips) : Fin 3 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v3157 : Index := Scalar.indexCast v2877
  let c0_1073 : Index := 0#32
  let c2432 : Index := 2432#32
  ![v3157.toNat, 0, 2432]
def k0_off66 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c128_i32_1074 : BitVec 32 := 128#32
  let v3163 : BitVec 32 := Scalar.muli v2876 c128_i32_1074
  let v3164 : Index := Scalar.indexCast v3163
  let c2432_1075 : Index := 2432#32
  ![v3164.toNat, 2432]
def k0_off67 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let v3168 : Index := Scalar.indexCast v2876
  let c20 : Index := 20#32
  ![v3168.toNat, 20]
def k0_off68 (k0_t1 : Fin k0_t1_loop.trips) : Fin 3 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v3171 : Index := Scalar.indexCast v2877
  let c0_1076 : Index := 0#32
  let c2560 : Index := 2560#32
  ![v3171.toNat, 0, 2560]
def k0_off69 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c128_i32_1077 : BitVec 32 := 128#32
  let v3177 : BitVec 32 := Scalar.muli v2876 c128_i32_1077
  let v3178 : Index := Scalar.indexCast v3177
  let c2560_1078 : Index := 2560#32
  ![v3178.toNat, 2560]
def k0_off70 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let v3182 : Index := Scalar.indexCast v2876
  let c21 : Index := 21#32
  ![v3182.toNat, 21]
def k0_off71 (k0_t1 : Fin k0_t1_loop.trips) : Fin 3 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v3185 : Index := Scalar.indexCast v2877
  let c0_1079 : Index := 0#32
  let c2688 : Index := 2688#32
  ![v3185.toNat, 0, 2688]
def k0_off72 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c128_i32_1080 : BitVec 32 := 128#32
  let v3191 : BitVec 32 := Scalar.muli v2876 c128_i32_1080
  let v3192 : Index := Scalar.indexCast v3191
  let c2688_1081 : Index := 2688#32
  ![v3192.toNat, 2688]
def k0_off73 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let v3196 : Index := Scalar.indexCast v2876
  let c22 : Index := 22#32
  ![v3196.toNat, 22]
def k0_off74 (k0_t1 : Fin k0_t1_loop.trips) : Fin 3 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v3199 : Index := Scalar.indexCast v2877
  let c0_1082 : Index := 0#32
  let c2816 : Index := 2816#32
  ![v3199.toNat, 0, 2816]
def k0_off75 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c128_i32_1083 : BitVec 32 := 128#32
  let v3205 : BitVec 32 := Scalar.muli v2876 c128_i32_1083
  let v3206 : Index := Scalar.indexCast v3205
  let c2816_1084 : Index := 2816#32
  ![v3206.toNat, 2816]
def k0_off76 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let v3210 : Index := Scalar.indexCast v2876
  let c23 : Index := 23#32
  ![v3210.toNat, 23]
def k0_off77 (k0_t1 : Fin k0_t1_loop.trips) : Fin 3 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v3213 : Index := Scalar.indexCast v2877
  let c0_1085 : Index := 0#32
  let c2944 : Index := 2944#32
  ![v3213.toNat, 0, 2944]
def k0_off78 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c128_i32_1086 : BitVec 32 := 128#32
  let v3219 : BitVec 32 := Scalar.muli v2876 c128_i32_1086
  let v3220 : Index := Scalar.indexCast v3219
  let c2944_1087 : Index := 2944#32
  ![v3220.toNat, 2944]
def k0_off79 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let v3224 : Index := Scalar.indexCast v2876
  let c24 : Index := 24#32
  ![v3224.toNat, 24]
def k0_off80 (k0_t1 : Fin k0_t1_loop.trips) : Fin 3 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v3227 : Index := Scalar.indexCast v2877
  let c0_1088 : Index := 0#32
  let c3072 : Index := 3072#32
  ![v3227.toNat, 0, 3072]
def k0_off81 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c128_i32_1089 : BitVec 32 := 128#32
  let v3233 : BitVec 32 := Scalar.muli v2876 c128_i32_1089
  let v3234 : Index := Scalar.indexCast v3233
  let c3072_1090 : Index := 3072#32
  ![v3234.toNat, 3072]
def k0_off82 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let v3238 : Index := Scalar.indexCast v2876
  let c25 : Index := 25#32
  ![v3238.toNat, 25]
def k0_off83 (k0_t1 : Fin k0_t1_loop.trips) : Fin 3 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v3241 : Index := Scalar.indexCast v2877
  let c0_1091 : Index := 0#32
  let c3200 : Index := 3200#32
  ![v3241.toNat, 0, 3200]
def k0_off84 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c128_i32_1092 : BitVec 32 := 128#32
  let v3247 : BitVec 32 := Scalar.muli v2876 c128_i32_1092
  let v3248 : Index := Scalar.indexCast v3247
  let c3200_1093 : Index := 3200#32
  ![v3248.toNat, 3200]
def k0_off85 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let v3252 : Index := Scalar.indexCast v2876
  let c26 : Index := 26#32
  ![v3252.toNat, 26]
def k0_off86 (k0_t1 : Fin k0_t1_loop.trips) : Fin 3 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v3255 : Index := Scalar.indexCast v2877
  let c0_1094 : Index := 0#32
  let c3328 : Index := 3328#32
  ![v3255.toNat, 0, 3328]
def k0_off87 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c128_i32_1095 : BitVec 32 := 128#32
  let v3261 : BitVec 32 := Scalar.muli v2876 c128_i32_1095
  let v3262 : Index := Scalar.indexCast v3261
  let c3328_1096 : Index := 3328#32
  ![v3262.toNat, 3328]
def k0_off88 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let v3266 : Index := Scalar.indexCast v2876
  let c27 : Index := 27#32
  ![v3266.toNat, 27]
def k0_off89 (k0_t1 : Fin k0_t1_loop.trips) : Fin 3 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v3269 : Index := Scalar.indexCast v2877
  let c0_1097 : Index := 0#32
  let c3456 : Index := 3456#32
  ![v3269.toNat, 0, 3456]
def k0_off90 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c128_i32_1098 : BitVec 32 := 128#32
  let v3275 : BitVec 32 := Scalar.muli v2876 c128_i32_1098
  let v3276 : Index := Scalar.indexCast v3275
  let c3456_1099 : Index := 3456#32
  ![v3276.toNat, 3456]
def k0_off91 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let v3280 : Index := Scalar.indexCast v2876
  let c28 : Index := 28#32
  ![v3280.toNat, 28]
def k0_off92 (k0_t1 : Fin k0_t1_loop.trips) : Fin 3 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v3283 : Index := Scalar.indexCast v2877
  let c0_1100 : Index := 0#32
  let c3584 : Index := 3584#32
  ![v3283.toNat, 0, 3584]
def k0_off93 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c128_i32_1101 : BitVec 32 := 128#32
  let v3289 : BitVec 32 := Scalar.muli v2876 c128_i32_1101
  let v3290 : Index := Scalar.indexCast v3289
  let c3584_1102 : Index := 3584#32
  ![v3290.toNat, 3584]
def k0_off94 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let v3294 : Index := Scalar.indexCast v2876
  let c29 : Index := 29#32
  ![v3294.toNat, 29]
def k0_off95 (k0_t1 : Fin k0_t1_loop.trips) : Fin 3 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v3297 : Index := Scalar.indexCast v2877
  let c0_1103 : Index := 0#32
  let c3712 : Index := 3712#32
  ![v3297.toNat, 0, 3712]
def k0_off96 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c128_i32_1104 : BitVec 32 := 128#32
  let v3303 : BitVec 32 := Scalar.muli v2876 c128_i32_1104
  let v3304 : Index := Scalar.indexCast v3303
  let c3712_1105 : Index := 3712#32
  ![v3304.toNat, 3712]
def k0_off97 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let v3308 : Index := Scalar.indexCast v2876
  let c30 : Index := 30#32
  ![v3308.toNat, 30]
def k0_off98 (k0_t1 : Fin k0_t1_loop.trips) : Fin 3 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v3311 : Index := Scalar.indexCast v2877
  let c0_1106 : Index := 0#32
  let c3840 : Index := 3840#32
  ![v3311.toNat, 0, 3840]
def k0_off99 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c128_i32_1107 : BitVec 32 := 128#32
  let v3317 : BitVec 32 := Scalar.muli v2876 c128_i32_1107
  let v3318 : Index := Scalar.indexCast v3317
  let c3840_1108 : Index := 3840#32
  ![v3318.toNat, 3840]
def k0_off100 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let v3322 : Index := Scalar.indexCast v2876
  let c31 : Index := 31#32
  ![v3322.toNat, 31]
def k0_off101 (k0_t1 : Fin k0_t1_loop.trips) : Fin 3 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v3325 : Index := Scalar.indexCast v2877
  let c0_1109 : Index := 0#32
  let c3968 : Index := 3968#32
  ![v3325.toNat, 0, 3968]
def k0_off102 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c128_i32_1110 : BitVec 32 := 128#32
  let v3331 : BitVec 32 := Scalar.muli v2876 c128_i32_1110
  let v3332 : Index := Scalar.indexCast v3331
  let c3968_1111 : Index := 3968#32
  ![v3332.toNat, 3968]
def k0_off103 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let v3336 : Index := Scalar.indexCast v2876
  let c32 : Index := 32#32
  ![v3336.toNat, 32]
def k0_off104 (k0_t1 : Fin k0_t1_loop.trips) : Fin 3 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v3339 : Index := Scalar.indexCast v2877
  let c0_1112 : Index := 0#32
  let c4096 : Index := 4096#32
  ![v3339.toNat, 0, 4096]
def k0_off105 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c128_i32_1113 : BitVec 32 := 128#32
  let v3345 : BitVec 32 := Scalar.muli v2876 c128_i32_1113
  let v3346 : Index := Scalar.indexCast v3345
  let c4096_1114 : Index := 4096#32
  ![v3346.toNat, 4096]
def k0_off106 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let v3350 : Index := Scalar.indexCast v2876
  let c33 : Index := 33#32
  ![v3350.toNat, 33]
def k0_off107 (k0_t1 : Fin k0_t1_loop.trips) : Fin 3 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v3353 : Index := Scalar.indexCast v2877
  let c0_1115 : Index := 0#32
  let c4224 : Index := 4224#32
  ![v3353.toNat, 0, 4224]
def k0_off108 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c128_i32_1116 : BitVec 32 := 128#32
  let v3359 : BitVec 32 := Scalar.muli v2876 c128_i32_1116
  let v3360 : Index := Scalar.indexCast v3359
  let c4224_1117 : Index := 4224#32
  ![v3360.toNat, 4224]
def k0_off109 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let v3364 : Index := Scalar.indexCast v2876
  let c34 : Index := 34#32
  ![v3364.toNat, 34]
def k0_off110 (k0_t1 : Fin k0_t1_loop.trips) : Fin 3 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v3367 : Index := Scalar.indexCast v2877
  let c0_1118 : Index := 0#32
  let c4352 : Index := 4352#32
  ![v3367.toNat, 0, 4352]
def k0_off111 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c128_i32_1119 : BitVec 32 := 128#32
  let v3373 : BitVec 32 := Scalar.muli v2876 c128_i32_1119
  let v3374 : Index := Scalar.indexCast v3373
  let c4352_1120 : Index := 4352#32
  ![v3374.toNat, 4352]
def k0_off112 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let v3378 : Index := Scalar.indexCast v2876
  let c35 : Index := 35#32
  ![v3378.toNat, 35]
def k0_off113 (k0_t1 : Fin k0_t1_loop.trips) : Fin 3 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v3381 : Index := Scalar.indexCast v2877
  let c0_1121 : Index := 0#32
  let c4480 : Index := 4480#32
  ![v3381.toNat, 0, 4480]
def k0_off114 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c128_i32_1122 : BitVec 32 := 128#32
  let v3387 : BitVec 32 := Scalar.muli v2876 c128_i32_1122
  let v3388 : Index := Scalar.indexCast v3387
  let c4480_1123 : Index := 4480#32
  ![v3388.toNat, 4480]
def k0_off115 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let v3392 : Index := Scalar.indexCast v2876
  let c36 : Index := 36#32
  ![v3392.toNat, 36]
def k0_off116 (k0_t1 : Fin k0_t1_loop.trips) : Fin 3 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v3395 : Index := Scalar.indexCast v2877
  let c0_1124 : Index := 0#32
  let c4608 : Index := 4608#32
  ![v3395.toNat, 0, 4608]
def k0_off117 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c128_i32_1125 : BitVec 32 := 128#32
  let v3401 : BitVec 32 := Scalar.muli v2876 c128_i32_1125
  let v3402 : Index := Scalar.indexCast v3401
  let c4608_1126 : Index := 4608#32
  ![v3402.toNat, 4608]
def k0_off118 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let v3406 : Index := Scalar.indexCast v2876
  let c37 : Index := 37#32
  ![v3406.toNat, 37]
def k0_off119 (k0_t1 : Fin k0_t1_loop.trips) : Fin 3 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v3409 : Index := Scalar.indexCast v2877
  let c0_1127 : Index := 0#32
  let c4736 : Index := 4736#32
  ![v3409.toNat, 0, 4736]
def k0_off120 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c128_i32_1128 : BitVec 32 := 128#32
  let v3415 : BitVec 32 := Scalar.muli v2876 c128_i32_1128
  let v3416 : Index := Scalar.indexCast v3415
  let c4736_1129 : Index := 4736#32
  ![v3416.toNat, 4736]
def k0_off121 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let v3420 : Index := Scalar.indexCast v2876
  let c38 : Index := 38#32
  ![v3420.toNat, 38]
def k0_off122 (k0_t1 : Fin k0_t1_loop.trips) : Fin 3 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v3423 : Index := Scalar.indexCast v2877
  let c0_1130 : Index := 0#32
  let c4864 : Index := 4864#32
  ![v3423.toNat, 0, 4864]
def k0_off123 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c128_i32_1131 : BitVec 32 := 128#32
  let v3429 : BitVec 32 := Scalar.muli v2876 c128_i32_1131
  let v3430 : Index := Scalar.indexCast v3429
  let c4864_1132 : Index := 4864#32
  ![v3430.toNat, 4864]
def k0_off124 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let v3434 : Index := Scalar.indexCast v2876
  let c39 : Index := 39#32
  ![v3434.toNat, 39]
def k0_off125 (k0_t1 : Fin k0_t1_loop.trips) : Fin 3 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v3437 : Index := Scalar.indexCast v2877
  let c0_1133 : Index := 0#32
  let c4992 : Index := 4992#32
  ![v3437.toNat, 0, 4992]
def k0_off126 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c128_i32_1134 : BitVec 32 := 128#32
  let v3443 : BitVec 32 := Scalar.muli v2876 c128_i32_1134
  let v3444 : Index := Scalar.indexCast v3443
  let c4992_1135 : Index := 4992#32
  ![v3444.toNat, 4992]
def k0_off127 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let v3448 : Index := Scalar.indexCast v2876
  let c40 : Index := 40#32
  ![v3448.toNat, 40]
def k0_off128 (k0_t1 : Fin k0_t1_loop.trips) : Fin 3 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v3451 : Index := Scalar.indexCast v2877
  let c0_1136 : Index := 0#32
  let c5120 : Index := 5120#32
  ![v3451.toNat, 0, 5120]
def k0_off129 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c128_i32_1137 : BitVec 32 := 128#32
  let v3457 : BitVec 32 := Scalar.muli v2876 c128_i32_1137
  let v3458 : Index := Scalar.indexCast v3457
  let c5120_1138 : Index := 5120#32
  ![v3458.toNat, 5120]
def k0_off130 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let v3462 : Index := Scalar.indexCast v2876
  let c41 : Index := 41#32
  ![v3462.toNat, 41]
def k0_off131 (k0_t1 : Fin k0_t1_loop.trips) : Fin 3 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v3465 : Index := Scalar.indexCast v2877
  let c0_1139 : Index := 0#32
  let c5248 : Index := 5248#32
  ![v3465.toNat, 0, 5248]
def k0_off132 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c128_i32_1140 : BitVec 32 := 128#32
  let v3471 : BitVec 32 := Scalar.muli v2876 c128_i32_1140
  let v3472 : Index := Scalar.indexCast v3471
  let c5248_1141 : Index := 5248#32
  ![v3472.toNat, 5248]
def k0_off133 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let v3476 : Index := Scalar.indexCast v2876
  let c42 : Index := 42#32
  ![v3476.toNat, 42]
def k0_off134 (k0_t1 : Fin k0_t1_loop.trips) : Fin 3 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v3479 : Index := Scalar.indexCast v2877
  let c0_1142 : Index := 0#32
  let c5376 : Index := 5376#32
  ![v3479.toNat, 0, 5376]
def k0_off135 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c128_i32_1143 : BitVec 32 := 128#32
  let v3485 : BitVec 32 := Scalar.muli v2876 c128_i32_1143
  let v3486 : Index := Scalar.indexCast v3485
  let c5376_1144 : Index := 5376#32
  ![v3486.toNat, 5376]
def k0_off136 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let v3490 : Index := Scalar.indexCast v2876
  let c43 : Index := 43#32
  ![v3490.toNat, 43]
def k0_off137 (k0_t1 : Fin k0_t1_loop.trips) : Fin 3 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v3493 : Index := Scalar.indexCast v2877
  let c0_1145 : Index := 0#32
  let c5504 : Index := 5504#32
  ![v3493.toNat, 0, 5504]
def k0_off138 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c128_i32_1146 : BitVec 32 := 128#32
  let v3499 : BitVec 32 := Scalar.muli v2876 c128_i32_1146
  let v3500 : Index := Scalar.indexCast v3499
  let c5504_1147 : Index := 5504#32
  ![v3500.toNat, 5504]
def k0_off139 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let v3504 : Index := Scalar.indexCast v2876
  let c44 : Index := 44#32
  ![v3504.toNat, 44]
def k0_off140 (k0_t1 : Fin k0_t1_loop.trips) : Fin 3 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v3507 : Index := Scalar.indexCast v2877
  let c0_1148 : Index := 0#32
  let c5632 : Index := 5632#32
  ![v3507.toNat, 0, 5632]
def k0_off141 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c128_i32_1149 : BitVec 32 := 128#32
  let v3513 : BitVec 32 := Scalar.muli v2876 c128_i32_1149
  let v3514 : Index := Scalar.indexCast v3513
  let c5632_1150 : Index := 5632#32
  ![v3514.toNat, 5632]
def k0_off142 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let v3518 : Index := Scalar.indexCast v2876
  let c45 : Index := 45#32
  ![v3518.toNat, 45]
def k0_off143 (k0_t1 : Fin k0_t1_loop.trips) : Fin 3 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v3521 : Index := Scalar.indexCast v2877
  let c0_1151 : Index := 0#32
  let c5760 : Index := 5760#32
  ![v3521.toNat, 0, 5760]
def k0_off144 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c128_i32_1152 : BitVec 32 := 128#32
  let v3527 : BitVec 32 := Scalar.muli v2876 c128_i32_1152
  let v3528 : Index := Scalar.indexCast v3527
  let c5760_1153 : Index := 5760#32
  ![v3528.toNat, 5760]
def k0_off145 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let v3532 : Index := Scalar.indexCast v2876
  let c46 : Index := 46#32
  ![v3532.toNat, 46]
def k0_off146 (k0_t1 : Fin k0_t1_loop.trips) : Fin 3 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v3535 : Index := Scalar.indexCast v2877
  let c0_1154 : Index := 0#32
  let c5888 : Index := 5888#32
  ![v3535.toNat, 0, 5888]
def k0_off147 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c128_i32_1155 : BitVec 32 := 128#32
  let v3541 : BitVec 32 := Scalar.muli v2876 c128_i32_1155
  let v3542 : Index := Scalar.indexCast v3541
  let c5888_1156 : Index := 5888#32
  ![v3542.toNat, 5888]
def k0_off148 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let v3546 : Index := Scalar.indexCast v2876
  let c47 : Index := 47#32
  ![v3546.toNat, 47]
def k0_off149 (k0_t1 : Fin k0_t1_loop.trips) : Fin 3 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v3549 : Index := Scalar.indexCast v2877
  let c0_1157 : Index := 0#32
  let c6016 : Index := 6016#32
  ![v3549.toNat, 0, 6016]
def k0_off150 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c128_i32_1158 : BitVec 32 := 128#32
  let v3555 : BitVec 32 := Scalar.muli v2876 c128_i32_1158
  let v3556 : Index := Scalar.indexCast v3555
  let c6016_1159 : Index := 6016#32
  ![v3556.toNat, 6016]
def k0_off151 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let v3560 : Index := Scalar.indexCast v2876
  let c48 : Index := 48#32
  ![v3560.toNat, 48]
def k0_off152 (k0_t1 : Fin k0_t1_loop.trips) : Fin 3 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v3563 : Index := Scalar.indexCast v2877
  let c0_1160 : Index := 0#32
  let c6144 : Index := 6144#32
  ![v3563.toNat, 0, 6144]
def k0_off153 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c128_i32_1161 : BitVec 32 := 128#32
  let v3569 : BitVec 32 := Scalar.muli v2876 c128_i32_1161
  let v3570 : Index := Scalar.indexCast v3569
  let c6144_1162 : Index := 6144#32
  ![v3570.toNat, 6144]
def k0_off154 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let v3574 : Index := Scalar.indexCast v2876
  let c49 : Index := 49#32
  ![v3574.toNat, 49]
def k0_off155 (k0_t1 : Fin k0_t1_loop.trips) : Fin 3 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v3577 : Index := Scalar.indexCast v2877
  let c0_1163 : Index := 0#32
  let c6272 : Index := 6272#32
  ![v3577.toNat, 0, 6272]
def k0_off156 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c128_i32_1164 : BitVec 32 := 128#32
  let v3583 : BitVec 32 := Scalar.muli v2876 c128_i32_1164
  let v3584 : Index := Scalar.indexCast v3583
  let c6272_1165 : Index := 6272#32
  ![v3584.toNat, 6272]
def k0_off157 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let v3588 : Index := Scalar.indexCast v2876
  let c50 : Index := 50#32
  ![v3588.toNat, 50]
def k0_off158 (k0_t1 : Fin k0_t1_loop.trips) : Fin 3 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v3591 : Index := Scalar.indexCast v2877
  let c0_1166 : Index := 0#32
  let c6400 : Index := 6400#32
  ![v3591.toNat, 0, 6400]
def k0_off159 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c128_i32_1167 : BitVec 32 := 128#32
  let v3597 : BitVec 32 := Scalar.muli v2876 c128_i32_1167
  let v3598 : Index := Scalar.indexCast v3597
  let c6400_1168 : Index := 6400#32
  ![v3598.toNat, 6400]
def k0_off160 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let v3602 : Index := Scalar.indexCast v2876
  let c51 : Index := 51#32
  ![v3602.toNat, 51]
def k0_off161 (k0_t1 : Fin k0_t1_loop.trips) : Fin 3 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v3605 : Index := Scalar.indexCast v2877
  let c0_1169 : Index := 0#32
  let c6528 : Index := 6528#32
  ![v3605.toNat, 0, 6528]
def k0_off162 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c128_i32_1170 : BitVec 32 := 128#32
  let v3611 : BitVec 32 := Scalar.muli v2876 c128_i32_1170
  let v3612 : Index := Scalar.indexCast v3611
  let c6528_1171 : Index := 6528#32
  ![v3612.toNat, 6528]
def k0_off163 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let v3616 : Index := Scalar.indexCast v2876
  let c52 : Index := 52#32
  ![v3616.toNat, 52]
def k0_off164 (k0_t1 : Fin k0_t1_loop.trips) : Fin 3 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v3619 : Index := Scalar.indexCast v2877
  let c0_1172 : Index := 0#32
  let c6656 : Index := 6656#32
  ![v3619.toNat, 0, 6656]
def k0_off165 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c128_i32_1173 : BitVec 32 := 128#32
  let v3625 : BitVec 32 := Scalar.muli v2876 c128_i32_1173
  let v3626 : Index := Scalar.indexCast v3625
  let c6656_1174 : Index := 6656#32
  ![v3626.toNat, 6656]
def k0_off166 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let v3630 : Index := Scalar.indexCast v2876
  let c53 : Index := 53#32
  ![v3630.toNat, 53]
def k0_off167 (k0_t1 : Fin k0_t1_loop.trips) : Fin 3 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v3633 : Index := Scalar.indexCast v2877
  let c0_1175 : Index := 0#32
  let c6784 : Index := 6784#32
  ![v3633.toNat, 0, 6784]
def k0_off168 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c128_i32_1176 : BitVec 32 := 128#32
  let v3639 : BitVec 32 := Scalar.muli v2876 c128_i32_1176
  let v3640 : Index := Scalar.indexCast v3639
  let c6784_1177 : Index := 6784#32
  ![v3640.toNat, 6784]
def k0_off169 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let v3644 : Index := Scalar.indexCast v2876
  let c54 : Index := 54#32
  ![v3644.toNat, 54]
def k0_off170 (k0_t1 : Fin k0_t1_loop.trips) : Fin 3 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v3647 : Index := Scalar.indexCast v2877
  let c0_1178 : Index := 0#32
  let c6912 : Index := 6912#32
  ![v3647.toNat, 0, 6912]
def k0_off171 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c128_i32_1179 : BitVec 32 := 128#32
  let v3653 : BitVec 32 := Scalar.muli v2876 c128_i32_1179
  let v3654 : Index := Scalar.indexCast v3653
  let c6912_1180 : Index := 6912#32
  ![v3654.toNat, 6912]
def k0_off172 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let v3658 : Index := Scalar.indexCast v2876
  let c55 : Index := 55#32
  ![v3658.toNat, 55]
def k0_off173 (k0_t1 : Fin k0_t1_loop.trips) : Fin 3 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v3661 : Index := Scalar.indexCast v2877
  let c0_1181 : Index := 0#32
  let c7040 : Index := 7040#32
  ![v3661.toNat, 0, 7040]
def k0_off174 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c128_i32_1182 : BitVec 32 := 128#32
  let v3667 : BitVec 32 := Scalar.muli v2876 c128_i32_1182
  let v3668 : Index := Scalar.indexCast v3667
  let c7040_1183 : Index := 7040#32
  ![v3668.toNat, 7040]
def k0_off175 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let v3672 : Index := Scalar.indexCast v2876
  let c56 : Index := 56#32
  ![v3672.toNat, 56]
def k0_off176 (k0_t1 : Fin k0_t1_loop.trips) : Fin 3 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v3675 : Index := Scalar.indexCast v2877
  let c0_1184 : Index := 0#32
  let c7168 : Index := 7168#32
  ![v3675.toNat, 0, 7168]
def k0_off177 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c128_i32_1185 : BitVec 32 := 128#32
  let v3681 : BitVec 32 := Scalar.muli v2876 c128_i32_1185
  let v3682 : Index := Scalar.indexCast v3681
  let c7168_1186 : Index := 7168#32
  ![v3682.toNat, 7168]
def k0_off178 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let v3686 : Index := Scalar.indexCast v2876
  let c57 : Index := 57#32
  ![v3686.toNat, 57]
def k0_off179 (k0_t1 : Fin k0_t1_loop.trips) : Fin 3 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v3689 : Index := Scalar.indexCast v2877
  let c0_1187 : Index := 0#32
  let c7296 : Index := 7296#32
  ![v3689.toNat, 0, 7296]
def k0_off180 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c128_i32_1188 : BitVec 32 := 128#32
  let v3695 : BitVec 32 := Scalar.muli v2876 c128_i32_1188
  let v3696 : Index := Scalar.indexCast v3695
  let c7296_1189 : Index := 7296#32
  ![v3696.toNat, 7296]
def k0_off181 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let v3700 : Index := Scalar.indexCast v2876
  let c58 : Index := 58#32
  ![v3700.toNat, 58]
def k0_off182 (k0_t1 : Fin k0_t1_loop.trips) : Fin 3 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v3703 : Index := Scalar.indexCast v2877
  let c0_1190 : Index := 0#32
  let c7424 : Index := 7424#32
  ![v3703.toNat, 0, 7424]
def k0_off183 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c128_i32_1191 : BitVec 32 := 128#32
  let v3709 : BitVec 32 := Scalar.muli v2876 c128_i32_1191
  let v3710 : Index := Scalar.indexCast v3709
  let c7424_1192 : Index := 7424#32
  ![v3710.toNat, 7424]
def k0_off184 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let v3714 : Index := Scalar.indexCast v2876
  let c59 : Index := 59#32
  ![v3714.toNat, 59]
def k0_off185 (k0_t1 : Fin k0_t1_loop.trips) : Fin 3 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v3717 : Index := Scalar.indexCast v2877
  let c0_1193 : Index := 0#32
  let c7552 : Index := 7552#32
  ![v3717.toNat, 0, 7552]
def k0_off186 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c128_i32_1194 : BitVec 32 := 128#32
  let v3723 : BitVec 32 := Scalar.muli v2876 c128_i32_1194
  let v3724 : Index := Scalar.indexCast v3723
  let c7552_1195 : Index := 7552#32
  ![v3724.toNat, 7552]
def k0_off187 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let v3728 : Index := Scalar.indexCast v2876
  let c60 : Index := 60#32
  ![v3728.toNat, 60]
def k0_off188 (k0_t1 : Fin k0_t1_loop.trips) : Fin 3 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v3731 : Index := Scalar.indexCast v2877
  let c0_1196 : Index := 0#32
  let c7680 : Index := 7680#32
  ![v3731.toNat, 0, 7680]
def k0_off189 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c128_i32_1197 : BitVec 32 := 128#32
  let v3737 : BitVec 32 := Scalar.muli v2876 c128_i32_1197
  let v3738 : Index := Scalar.indexCast v3737
  let c7680_1198 : Index := 7680#32
  ![v3738.toNat, 7680]
def k0_off190 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let v3742 : Index := Scalar.indexCast v2876
  let c61 : Index := 61#32
  ![v3742.toNat, 61]
def k0_off191 (k0_t1 : Fin k0_t1_loop.trips) : Fin 3 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v3745 : Index := Scalar.indexCast v2877
  let c0_1199 : Index := 0#32
  let c7808 : Index := 7808#32
  ![v3745.toNat, 0, 7808]
def k0_off192 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c128_i32_1200 : BitVec 32 := 128#32
  let v3751 : BitVec 32 := Scalar.muli v2876 c128_i32_1200
  let v3752 : Index := Scalar.indexCast v3751
  let c7808_1201 : Index := 7808#32
  ![v3752.toNat, 7808]
def k0_off193 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let v3756 : Index := Scalar.indexCast v2876
  let c62 : Index := 62#32
  ![v3756.toNat, 62]
def k0_off194 (k0_t1 : Fin k0_t1_loop.trips) : Fin 3 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v3759 : Index := Scalar.indexCast v2877
  let c0_1202 : Index := 0#32
  let c7936 : Index := 7936#32
  ![v3759.toNat, 0, 7936]
def k0_off195 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c128_i32_1203 : BitVec 32 := 128#32
  let v3765 : BitVec 32 := Scalar.muli v2876 c128_i32_1203
  let v3766 : Index := Scalar.indexCast v3765
  let c7936_1204 : Index := 7936#32
  ![v3766.toNat, 7936]
def k0_off196 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let v3770 : Index := Scalar.indexCast v2876
  let c63 : Index := 63#32
  ![v3770.toNat, 63]
def k0_off197 (k0_t1 : Fin k0_t1_loop.trips) : Fin 3 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c2_i32_977 : BitVec 32 := 2#32
  let v2877 : BitVec 32 := Scalar.remsi v2876 c2_i32_977
  let v3773 : Index := Scalar.indexCast v2877
  let c0_1205 : Index := 0#32
  let c8064 : Index := 8064#32
  ![v3773.toNat, 0, 8064]
def k0_off198 (k0_t1 : Fin k0_t1_loop.trips) : Fin 2 → Nat :=
  let c0_i32_976 : BitVec 32 := 0#32
  let c0_i32_9 : BitVec 32 := 0#32
  let c1_i32 : BitVec 32 := 1#32
  let arg27 : BitVec 32 := Scf.iv c0_i32_9 c1_i32 k0_t1
  let c1_i32_975 : BitVec 32 := 1#32
  let v2875 : BitVec 32 := Scalar.muli arg27 c1_i32_975
  let v2876 : BitVec 32 := Scalar.addi c0_i32_976 v2875
  let c128_i32_1206 : BitVec 32 := 128#32
  let v3779 : BitVec 32 := Scalar.muli v2876 c128_i32_1206
  let v3780 : Index := Scalar.indexCast v3779
  let c8064_1207 : Index := 8064#32
  ![v3780.toNat, 8064]
@[reducible] def k0_t2_loop : Scf.Loop 32 :=
  let c0_i32_960 : BitVec 32 := 0#32
  let c32_i32 : BitVec 32 := 32#32
  let v2862 : BitVec 32 := Scalar.addi c0_i32_960 c32_i32
  let c1_i32_961 : BitVec 32 := 1#32
  ⟨c0_i32_960, v2862, c1_i32_961⟩
def k0_cond2 (k0_t2 : Fin k0_t2_loop.trips) : BitVec 1 :=
  let c2_i32_977 : BitVec 32 := 2#32
  let c0_i32_976 : BitVec 32 := 0#32
  let c0_i32_960 : BitVec 32 := 0#32
  let c1_i32_961 : BitVec 32 := 1#32
  let arg27 : BitVec 32 := Scf.iv c0_i32_960 c1_i32_961 k0_t2
  let c1_i32_975 : BitVec 32 := 1#32
  let v2875 : BitVec 32 := Scalar.muli arg27 c1_i32_975
  let v2876 : BitVec 32 := Scalar.addi c0_i32_976 v2875
  let v2877 : BitVec 32 := Scalar.muli c2_i32_977 v2876
  let c63_i32_979 : BitVec 32 := 63#32
  let v2880 : BitVec 1 := Scalar.cmpi .slt v2877 c63_i32_979
  let v2881 : BitVec 32 := Scalar.extui v2880
  let c0_i32_980 : BitVec 32 := 0#32
  let v2882 : BitVec 1 := Scalar.cmpi .ne v2881 c0_i32_980
  v2882

def k0_off199 (k0_t2 : Fin k0_t2_loop.trips) : Fin 2 → Nat :=
  let c2_i32_977 : BitVec 32 := 2#32
  let c0_i32_976 : BitVec 32 := 0#32
  let c0_i32_960 : BitVec 32 := 0#32
  let c1_i32_961 : BitVec 32 := 1#32
  let arg27 : BitVec 32 := Scf.iv c0_i32_960 c1_i32_961 k0_t2
  let c1_i32_975 : BitVec 32 := 1#32
  let v2875 : BitVec 32 := Scalar.muli arg27 c1_i32_975
  let v2876 : BitVec 32 := Scalar.addi c0_i32_976 v2875
  let v2877 : BitVec 32 := Scalar.muli c2_i32_977 v2876
  let c1_i32_978 : BitVec 32 := 1#32
  let v2878 : BitVec 32 := Scalar.addi v2877 c1_i32_978
  let c63_i32 : BitVec 32 := 63#32
  let v2879 : BitVec 32 := Scalar.minsi v2878 c63_i32
  let c256_i32_3187 : BitVec 32 := 256#32
  let v8824 : BitVec 32 := Scalar.muli v2879 c256_i32_3187
  let c0_i32_3189 : BitVec 32 := 0#32
  ![v8824.toNat, 0]
def k0_cond3 (k0_t2 : Fin k0_t2_loop.trips) : BitVec 1 :=
  let c2_i32_977 : BitVec 32 := 2#32
  let c0_i32_976 : BitVec 32 := 0#32
  let c0_i32_960 : BitVec 32 := 0#32
  let c1_i32_961 : BitVec 32 := 1#32
  let arg27 : BitVec 32 := Scf.iv c0_i32_960 c1_i32_961 k0_t2
  let c1_i32_975 : BitVec 32 := 1#32
  let v2875 : BitVec 32 := Scalar.muli arg27 c1_i32_975
  let v2876 : BitVec 32 := Scalar.addi c0_i32_976 v2875
  let v2877 : BitVec 32 := Scalar.muli c2_i32_977 v2876
  let c2_i32_981 : BitVec 32 := 2#32
  let v2883 : BitVec 32 := Scalar.addi v2877 c2_i32_981
  let c63_i32_982 : BitVec 32 := 63#32
  let v2884 : BitVec 1 := Scalar.cmpi .sle v2883 c63_i32_982
  let v2885 : BitVec 32 := Scalar.extui v2884
  let c0_i32_983 : BitVec 32 := 0#32
  let v2886 : BitVec 1 := Scalar.cmpi .ne v2885 c0_i32_983
  v2886

def k0_off200 (k0_t2 : Fin k0_t2_loop.trips) : Fin 2 → Nat :=
  let c2_i32_977 : BitVec 32 := 2#32
  let c0_i32_976 : BitVec 32 := 0#32
  let c0_i32_960 : BitVec 32 := 0#32
  let c1_i32_961 : BitVec 32 := 1#32
  let arg27 : BitVec 32 := Scf.iv c0_i32_960 c1_i32_961 k0_t2
  let c1_i32_975 : BitVec 32 := 1#32
  let v2875 : BitVec 32 := Scalar.muli arg27 c1_i32_975
  let v2876 : BitVec 32 := Scalar.addi c0_i32_976 v2875
  let v2877 : BitVec 32 := Scalar.muli c2_i32_977 v2876
  let c2_i32_3187 : BitVec 32 := 2#32
  let v8824 : BitVec 32 := Scalar.addi v2877 c2_i32_3187
  let c256_i32_3188 : BitVec 32 := 256#32
  let v8825 : BitVec 32 := Scalar.muli v8824 c256_i32_3188
  let c0_i32_3190 : BitVec 32 := 0#32
  ![v8825.toNat, 0]
def k0_cond4 (k0_t2 : Fin k0_t2_loop.trips) : BitVec 1 :=
  let c2_i32_977 : BitVec 32 := 2#32
  let c0_i32_976 : BitVec 32 := 0#32
  let c0_i32_960 : BitVec 32 := 0#32
  let c1_i32_961 : BitVec 32 := 1#32
  let arg27 : BitVec 32 := Scf.iv c0_i32_960 c1_i32_961 k0_t2
  let c1_i32_975 : BitVec 32 := 1#32
  let v2875 : BitVec 32 := Scalar.muli arg27 c1_i32_975
  let v2876 : BitVec 32 := Scalar.addi c0_i32_976 v2875
  let v2877 : BitVec 32 := Scalar.muli c2_i32_977 v2876
  let c1_i32_984 : BitVec 32 := 1#32
  let v2887 : BitVec 1 := Scalar.cmpi .sge v2877 c1_i32_984
  let v2888 : BitVec 32 := Scalar.extui v2887
  let c0_i32_985 : BitVec 32 := 0#32
  let v2889 : BitVec 1 := Scalar.cmpi .ne v2888 c0_i32_985
  v2889

def k0_off201 (k0_t2 : Fin k0_t2_loop.trips) : Fin 2 → Nat :=
  let c2_i32_977 : BitVec 32 := 2#32
  let c0_i32_976 : BitVec 32 := 0#32
  let c0_i32_960 : BitVec 32 := 0#32
  let c1_i32_961 : BitVec 32 := 1#32
  let arg27 : BitVec 32 := Scf.iv c0_i32_960 c1_i32_961 k0_t2
  let c1_i32_975 : BitVec 32 := 1#32
  let v2875 : BitVec 32 := Scalar.muli arg27 c1_i32_975
  let v2876 : BitVec 32 := Scalar.addi c0_i32_976 v2875
  let v2877 : BitVec 32 := Scalar.muli c2_i32_977 v2876
  let c1_i32_978 : BitVec 32 := 1#32
  let v2878 : BitVec 32 := Scalar.addi v2877 c1_i32_978
  let c63_i32 : BitVec 32 := 63#32
  let v2879 : BitVec 32 := Scalar.minsi v2878 c63_i32
  let c256_i32_3187 : BitVec 32 := 256#32
  let v8824 : BitVec 32 := Scalar.muli v2879 c256_i32_3187
  let c0_i32_3189 : BitVec 32 := 0#32
  ![v8824.toNat, 0]
def k0_off202 (k0_t2 : Fin k0_t2_loop.trips) : Fin 2 → Nat :=
  let c2_i32_977 : BitVec 32 := 2#32
  let c0_i32_976 : BitVec 32 := 0#32
  let c0_i32_960 : BitVec 32 := 0#32
  let c1_i32_961 : BitVec 32 := 1#32
  let arg27 : BitVec 32 := Scf.iv c0_i32_960 c1_i32_961 k0_t2
  let c1_i32_975 : BitVec 32 := 1#32
  let v2875 : BitVec 32 := Scalar.muli arg27 c1_i32_975
  let v2876 : BitVec 32 := Scalar.addi c0_i32_976 v2875
  let v2877 : BitVec 32 := Scalar.muli c2_i32_977 v2876
  let c1_i32_978 : BitVec 32 := 1#32
  let v2878 : BitVec 32 := Scalar.addi v2877 c1_i32_978
  let c63_i32 : BitVec 32 := 63#32
  let v2879 : BitVec 32 := Scalar.minsi v2878 c63_i32
  let c256_i32_3190 : BitVec 32 := 256#32
  let v8828 : BitVec 32 := Scalar.muli v2879 c256_i32_3190
  let c0_i32_3192 : BitVec 32 := 0#32
  ![v8828.toNat, 0]
def k0_cond5 (k0_t2 : Fin k0_t2_loop.trips) : BitVec 1 :=
  let c2_i32_977 : BitVec 32 := 2#32
  let c0_i32_976 : BitVec 32 := 0#32
  let c0_i32_960 : BitVec 32 := 0#32
  let c1_i32_961 : BitVec 32 := 1#32
  let arg27 : BitVec 32 := Scf.iv c0_i32_960 c1_i32_961 k0_t2
  let c1_i32_975 : BitVec 32 := 1#32
  let v2875 : BitVec 32 := Scalar.muli arg27 c1_i32_975
  let v2876 : BitVec 32 := Scalar.addi c0_i32_976 v2875
  let v2877 : BitVec 32 := Scalar.muli c2_i32_977 v2876
  let c2_i32_986 : BitVec 32 := 2#32
  let v2890 : BitVec 1 := Scalar.cmpi .sge v2877 c2_i32_986
  let v2891 : BitVec 32 := Scalar.extui v2890
  let c0_i32_987 : BitVec 32 := 0#32
  let v2892 : BitVec 1 := Scalar.cmpi .ne v2891 c0_i32_987
  v2892

def k0_off203 (k0_t2 : Fin k0_t2_loop.trips) : Fin 2 → Nat :=
  let c2_i32_977 : BitVec 32 := 2#32
  let c0_i32_976 : BitVec 32 := 0#32
  let c0_i32_960 : BitVec 32 := 0#32
  let c1_i32_961 : BitVec 32 := 1#32
  let arg27 : BitVec 32 := Scf.iv c0_i32_960 c1_i32_961 k0_t2
  let c1_i32_975 : BitVec 32 := 1#32
  let v2875 : BitVec 32 := Scalar.muli arg27 c1_i32_975
  let v2876 : BitVec 32 := Scalar.addi c0_i32_976 v2875
  let v2877 : BitVec 32 := Scalar.muli c2_i32_977 v2876
  let c256_i32_3187 : BitVec 32 := 256#32
  let v8824 : BitVec 32 := Scalar.muli v2877 c256_i32_3187
  let c0_i32_3189 : BitVec 32 := 0#32
  ![v8824.toNat, 0]
def k0_off204 (k0_t2 : Fin k0_t2_loop.trips) : Fin 2 → Nat :=
  let c2_i32_977 : BitVec 32 := 2#32
  let c0_i32_976 : BitVec 32 := 0#32
  let c0_i32_960 : BitVec 32 := 0#32
  let c1_i32_961 : BitVec 32 := 1#32
  let arg27 : BitVec 32 := Scf.iv c0_i32_960 c1_i32_961 k0_t2
  let c1_i32_975 : BitVec 32 := 1#32
  let v2875 : BitVec 32 := Scalar.muli arg27 c1_i32_975
  let v2876 : BitVec 32 := Scalar.addi c0_i32_976 v2875
  let v2877 : BitVec 32 := Scalar.muli c2_i32_977 v2876
  let c256_i32_2070 : BitVec 32 := 256#32
  let v5843 : BitVec 32 := Scalar.muli v2877 c256_i32_2070
  let c0_i32_2072 : BitVec 32 := 0#32
  ![v5843.toNat, 0]
def k0_cond6 (k0_t2 : Fin k0_t2_loop.trips) : BitVec 1 :=
  let c2_i32_977 : BitVec 32 := 2#32
  let c0_i32_976 : BitVec 32 := 0#32
  let c0_i32_960 : BitVec 32 := 0#32
  let c1_i32_961 : BitVec 32 := 1#32
  let arg27 : BitVec 32 := Scf.iv c0_i32_960 c1_i32_961 k0_t2
  let c1_i32_975 : BitVec 32 := 1#32
  let v2875 : BitVec 32 := Scalar.muli arg27 c1_i32_975
  let v2876 : BitVec 32 := Scalar.addi c0_i32_976 v2875
  let v2877 : BitVec 32 := Scalar.muli c2_i32_977 v2876
  let c63_i32_2073 : BitVec 32 := 63#32
  let v5847 : BitVec 1 := Scalar.cmpi .slt v2877 c63_i32_2073
  let v5848 : BitVec 32 := Scalar.extui v5847
  let c0_i32_2074 : BitVec 32 := 0#32
  let v5849 : BitVec 1 := Scalar.cmpi .ne v5848 c0_i32_2074
  v5849

def k0_off205 (k0_t2 : Fin k0_t2_loop.trips) : Fin 2 → Nat :=
  let c2_i32_977 : BitVec 32 := 2#32
  let c0_i32_976 : BitVec 32 := 0#32
  let c0_i32_960 : BitVec 32 := 0#32
  let c1_i32_961 : BitVec 32 := 1#32
  let arg27 : BitVec 32 := Scf.iv c0_i32_960 c1_i32_961 k0_t2
  let c1_i32_975 : BitVec 32 := 1#32
  let v2875 : BitVec 32 := Scalar.muli arg27 c1_i32_975
  let v2876 : BitVec 32 := Scalar.addi c0_i32_976 v2875
  let v2877 : BitVec 32 := Scalar.muli c2_i32_977 v2876
  let c1_i32_978 : BitVec 32 := 1#32
  let v2878 : BitVec 32 := Scalar.addi v2877 c1_i32_978
  let c63_i32 : BitVec 32 := 63#32
  let v2879 : BitVec 32 := Scalar.minsi v2878 c63_i32
  let c256_i32_3187 : BitVec 32 := 256#32
  let v8824 : BitVec 32 := Scalar.muli v2879 c256_i32_3187
  let c0_i32_3189 : BitVec 32 := 0#32
  ![v8824.toNat, 0]
def k0_off206 (k0_t2 : Fin k0_t2_loop.trips) : Fin 2 → Nat :=
  let c2_i32_977 : BitVec 32 := 2#32
  let c0_i32_976 : BitVec 32 := 0#32
  let c0_i32_960 : BitVec 32 := 0#32
  let c1_i32_961 : BitVec 32 := 1#32
  let arg27 : BitVec 32 := Scf.iv c0_i32_960 c1_i32_961 k0_t2
  let c1_i32_975 : BitVec 32 := 1#32
  let v2875 : BitVec 32 := Scalar.muli arg27 c1_i32_975
  let v2876 : BitVec 32 := Scalar.addi c0_i32_976 v2875
  let v2877 : BitVec 32 := Scalar.muli c2_i32_977 v2876
  let c1_i32_978 : BitVec 32 := 1#32
  let v2878 : BitVec 32 := Scalar.addi v2877 c1_i32_978
  let c63_i32 : BitVec 32 := 63#32
  let v2879 : BitVec 32 := Scalar.minsi v2878 c63_i32
  let c256_i32_3190 : BitVec 32 := 256#32
  let v8828 : BitVec 32 := Scalar.muli v2879 c256_i32_3190
  let c0_i32_3192 : BitVec 32 := 0#32
  ![v8828.toNat, 0]
def k0_cond7 (k0_t2 : Fin k0_t2_loop.trips) : BitVec 1 :=
  let c2_i32_2075 : BitVec 32 := 2#32
  let c0_i32_976 : BitVec 32 := 0#32
  let c0_i32_960 : BitVec 32 := 0#32
  let c1_i32_961 : BitVec 32 := 1#32
  let arg27 : BitVec 32 := Scf.iv c0_i32_960 c1_i32_961 k0_t2
  let c1_i32_975 : BitVec 32 := 1#32
  let v2875 : BitVec 32 := Scalar.muli arg27 c1_i32_975
  let v2876 : BitVec 32 := Scalar.addi c0_i32_976 v2875
  let v5850 : BitVec 32 := Scalar.muli c2_i32_2075 v2876
  let c1_i32_2076 : BitVec 32 := 1#32
  let v5851 : BitVec 32 := Scalar.addi v5850 c1_i32_2076
  let c63_i32_2079 : BitVec 32 := 63#32
  let v5854 : BitVec 1 := Scalar.cmpi .slt v5851 c63_i32_2079
  let v5855 : BitVec 32 := Scalar.extui v5854
  let c0_i32_2080 : BitVec 32 := 0#32
  let v5856 : BitVec 1 := Scalar.cmpi .ne v5855 c0_i32_2080
  v5856

def k0_off207 (k0_t2 : Fin k0_t2_loop.trips) : Fin 2 → Nat :=
  let c2_i32_2075 : BitVec 32 := 2#32
  let c0_i32_976 : BitVec 32 := 0#32
  let c0_i32_960 : BitVec 32 := 0#32
  let c1_i32_961 : BitVec 32 := 1#32
  let arg27 : BitVec 32 := Scf.iv c0_i32_960 c1_i32_961 k0_t2
  let c1_i32_975 : BitVec 32 := 1#32
  let v2875 : BitVec 32 := Scalar.muli arg27 c1_i32_975
  let v2876 : BitVec 32 := Scalar.addi c0_i32_976 v2875
  let v5850 : BitVec 32 := Scalar.muli c2_i32_2075 v2876
  let c1_i32_2076 : BitVec 32 := 1#32
  let v5851 : BitVec 32 := Scalar.addi v5850 c1_i32_2076
  let c1_i32_2077 : BitVec 32 := 1#32
  let v5852 : BitVec 32 := Scalar.addi v5851 c1_i32_2077
  let c63_i32_2078 : BitVec 32 := 63#32
  let v5853 : BitVec 32 := Scalar.minsi v5852 c63_i32_2078
  let c256_i32_3187 : BitVec 32 := 256#32
  let v8824 : BitVec 32 := Scalar.muli v5853 c256_i32_3187
  let c0_i32_3189 : BitVec 32 := 0#32
  ![v8824.toNat, 0]
def k0_cond8 (k0_t2 : Fin k0_t2_loop.trips) : BitVec 1 :=
  let c2_i32_2075 : BitVec 32 := 2#32
  let c0_i32_976 : BitVec 32 := 0#32
  let c0_i32_960 : BitVec 32 := 0#32
  let c1_i32_961 : BitVec 32 := 1#32
  let arg27 : BitVec 32 := Scf.iv c0_i32_960 c1_i32_961 k0_t2
  let c1_i32_975 : BitVec 32 := 1#32
  let v2875 : BitVec 32 := Scalar.muli arg27 c1_i32_975
  let v2876 : BitVec 32 := Scalar.addi c0_i32_976 v2875
  let v5850 : BitVec 32 := Scalar.muli c2_i32_2075 v2876
  let c1_i32_2076 : BitVec 32 := 1#32
  let v5851 : BitVec 32 := Scalar.addi v5850 c1_i32_2076
  let c2_i32_2081 : BitVec 32 := 2#32
  let v5857 : BitVec 32 := Scalar.addi v5851 c2_i32_2081
  let c63_i32_2082 : BitVec 32 := 63#32
  let v5858 : BitVec 1 := Scalar.cmpi .sle v5857 c63_i32_2082
  let v5859 : BitVec 32 := Scalar.extui v5858
  let c0_i32_2083 : BitVec 32 := 0#32
  let v5860 : BitVec 1 := Scalar.cmpi .ne v5859 c0_i32_2083
  v5860

def k0_off208 (k0_t2 : Fin k0_t2_loop.trips) : Fin 2 → Nat :=
  let c2_i32_2075 : BitVec 32 := 2#32
  let c0_i32_976 : BitVec 32 := 0#32
  let c0_i32_960 : BitVec 32 := 0#32
  let c1_i32_961 : BitVec 32 := 1#32
  let arg27 : BitVec 32 := Scf.iv c0_i32_960 c1_i32_961 k0_t2
  let c1_i32_975 : BitVec 32 := 1#32
  let v2875 : BitVec 32 := Scalar.muli arg27 c1_i32_975
  let v2876 : BitVec 32 := Scalar.addi c0_i32_976 v2875
  let v5850 : BitVec 32 := Scalar.muli c2_i32_2075 v2876
  let c1_i32_2076 : BitVec 32 := 1#32
  let v5851 : BitVec 32 := Scalar.addi v5850 c1_i32_2076
  let c2_i32_3187 : BitVec 32 := 2#32
  let v8824 : BitVec 32 := Scalar.addi v5851 c2_i32_3187
  let c256_i32_3188 : BitVec 32 := 256#32
  let v8825 : BitVec 32 := Scalar.muli v8824 c256_i32_3188
  let c0_i32_3190 : BitVec 32 := 0#32
  ![v8825.toNat, 0]
def k0_cond9 (k0_t2 : Fin k0_t2_loop.trips) : BitVec 1 :=
  let c2_i32_2075 : BitVec 32 := 2#32
  let c0_i32_976 : BitVec 32 := 0#32
  let c0_i32_960 : BitVec 32 := 0#32
  let c1_i32_961 : BitVec 32 := 1#32
  let arg27 : BitVec 32 := Scf.iv c0_i32_960 c1_i32_961 k0_t2
  let c1_i32_975 : BitVec 32 := 1#32
  let v2875 : BitVec 32 := Scalar.muli arg27 c1_i32_975
  let v2876 : BitVec 32 := Scalar.addi c0_i32_976 v2875
  let v5850 : BitVec 32 := Scalar.muli c2_i32_2075 v2876
  let c1_i32_2076 : BitVec 32 := 1#32
  let v5851 : BitVec 32 := Scalar.addi v5850 c1_i32_2076
  let c1_i32_2084 : BitVec 32 := 1#32
  let v5861 : BitVec 1 := Scalar.cmpi .sge v5851 c1_i32_2084
  let v5862 : BitVec 32 := Scalar.extui v5861
  let c0_i32_2085 : BitVec 32 := 0#32
  let v5863 : BitVec 1 := Scalar.cmpi .ne v5862 c0_i32_2085
  v5863

def k0_off209 (k0_t2 : Fin k0_t2_loop.trips) : Fin 2 → Nat :=
  let c2_i32_2075 : BitVec 32 := 2#32
  let c0_i32_976 : BitVec 32 := 0#32
  let c0_i32_960 : BitVec 32 := 0#32
  let c1_i32_961 : BitVec 32 := 1#32
  let arg27 : BitVec 32 := Scf.iv c0_i32_960 c1_i32_961 k0_t2
  let c1_i32_975 : BitVec 32 := 1#32
  let v2875 : BitVec 32 := Scalar.muli arg27 c1_i32_975
  let v2876 : BitVec 32 := Scalar.addi c0_i32_976 v2875
  let v5850 : BitVec 32 := Scalar.muli c2_i32_2075 v2876
  let c1_i32_2076 : BitVec 32 := 1#32
  let v5851 : BitVec 32 := Scalar.addi v5850 c1_i32_2076
  let c1_i32_2077 : BitVec 32 := 1#32
  let v5852 : BitVec 32 := Scalar.addi v5851 c1_i32_2077
  let c63_i32_2078 : BitVec 32 := 63#32
  let v5853 : BitVec 32 := Scalar.minsi v5852 c63_i32_2078
  let c256_i32_3187 : BitVec 32 := 256#32
  let v8824 : BitVec 32 := Scalar.muli v5853 c256_i32_3187
  let c0_i32_3189 : BitVec 32 := 0#32
  ![v8824.toNat, 0]
def k0_off210 (k0_t2 : Fin k0_t2_loop.trips) : Fin 2 → Nat :=
  let c2_i32_2075 : BitVec 32 := 2#32
  let c0_i32_976 : BitVec 32 := 0#32
  let c0_i32_960 : BitVec 32 := 0#32
  let c1_i32_961 : BitVec 32 := 1#32
  let arg27 : BitVec 32 := Scf.iv c0_i32_960 c1_i32_961 k0_t2
  let c1_i32_975 : BitVec 32 := 1#32
  let v2875 : BitVec 32 := Scalar.muli arg27 c1_i32_975
  let v2876 : BitVec 32 := Scalar.addi c0_i32_976 v2875
  let v5850 : BitVec 32 := Scalar.muli c2_i32_2075 v2876
  let c1_i32_2076 : BitVec 32 := 1#32
  let v5851 : BitVec 32 := Scalar.addi v5850 c1_i32_2076
  let c1_i32_2077 : BitVec 32 := 1#32
  let v5852 : BitVec 32 := Scalar.addi v5851 c1_i32_2077
  let c63_i32_2078 : BitVec 32 := 63#32
  let v5853 : BitVec 32 := Scalar.minsi v5852 c63_i32_2078
  let c256_i32_3190 : BitVec 32 := 256#32
  let v8828 : BitVec 32 := Scalar.muli v5853 c256_i32_3190
  let c0_i32_3192 : BitVec 32 := 0#32
  ![v8828.toNat, 0]
def k0_cond10 (k0_t2 : Fin k0_t2_loop.trips) : BitVec 1 :=
  let c2_i32_2075 : BitVec 32 := 2#32
  let c0_i32_976 : BitVec 32 := 0#32
  let c0_i32_960 : BitVec 32 := 0#32
  let c1_i32_961 : BitVec 32 := 1#32
  let arg27 : BitVec 32 := Scf.iv c0_i32_960 c1_i32_961 k0_t2
  let c1_i32_975 : BitVec 32 := 1#32
  let v2875 : BitVec 32 := Scalar.muli arg27 c1_i32_975
  let v2876 : BitVec 32 := Scalar.addi c0_i32_976 v2875
  let v5850 : BitVec 32 := Scalar.muli c2_i32_2075 v2876
  let c1_i32_2076 : BitVec 32 := 1#32
  let v5851 : BitVec 32 := Scalar.addi v5850 c1_i32_2076
  let c2_i32_2086 : BitVec 32 := 2#32
  let v5864 : BitVec 1 := Scalar.cmpi .sge v5851 c2_i32_2086
  let v5865 : BitVec 32 := Scalar.extui v5864
  let c0_i32_2087 : BitVec 32 := 0#32
  let v5866 : BitVec 1 := Scalar.cmpi .ne v5865 c0_i32_2087
  v5866

def k0_off211 (k0_t2 : Fin k0_t2_loop.trips) : Fin 2 → Nat :=
  let c2_i32_2075 : BitVec 32 := 2#32
  let c0_i32_976 : BitVec 32 := 0#32
  let c0_i32_960 : BitVec 32 := 0#32
  let c1_i32_961 : BitVec 32 := 1#32
  let arg27 : BitVec 32 := Scf.iv c0_i32_960 c1_i32_961 k0_t2
  let c1_i32_975 : BitVec 32 := 1#32
  let v2875 : BitVec 32 := Scalar.muli arg27 c1_i32_975
  let v2876 : BitVec 32 := Scalar.addi c0_i32_976 v2875
  let v5850 : BitVec 32 := Scalar.muli c2_i32_2075 v2876
  let c1_i32_2076 : BitVec 32 := 1#32
  let v5851 : BitVec 32 := Scalar.addi v5850 c1_i32_2076
  let c256_i32_3187 : BitVec 32 := 256#32
  let v8824 : BitVec 32 := Scalar.muli v5851 c256_i32_3187
  let c0_i32_3189 : BitVec 32 := 0#32
  ![v8824.toNat, 0]
def k0_off212 (k0_t2 : Fin k0_t2_loop.trips) : Fin 2 → Nat :=
  let c2_i32_2075 : BitVec 32 := 2#32
  let c0_i32_976 : BitVec 32 := 0#32
  let c0_i32_960 : BitVec 32 := 0#32
  let c1_i32_961 : BitVec 32 := 1#32
  let arg27 : BitVec 32 := Scf.iv c0_i32_960 c1_i32_961 k0_t2
  let c1_i32_975 : BitVec 32 := 1#32
  let v2875 : BitVec 32 := Scalar.muli arg27 c1_i32_975
  let v2876 : BitVec 32 := Scalar.addi c0_i32_976 v2875
  let v5850 : BitVec 32 := Scalar.muli c2_i32_2075 v2876
  let c1_i32_2076 : BitVec 32 := 1#32
  let v5851 : BitVec 32 := Scalar.addi v5850 c1_i32_2076
  let c256_i32_3182 : BitVec 32 := 256#32
  let v8817 : BitVec 32 := Scalar.muli v5851 c256_i32_3182
  let c0_i32_3184 : BitVec 32 := 0#32
  ![v8817.toNat, 0]
def k0_cond11 (k0_t2 : Fin k0_t2_loop.trips) : BitVec 1 :=
  let c2_i32_2075 : BitVec 32 := 2#32
  let c0_i32_976 : BitVec 32 := 0#32
  let c0_i32_960 : BitVec 32 := 0#32
  let c1_i32_961 : BitVec 32 := 1#32
  let arg27 : BitVec 32 := Scf.iv c0_i32_960 c1_i32_961 k0_t2
  let c1_i32_975 : BitVec 32 := 1#32
  let v2875 : BitVec 32 := Scalar.muli arg27 c1_i32_975
  let v2876 : BitVec 32 := Scalar.addi c0_i32_976 v2875
  let v5850 : BitVec 32 := Scalar.muli c2_i32_2075 v2876
  let c1_i32_2076 : BitVec 32 := 1#32
  let v5851 : BitVec 32 := Scalar.addi v5850 c1_i32_2076
  let c63_i32_3185 : BitVec 32 := 63#32
  let v8821 : BitVec 1 := Scalar.cmpi .slt v5851 c63_i32_3185
  let v8822 : BitVec 32 := Scalar.extui v8821
  let c0_i32_3186 : BitVec 32 := 0#32
  let v8823 : BitVec 1 := Scalar.cmpi .ne v8822 c0_i32_3186
  v8823

def k0_off213 (k0_t2 : Fin k0_t2_loop.trips) : Fin 2 → Nat :=
  let c2_i32_2075 : BitVec 32 := 2#32
  let c0_i32_976 : BitVec 32 := 0#32
  let c0_i32_960 : BitVec 32 := 0#32
  let c1_i32_961 : BitVec 32 := 1#32
  let arg27 : BitVec 32 := Scf.iv c0_i32_960 c1_i32_961 k0_t2
  let c1_i32_975 : BitVec 32 := 1#32
  let v2875 : BitVec 32 := Scalar.muli arg27 c1_i32_975
  let v2876 : BitVec 32 := Scalar.addi c0_i32_976 v2875
  let v5850 : BitVec 32 := Scalar.muli c2_i32_2075 v2876
  let c1_i32_2076 : BitVec 32 := 1#32
  let v5851 : BitVec 32 := Scalar.addi v5850 c1_i32_2076
  let c1_i32_2077 : BitVec 32 := 1#32
  let v5852 : BitVec 32 := Scalar.addi v5851 c1_i32_2077
  let c63_i32_2078 : BitVec 32 := 63#32
  let v5853 : BitVec 32 := Scalar.minsi v5852 c63_i32_2078
  let c256_i32_3187 : BitVec 32 := 256#32
  let v8824 : BitVec 32 := Scalar.muli v5853 c256_i32_3187
  let c0_i32_3189 : BitVec 32 := 0#32
  ![v8824.toNat, 0]
def k0_off214 (k0_t2 : Fin k0_t2_loop.trips) : Fin 2 → Nat :=
  let c2_i32_2075 : BitVec 32 := 2#32
  let c0_i32_976 : BitVec 32 := 0#32
  let c0_i32_960 : BitVec 32 := 0#32
  let c1_i32_961 : BitVec 32 := 1#32
  let arg27 : BitVec 32 := Scf.iv c0_i32_960 c1_i32_961 k0_t2
  let c1_i32_975 : BitVec 32 := 1#32
  let v2875 : BitVec 32 := Scalar.muli arg27 c1_i32_975
  let v2876 : BitVec 32 := Scalar.addi c0_i32_976 v2875
  let v5850 : BitVec 32 := Scalar.muli c2_i32_2075 v2876
  let c1_i32_2076 : BitVec 32 := 1#32
  let v5851 : BitVec 32 := Scalar.addi v5850 c1_i32_2076
  let c1_i32_2077 : BitVec 32 := 1#32
  let v5852 : BitVec 32 := Scalar.addi v5851 c1_i32_2077
  let c63_i32_2078 : BitVec 32 := 63#32
  let v5853 : BitVec 32 := Scalar.minsi v5852 c63_i32_2078
  let c256_i32_3190 : BitVec 32 := 256#32
  let v8828 : BitVec 32 := Scalar.muli v5853 c256_i32_3190
  let c0_i32_3192 : BitVec 32 := 0#32
  ![v8828.toNat, 0]
abbrev stage0_0 : Fin 1 → Memref sig .tc .vmem S15x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S15x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2x8192x2048 : Shape := ⟨3, ![2, 8192, 2048]⟩
abbrev S128 : Shape := ⟨1, ![128]⟩
abbrev S1920 : Shape := ⟨1, ![1920]⟩
abbrev S128x8192 : Shape := ⟨2, ![128, 8192]⟩
abbrev S1920x8192 : Shape := ⟨2, ![1920, 8192]⟩
abbrev S15x64 : Shape := ⟨2, ![15, 64]⟩
abbrev S16384x2048 : Shape := ⟨2, ![16384, 2048]⟩
abbrev S128x1 : Shape := ⟨2, ![128, 1]⟩
abbrev S16384x128 : Shape := ⟨2, ![16384, 128]⟩
abbrev S1920x1 : Shape := ⟨2, ![1920, 1]⟩
abbrev S16384x1920 : Shape := ⟨2, ![16384, 1920]⟩
abbrev S16384x15x128 : Shape := ⟨3, ![16384, 15, 128]⟩
abbrev S_ : Shape := ⟨0, ![]⟩
abbrev S16384x15 : Shape := ⟨2, ![16384, 15]⟩
abbrev S254 : Shape := ⟨1, ![254]⟩
abbrev S16384x15x1 : Shape := ⟨3, ![16384, 15, 1]⟩
abbrev S1x1x254 : Shape := ⟨3, ![1, 1, 254]⟩
abbrev S16384x15x254 : Shape := ⟨3, ![16384, 15, 254]⟩
abbrev S15x128x64 : Shape := ⟨3, ![15, 128, 64]⟩
abbrev S1920x64 : Shape := ⟨2, ![1920, 64]⟩
abbrev S1920x64x128 : Shape := ⟨3, ![1920, 64, 128]⟩
abbrev S16384x8192 : Shape := ⟨2, ![16384, 8192]⟩

abbrev nBuf : Space → Nat
  | .hbm => 53
  | .vmem => 8
  | .smem => 0
  | _ => 0

abbrev bufTy : (tb : Table) → Fin (tcTables nBuf tb) → BufTy
  | .hbm, ⟨0, _⟩ => ⟨S2x8192x2048, .bf16⟩
  | .hbm, ⟨1, _⟩ => ⟨S128, .i32⟩
  | .hbm, ⟨2, _⟩ => ⟨S1920, .i32⟩
  | .hbm, ⟨3, _⟩ => ⟨S128x8192, .bf16⟩
  | .hbm, ⟨4, _⟩ => ⟨S1920x8192, .fp8e4m3⟩
  | .hbm, ⟨5, _⟩ => ⟨S15x64, .f32⟩
  | .hbm, ⟨6, _⟩ => ⟨S16384x2048, .bf16⟩
  | .hbm, ⟨7, _⟩ => ⟨S128x1, .i32⟩
  | .hbm, ⟨8, _⟩ => ⟨S16384x128, .bf16⟩
  | .hbm, ⟨9, _⟩ => ⟨S1920x1, .i32⟩
  | .hbm, ⟨10, _⟩ => ⟨S16384x1920, .bf16⟩
  | .hbm, ⟨11, _⟩ => ⟨S16384x1920, .f32⟩
  | .hbm, ⟨12, _⟩ => ⟨S16384x15x128, .f32⟩
  | .hbm, ⟨13, _⟩ => ⟨S16384x15x128, .f32⟩
  | .hbm, ⟨14, _⟩ => ⟨S_, .f32⟩
  | .hbm, ⟨15, _⟩ => ⟨S16384x15, .f32⟩
  | .hbm, ⟨16, _⟩ => ⟨S_, .f32⟩
  | .hbm, ⟨17, _⟩ => ⟨S16384x15, .f32⟩
  | .hbm, ⟨18, _⟩ => ⟨S16384x15, .f32⟩
  | .hbm, ⟨19, _⟩ => ⟨S254, .i32⟩
  | .hbm, ⟨20, _⟩ => ⟨S_, .i32⟩
  | .hbm, ⟨21, _⟩ => ⟨S254, .i32⟩
  | .hbm, ⟨22, _⟩ => ⟨S254, .i32⟩
  | .hbm, ⟨23, _⟩ => ⟨S254, .f32⟩
  | .hbm, ⟨24, _⟩ => ⟨S_, .f32⟩
  | .hbm, ⟨25, _⟩ => ⟨S254, .f32⟩
  | .hbm, ⟨26, _⟩ => ⟨S254, .f32⟩
  | .hbm, ⟨27, _⟩ => ⟨S16384x15x1, .f32⟩
  | .hbm, ⟨28, _⟩ => ⟨S1x1x254, .f32⟩
  | .hbm, ⟨29, _⟩ => ⟨S16384x15x254, .f32⟩
  | .hbm, ⟨30, _⟩ => ⟨S16384x15x254, .f32⟩
  | .hbm, ⟨31, _⟩ => ⟨S16384x15x254, .i1⟩
  | .hbm, ⟨32, _⟩ => ⟨S_, .f32⟩
  | .hbm, ⟨33, _⟩ => ⟨S_, .f32⟩
  | .hbm, ⟨34, _⟩ => ⟨S16384x15x254, .f32⟩
  | .hbm, ⟨35, _⟩ => ⟨S16384x15x254, .f32⟩
  | .hbm, ⟨36, _⟩ => ⟨S16384x15x254, .f32⟩
  | .hbm, ⟨37, _⟩ => ⟨S_, .f32⟩
  | .hbm, ⟨38, _⟩ => ⟨S16384x15, .f32⟩
  | .hbm, ⟨39, _⟩ => ⟨S_, .f32⟩
  | .hbm, ⟨40, _⟩ => ⟨S16384x15, .f32⟩
  | .hbm, ⟨41, _⟩ => ⟨S16384x15, .i1⟩
  | .hbm, ⟨42, _⟩ => ⟨S_, .f32⟩
  | .hbm, ⟨43, _⟩ => ⟨S16384x15, .f32⟩
  | .hbm, ⟨44, _⟩ => ⟨S16384x15, .f32⟩
  | .hbm, ⟨45, _⟩ => ⟨S16384x15x128, .f32⟩
  | .hbm, ⟨46, _⟩ => ⟨S16384x1920, .f32⟩
  | .hbm, ⟨47, _⟩ => ⟨S15x128x64, .f32⟩
  | .hbm, ⟨48, _⟩ => ⟨S1920x64, .f32⟩
  | .hbm, ⟨49, _⟩ => ⟨S1920x64x128, .f32⟩
  | .hbm, ⟨50, _⟩ => ⟨S1920x8192, .f32⟩
  | .hbm, ⟨51, _⟩ => ⟨S16384x8192, .bf16⟩
  | .hbm, ⟨52, _⟩ => ⟨S16384x1920, .fp8e4m3⟩
  | .local _ .vmem, ⟨0, _⟩ => ⟨S16384x128, .bf16⟩
  | .local _ .vmem, ⟨1, _⟩ => ⟨S16384x1920, .f32⟩
  | .local _ .vmem, ⟨2, _⟩ => ⟨S16384x1920, .f32⟩
  | .local _ .vmem, ⟨3, _⟩ => ⟨S128x8192, .bf16⟩
  | .local _ .vmem, ⟨4, _⟩ => ⟨S1920x8192, .fp8e4m3⟩
  | .local _ .vmem, ⟨5, _⟩ => ⟨S1920x8192, .f32⟩
  | .local _ .vmem, ⟨6, _⟩ => ⟨S16384x8192, .bf16⟩
  | .local _ .vmem, ⟨7, _⟩ => ⟨S16384x1920, .fp8e4m3⟩
  | _, _ => ⟨S2x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_v1 : Ref sig .tc := ⟨.hbm, 8, rfl⟩
abbrev main_call1_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_v23 : Ref sig .tc := ⟨.hbm, 41, rfl⟩
abbrev main_cst_5 : Ref sig .tc := ⟨.hbm, 42, rfl⟩
abbrev main_call3_v0 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31_0 : Ref sig .tc := ⟨.hbm, 51, rfl⟩
abbrev main_v31_1 : Ref sig .tc := ⟨.hbm, 52, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S16384x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x1920 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x1920 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1920x8192 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1920x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16384x8192 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16384x1920 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Struct.lean ====
module

public import proofs.«01_k».proof.Proof.Gen.KernelIdeal
public import Idealize.ShloMosaic.Lib.Tactic

/-! The kernel's arithmetic named, and its program written in its own order: blocks of columns, tiles, trips. -/

@[expose] public section

set_option maxRecDepth 10000

noncomputable section

namespace Cert.KernelIdeal.Own

open Idealize.ShloMosaic Idealize.SL.Sem
open Cert.KernelIdeal

/-- Block `b` of the dequantised tile lies in its array. -/
theorem inb_xd (b : Fin 16) : ∀ a, (![0, 128 * b.val] : Fin 2 → Nat) a + S256x128.size a ≤ S256x2048.size a := by
  revert b; decide
/-- Block `b` of the dequantised tile is a rectangle of packed rows. -/
theorem pk_xd (b : Fin 16) : (Rect.unit (s := S256x2048) ![0, 128 * b.val] S256x128.size (inb_xd b)).PackedRows (EltTy.packing .bf16) := by
  revert b; decide
/-- Block `b` of the codes lies in its array. -/
theorem inb_c (b : Fin 15) : ∀ a, (![0, 128 * b.val] : Fin 2 → Nat) a + S256x128.size a ≤ S256x1920.size a := by
  revert b; decide
/-- Block `b` of the codes is a rectangle of packed rows. -/
theorem pk_c (b : Fin 15) : (Rect.unit (s := S256x1920) ![0, 128 * b.val] S256x128.size (inb_c b)).PackedRows (EltTy.packing .fp8e4m3) := by
  revert b; decide
/-- Column `b` of the scales lies in its array. -/
theorem inb_s (b : Fin 15) : ∀ a, (![0, b.val] : Fin 2 → Nat) a + S256x1.size a ≤ S256x15.size a := by
  revert b; decide
/-- Row `b` of the inlier indices lies in its array. -/
theorem inb_i (b : Fin 15) : ∀ a, (![b.val, 0] : Fin 2 → Nat) a + S1x128.size a ≤ S15x128.size a := by
  revert b; decide
/-- Chunk `n` of the product lies in its array. -/
theorem inb_y (n : Fin 16) : ∀ a, (![0, 512 * n.val] : Fin 2 → Nat) a + S256x512.size a ≤ S256x8192.size a := by
  revert n; decide
/-- Chunk `n` of the product is a rectangle of packed rows. -/
theorem pk_y (n : Fin 16) : (Rect.unit (s := S256x8192) ![0, 512 * n.val] S256x512.size (inb_y n)).PackedRows (EltTy.packing .bf16) := by
  revert n; decide
/-- Chunk `n` of the weights lies in its array. -/
theorem inb_w (n : Fin 16) : ∀ a, (![0, 512 * n.val] : Fin 2 → Nat) a + S2048x512.size a ≤ S2048x8192.size a := by
  revert n; decide
/-- Weight scale `(k, j)` lies in its array. -/
theorem inb_ws (k : Fin 15) (j : Fin 64) : ∀ a, (![k.val, j.val] : Fin 2 → Nat) a + S1x1.size a ≤ S15x64.size a := by
  revert k j; decide
/-- Block `j` of weight slot `p` lies in its array. -/
theorem inb_st (p : Fin 2) (j : Fin 64) : ∀ a, (![p.val, 0, 128 * j.val] : Fin 3 → Nat) a + S1x128x128.size a ≤ S2x128x8192.size a := by
  revert p j; decide
/-- Block `(k, j)` of the weights lies in its array. -/
theorem inb_wr (k : Fin 15) (j : Fin 64) : ∀ a, (![128 * k.val, 128 * j.val] : Fin 2 → Nat) a + S128x128.size a ≤ S2048x8192.size a := by
  revert k j; decide
/-- Block `(k, j)` of the weights is a rectangle of packed rows. -/
theorem pk_wr (k : Fin 15) (j : Fin 64) : (Rect.unit (s := S2048x8192) ![128 * k.val, 128 * j.val] S128x128.size (inb_wr k j)).PackedRows (EltTy.packing .bf16) := by
  revert k j; decide +kernel
/-- Weight slot `p` lies in its array. -/
theorem inb_slot (p : Fin 2) : ∀ a, (![p.val, 0, 0] : Fin 3 → Nat) a + S1x128x8192.size a ≤ S2x128x8192.size a := by
  revert p; decide
/-- Weight slot `p` is a rectangle of whole words. -/
theorem wd_slot (p : Fin 2) : (Rect.unit (s := S2x128x8192) ![p.val, 0, 0] S1x128x8192.size (inb_slot p)).WholeWords (EltTy.packing .fp8e4m3) := by
  revert p; decide
/-- Row block `k` of the weight codes lies in its array. -/
theorem inb_wc (k : Fin 15) : ∀ a, (![128 * k.val, 0] : Fin 2 → Nat) a + S128x8192.size a ≤ S1920x8192.size a := by
  revert k; decide
/-- Row block `k` of the weight codes is a rectangle of whole words. -/
theorem wd_wc (k : Fin 15) : (Rect.unit (s := S1920x8192) ![128 * k.val, 0] S128x8192.size (inb_wc k)).WholeWords (EltTy.packing .fp8e4m3) := by
  revert k; decide
/-- Tile `t` of the inputs lies in its array. -/
theorem inb_tx (t : Fin 64) : ∀ a, (![256 * t.val, 0] : Fin 2 → Nat) a + S256x2048.size a ≤ S16384x2048.size a := by
  revert t; decide
/-- Tile `t` of the inputs is a rectangle of whole words. -/
theorem wd_tx (t : Fin 64) : (Rect.unit (s := S16384x2048) ![256 * t.val, 0] S256x2048.size (inb_tx t)).WholeWords (EltTy.packing .bf16) := by
  revert t; decide
/-- Tile `t` of the product lies in its array. -/
theorem inb_ty (t : Fin 64) : ∀ a, (![256 * t.val, 0] : Fin 2 → Nat) a + S256x8192.size a ≤ S16384x8192.size a := by
  revert t; decide
/-- Tile `t` of the product is a rectangle of whole words. -/
theorem wd_ty (t : Fin 64) : (Rect.unit (s := S16384x8192) ![256 * t.val, 0] S256x8192.size (inb_ty t)).WholeWords (EltTy.packing .bf16) := by
  revert t; decide
/-- Tile `t` of the codes lies in its array. -/
theorem inb_tc (t : Fin 64) : ∀ a, (![256 * t.val, 0] : Fin 2 → Nat) a + S256x1920.size a ≤ S16384x1920.size a := by
  revert t; decide
/-- Tile `t` of the codes is a rectangle of whole words. -/
theorem wd_tc (t : Fin 64) : (Rect.unit (s := S16384x1920) ![256 * t.val, 0] S256x1920.size (inb_tc t)).WholeWords (EltTy.packing .fp8e4m3) := by
  revert t; decide
/-- Tile `t` of the scales lies in its array. -/
theorem inb_ts (t : Fin 64) : ∀ a, (![256 * t.val, 0] : Fin 2 → Nat) a + S256x15.size a ≤ S16384x15.size a := by
  revert t; decide

variable {F : FTy → Type} [FloatOps F] [Facts]
open Facts₀ Facts

/-! ## The arithmetic -/

/-- The outlier columns' accumulator after block `bv`: where an outlier index falls in the block, the block's element at the index's offset. -/
def outSel (bv : BitVec 32) (xb : Vec F S256x128 .bf16) (ov : Vec F S1x128 .i32) (xo : FVec F S256x128 .f32) : FVec F S256x128 .f32 :=
  have v3477 : FVec F S256x128 .f32 := extf .f32 xb bitsLt_bf16_f32
  have v3479 : IVec S1x128 32 := shapeCast S1x128 ov shapeCasts_S1x128_S1x128
  have v3480 : IVec S1x128 32 := broadcast S1x128 128#32
  have v3481 : IVec S1x128 32 := divsi v3479 v3480
  have v3482 : IVec S1x128 32 := broadcast S1x128 0#32
  have v3483 : IVec S1x128 1 := cmpi .sgt v3479 v3482
  have v3484 : IVec S1x128 32 := extui 32 v3483 natLt_1_32
  have v3485 : IVec S1x128 32 := broadcast S1x128 0#32
  have v3486 : IVec S1x128 1 := cmpi .slt v3479 v3485
  have v3487 : IVec S1x128 32 := extui 32 v3486 natLt_1_32
  have v3488 : IVec S1x128 32 := subi v3484 v3487
  let v3489 : BitVec 1 := Scalar.cmpi .sgt 128#32 0#32
  let v3490 : BitVec 32 := Scalar.extui v3489
  let v3491 : BitVec 1 := Scalar.cmpi .slt 128#32 0#32
  let v3492 : BitVec 32 := Scalar.extui v3491
  let v3493 : BitVec 32 := Scalar.subi v3490 v3492
  have v3494 : IVec S1x128 32 := broadcast S1x128 v3493
  have v3495 : IVec S1x128 1 := cmpi .ne v3488 v3494
  have v3496 : IVec S1x128 32 := broadcast S1x128 128#32
  have v3497 : IVec S1x128 32 := remsi v3479 v3496
  have v3498 : IVec S1x128 32 := broadcast S1x128 0#32
  have v3499 : IVec S1x128 1 := cmpi .ne v3497 v3498
  have v3500 : IVec S1x128 1 := andi v3495 v3499
  have v3501 : IVec S1x128 32 := broadcast S1x128 1#32
  have v3502 : IVec S1x128 32 := subi v3481 v3501
  have v3503 : IVec S1x128 32 := select v3500 v3502 v3481
  have v3504 : IVec S1x128 32 := broadcast S1x128 bv
  have v3505 : IVec S1x128 1 := cmpi .eq v3503 v3504
  have v3506 : IVec S1x128 1 := shapeCast S1x128 v3505 shapeCasts_S1x128_S1x128
  have v3507 : IVec S256x128 1 := broadcastTo S256x128 v3506 broadcasts_S1x128_S256x128
  let v3508 : BitVec 1 := Scalar.cmpi .eq 128#32 0#32
  let v3509 : BitVec 32 := Scalar.select v3508 1#32 128#32
  have v3510 : IVec S1x128 32 := broadcast S1x128 v3509
  have v3511 : IVec S1x128 32 := remsi v3479 v3510
  have v3512 : IVec S1x128 32 := broadcast S1x128 0#32
  have v3513 : IVec S1x128 1 := cmpi .ne v3511 v3512
  have v3514 : IVec S1x128 32 := broadcast S1x128 0#32
  have v3515 : IVec S1x128 1 := cmpi .slt v3511 v3514
  let v3516 : BitVec 1 := Scalar.cmpi .slt v3509 0#32
  have v3517 : IVec S1x128 1 := broadcast S1x128 v3516
  have v3518 : IVec S1x128 1 := broadcastTo S1x128 v3517 broadcasts_S1x128_S1x128
  have v3519 : IVec S1x128 1 := xori v3515 v3518
  have v3520 : IVec S1x128 1 := andi v3519 v3513
  have v3521 : IVec S1x128 32 := broadcast S1x128 v3509
  have v3522 : IVec S1x128 32 := addi v3511 v3521
  have v3523 : IVec S1x128 32 := select v3520 v3522 v3511
  have v3524 : IVec S1x128 32 := shapeCast S1x128 v3523 shapeCasts_S1x128_S1x128
  have v3525 : IVec S256x128 32 := broadcastTo S256x128 v3524 broadcasts_S1x128_S256x128
  have v3526 : IVec S256x128 32 := broadcast S256x128 0#32
  have v3527 : IVec S256x128 1 := cmpi .slt v3525 v3526
  have v3528 : IVec S256x128 32 := broadcast S256x128 128#32
  have v3529 : IVec S256x128 32 := addi v3525 v3528
  have v3530 : IVec S256x128 32 := select v3527 v3529 v3525
  have v3531 : IVec S256x128x1 32 := shapeCast S256x128x1 v3530 shapeCasts_S256x128_S256x128x1
  have v3532 : IVec S256x128 32 := shapeCast S256x128 v3531 shapeCasts_S256x128x1_S256x128
  have v3533 : FVec F S256x128 .f32 := dynamicGather 1 v3477 v3532
  have v3534 : FVec F S256x128 .f32 := select v3507 v3533 xo
  v3534

/-- The inlier columns gathered for block `bv`: each from the block itself or from the next. -/
def gath (bv : BitVec 32) (xb xb2 : Vec F S256x128 .bf16) (iv : Vec F S1x128 .i32) : FVec F S256x128 .bf16 :=
  have v3477 : FVec F S256x128 .f32 := extf .f32 xb bitsLt_bf16_f32
  have v3536 : IVec S1x128 32 := shapeCast S1x128 iv shapeCasts_S1x128_S1x128
  let v3537 : BitVec 1 := Scalar.cmpi .eq 128#32 0#32
  let v3538 : BitVec 32 := Scalar.select v3537 1#32 128#32
  have v3539 : IVec S1x128 32 := broadcast S1x128 v3538
  have v3540 : IVec S1x128 32 := remsi v3536 v3539
  have v3541 : IVec S1x128 32 := broadcast S1x128 0#32
  have v3542 : IVec S1x128 1 := cmpi .ne v3540 v3541
  have v3543 : IVec S1x128 32 := broadcast S1x128 0#32
  have v3544 : IVec S1x128 1 := cmpi .slt v3540 v3543
  let v3545 : BitVec 1 := Scalar.cmpi .slt v3538 0#32
  have v3546 : IVec S1x128 1 := broadcast S1x128 v3545
  have v3547 : IVec S1x128 1 := broadcastTo S1x128 v3546 broadcasts_S1x128_S1x128
  have v3548 : IVec S1x128 1 := xori v3544 v3547
  have v3549 : IVec S1x128 1 := andi v3548 v3542
  have v3550 : IVec S1x128 32 := broadcast S1x128 v3538
  have v3551 : IVec S1x128 32 := addi v3540 v3550
  have v3552 : IVec S1x128 32 := select v3549 v3551 v3540
  have v3553 : IVec S1x128 32 := shapeCast S1x128 v3552 shapeCasts_S1x128_S1x128
  have v3554 : IVec S256x128 32 := broadcastTo S256x128 v3553 broadcasts_S1x128_S256x128
  have v3555 : IVec S1x128 32 := broadcast S1x128 128#32
  have v3556 : IVec S1x128 32 := divsi v3536 v3555
  have v3557 : IVec S1x128 32 := broadcast S1x128 0#32
  have v3558 : IVec S1x128 1 := cmpi .sgt v3536 v3557
  have v3559 : IVec S1x128 32 := extui 32 v3558 natLt_1_32
  have v3560 : IVec S1x128 32 := broadcast S1x128 0#32
  have v3561 : IVec S1x128 1 := cmpi .slt v3536 v3560
  have v3562 : IVec S1x128 32 := extui 32 v3561 natLt_1_32
  have v3563 : IVec S1x128 32 := subi v3559 v3562
  let v3564 : BitVec 1 := Scalar.cmpi .sgt 128#32 0#32
  let v3565 : BitVec 32 := Scalar.extui v3564
  let v3566 : BitVec 1 := Scalar.cmpi .slt 128#32 0#32
  let v3567 : BitVec 32 := Scalar.extui v3566
  let v3568 : BitVec 32 := Scalar.subi v3565 v3567
  have v3569 : IVec S1x128 32 := broadcast S1x128 v3568
  have v3570 : IVec S1x128 1 := cmpi .ne v3563 v3569
  have v3571 : IVec S1x128 32 := broadcast S1x128 128#32
  have v3572 : IVec S1x128 32 := remsi v3536 v3571
  have v3573 : IVec S1x128 32 := broadcast S1x128 0#32
  have v3574 : IVec S1x128 1 := cmpi .ne v3572 v3573
  have v3575 : IVec S1x128 1 := andi v3570 v3574
  have v3576 : IVec S1x128 32 := broadcast S1x128 1#32
  have v3577 : IVec S1x128 32 := subi v3556 v3576
  have v3578 : IVec S1x128 32 := select v3575 v3577 v3556
  have v3579 : IVec S1x128 32 := broadcast S1x128 bv
  have v3580 : IVec S1x128 1 := cmpi .eq v3578 v3579
  have v3581 : IVec S1x128 1 := shapeCast S1x128 v3580 shapeCasts_S1x128_S1x128
  have v3582 : IVec S256x128 1 := broadcastTo S256x128 v3581 broadcasts_S1x128_S256x128
  have v3583 : IVec S256x128 32 := broadcast S256x128 0#32
  have v3584 : IVec S256x128 1 := cmpi .slt v3554 v3583
  have v3585 : IVec S256x128 32 := broadcast S256x128 128#32
  have v3586 : IVec S256x128 32 := addi v3554 v3585
  have v3587 : IVec S256x128 32 := select v3584 v3586 v3554
  have v3588 : IVec S256x128x1 32 := shapeCast S256x128x1 v3587 shapeCasts_S256x128_S256x128x1
  have v3589 : IVec S256x128 32 := shapeCast S256x128 v3588 shapeCasts_S256x128x1_S256x128
  have v3590 : FVec F S256x128 .f32 := dynamicGather 1 v3477 v3589
  have v3592 : FVec F S256x128 .f32 := extf .f32 xb2 bitsLt_bf16_f32
  have v3593 : IVec S256x128 32 := broadcast S256x128 0#32
  have v3594 : IVec S256x128 1 := cmpi .slt v3554 v3593
  have v3595 : IVec S256x128 32 := broadcast S256x128 128#32
  have v3596 : IVec S256x128 32 := addi v3554 v3595
  have v3597 : IVec S256x128 32 := select v3594 v3596 v3554
  have v3598 : IVec S256x128x1 32 := shapeCast S256x128x1 v3597 shapeCasts_S256x128_S256x128x1
  have v3599 : IVec S256x128 32 := shapeCast S256x128 v3598 shapeCasts_S256x128x1_S256x128
  have v3600 : FVec F S256x128 .f32 := dynamicGather 1 v3592 v3599
  have v3601 : FVec F S256x128 .f32 := select v3582 v3590 v3600
  have v3602 : FVec F S256x128 .bf16 := truncf .bf16 v3601 bitsLt_bf16_f32
  v3602

/-- The exponent of a gathered block's row scales. -/
def expV (g : FVec F S256x128 .bf16) : IVec S256x1 32 :=
  have v3603 : FVec F S256x128 .bf16 := absf g
  have cst_1250 : FVec F S256 .bf16 := constant S256 .bf16 0xFF80#16
  have v3604 : FVec F S256 .bf16 := multiReduction .maximumf [1] S256 v3603 0xFF80#16 reduces_S256x128_S256 (.inr rfl) rfl
  have v3605 : FVec F S256x1 .bf16 := shapeCast S256x1 v3604 shapeCasts_S256_S256x1
  have v3606 : FVec F S256x1 .f32 := extf .f32 v3605 bitsLt_bf16_f32
  have cst_1251 : F .f32 := Scalar.ofBits .f32 0x3B124925#32
  have v3607 : FVec F S256x1 .f32 := broadcast S256x1 cst_1251
  have v3608 : FVec F S256x1 .f32 := mulf v3606 v3607
  have v3609 : IVec S256x256 32 := iota .tc S256x256 32 [1] iota_S256x256_d1_w32
  have v3610 : IVec S256x256 32 := broadcast S256x256 23#32
  have v3611 : IVec S256x256 32 := shli v3609 v3610
  have v3612 : FVec F S256x256 .f32 := bitcastToFloat .f32 v3611
  have v3613 : FVec F S256x256 .f32 := broadcastTo S256x256 v3608 broadcasts_S256x1_S256x256
  have v3614 : IVec S256x256 1 := cmpf .oge v3613 v3612
  have v3615 : IVec S256x256 32 := broadcast S256x256 1#32
  have v3616 : IVec S256x256 32 := broadcast S256x256 0#32
  have v3617 : IVec S256x256 32 := select v3614 v3615 v3616
  have cst_1255 : IVec S256 32 := constantI S256 32 0#32
  have v3618 : IVec S256 32 := multiReductionI .add [1] S256 v3617 0#32 reduces_S256x256_S256 rfl
  have v3619 : IVec S256x1 32 := shapeCast S256x1 v3618 shapeCasts_S256_S256x1
  have v3620 : IVec S256x1 32 := broadcast S256x1 127#32
  have v3621 : IVec S256x1 32 := subi v3619 v3620
  have cst_1257 : F .f32 := Scalar.ofBits .f32 0x00000000#32
  have v3622 : FVec F S256x1 .f32 := broadcast S256x1 cst_1257
  have v3623 : IVec S256x1 1 := cmpf .oeq v3608 v3622
  have v3624 : IVec S256x1 32 := broadcast S256x1 0#32
  have v3625 : IVec S256x1 32 := select v3623 v3624 v3621
  v3625

/-- A gathered block's row scales. -/
def scaleV (g : FVec F S256x128 .bf16) : FVec F S256x1 .f32 :=
  have ev : IVec S256x1 32 := expV g
  have v3626 : IVec S256x1 32 := broadcast S256x1 127#32
  have v3627 : IVec S256x1 32 := addi ev v3626
  have v3628 : IVec S256x1 32 := broadcast S256x1 23#32
  have v3629 : IVec S256x1 32 := shli v3627 v3628
  have v3630 : FVec F S256x1 .f32 := bitcastToFloat .f32 v3629
  v3630

/-- A gathered block's codes. -/
def codesV (g : FVec F S256x128 .bf16) : FVec F S256x128 .fp8e4m3 :=
  have ev : IVec S256x1 32 := expV g
  have v3631 : IVec S256x1 32 := broadcast S256x1 0#32
  have v3632 : IVec S256x1 32 := subi v3631 ev
  have v3633 : IVec S256x1 32 := broadcast S256x1 127#32
  have v3634 : IVec S256x1 32 := addi v3632 v3633
  have v3635 : IVec S256x1 32 := broadcast S256x1 23#32
  have v3636 : IVec S256x1 32 := shli v3634 v3635
  have v3637 : FVec F S256x1 .f32 := bitcastToFloat .f32 v3636
  have v3638 : FVec F S256x1 .bf16 := truncf .bf16 v3637 bitsLt_bf16_f32
  have v3639 : FVec F S256x128 .bf16 := broadcastTo S256x128 v3638 broadcasts_S256x1_S256x128
  have v3640 : FVec F S256x128 .bf16 := mulf g v3639
  have cst_1264 : F .f32 := Scalar.ofBits .f32 0xC3E00000#32
  have cst_1265 : F .f32 := Scalar.ofBits .f32 0x43E00000#32
  have v3641 : F .bf16 := Scalar.truncf .bf16 bitsLt_bf16_f32 cst_1264
  have v3642 : FVec F S256x128 .bf16 := broadcast S256x128 v3641
  have v3643 : FVec F S256x128 .bf16 := maximumf v3642 v3640
  have v3644 : F .bf16 := Scalar.truncf .bf16 bitsLt_bf16_f32 cst_1265
  have v3645 : FVec F S256x128 .bf16 := broadcast S256x128 v3644
  have v3646 : FVec F S256x128 .bf16 := minimumf v3645 v3643
  have v3647 : FVec F S256x128 .fp8e4m3 := truncf .fp8e4m3 v3646 bitsLt_fp8e4m3_bf16
  v3647

/-- A gathered block dequantised. -/
def xdV (g : FVec F S256x128 .bf16) : FVec F S256x128 .bf16 :=
  have v3654 : FVec F S256x128 .bf16 := extf .bf16 (codesV g) bitsLt_fp8e4m3_bf16
  have v3655 : FVec F S256x1 .bf16 := truncf .bf16 (scaleV g) bitsLt_bf16_f32
  have v3656 : FVec F S256x128 .bf16 := broadcastTo S256x128 v3655 broadcasts_S256x1_S256x128
  have v3657 : FVec F S256x128 .bf16 := mulf v3654 v3656
  v3657

/-- One block of columns of the product, rounded. -/
def yV (xd : Vec F S256x2048 .bf16) (w : Vec F S2048x512 .bf16) : FVec F S256x512 .bf16 :=
  have cst_1205 : FVec F S256x512 .f32 := constant S256x512 .f32 0x00000000#32
  have v3471 : FVec F S256x512 .f32 := matmul dot_S256x2048_S2048x512_S256x512_1_0_0_1_n_n none xd w cst_1205
  have v3472 : FVec F S256x512 .bf16 := truncf .bf16 v3471 bitsLt_bf16_f32
  v3472
/-! ## The program in its own order -/

/-- One block of a weight tile dequantised. -/
def wV (st : Vec F S1x128x128 .fp8e4m3) (s : F .f32) : FVec F S128x128 .bf16 :=
  mulf (extf .bf16 (shapeCast S128x128 st shapeCasts_S1x128x128_S128x128) bitsLt_fp8e4m3_bf16)
    (broadcast S128x128 (Scalar.truncf .bf16 bitsLt_bf16_f32 s))

/-- The kernel's programs. -/
abbrev Pg (F : FTy → Type) [FloatOps F] (α : Type) := Prog (TpuEff nD τ sig (Elt F) Λ₀ .tc) α

/-- The buffers and semaphores of one of the two slots. -/
structure Slot where
  x : Memref sig .tc .vmem S256x2048 .bf16
  hx : x.IsWhole
  xd : Memref sig .tc .vmem S256x2048 .bf16
  hxd : xd.IsWhole
  c : Memref sig .tc .vmem S256x1920 .fp8e4m3
  hc : c.IsWhole
  s : Memref sig .tc .vmem S256x15 .f32
  hs : s.IsWhole
  y : Memref sig .tc .vmem S256x8192 .bf16
  hy : y.IsWhole
  xsem : DmaSem sig
  csem : DmaSem sig
  ssem : DmaSem sig
  ysem : DmaSem sig
  wsem : DmaSem sig

/-- The buffers the two slots share. -/
structure Glob where
  idx : Memref sig .tc .vmem S15x128 .i32
  oidx : Memref sig .tc .vmem S1x128 .i32
  ws : Memref sig .tc .smem S15x64 .f32
  x : Memref sig .tc .hbm S16384x2048 .bf16
  hx : x.IsWhole
  wo : Memref sig .tc .hbm S128x8192 .bf16
  hwo : wo.IsWhole
  wc : Memref sig .tc .hbm S1920x8192 .fp8e4m3
  hwc : wc.IsWhole
  y : Memref sig .tc .hbm S16384x8192 .bf16
  hy : y.IsWhole
  c : Memref sig .tc .hbm S16384x1920 .fp8e4m3
  hc : c.IsWhole
  s : Memref sig .tc .hbm S16384x15 .f32
  hs : s.IsWhole
  w : Memref sig .tc .vmem S2048x8192 .bf16
  hw : w.IsWhole
  st : Memref sig .tc .vmem S2x128x8192 .fp8e4m3
  hst : st.IsWhole
  wosem : DmaSem sig

variable (G : Glob) (A B : Slot)

/-- Rows `256 t …` of the inputs. -/
abbrev Glob.tx (t : Fin 64) : Memref sig .tc .hbm S256x2048 .bf16 :=
  G.x.slice (Rect.unit (s := S16384x2048) ![256 * t.val, 0] S256x2048.size (inb_tx t)) (fun _ => rfl)
/-- Rows `256 t …` of the product. -/
abbrev Glob.ty (t : Fin 64) : Memref sig .tc .hbm S256x8192 .bf16 :=
  G.y.slice (Rect.unit (s := S16384x8192) ![256 * t.val, 0] S256x8192.size (inb_ty t)) (fun _ => rfl)
/-- Rows `256 t …` of the codes. -/
abbrev Glob.tc (t : Fin 64) : Memref sig .tc .hbm S256x1920 .fp8e4m3 :=
  G.c.slice (Rect.unit (s := S16384x1920) ![256 * t.val, 0] S256x1920.size (inb_tc t)) (fun _ => rfl)
/-- Rows `256 t …` of the scales. -/
abbrev Glob.ts (t : Fin 64) : Memref sig .tc .hbm S256x15 .f32 :=
  G.s.slice (Rect.unit (s := S16384x15) ![256 * t.val, 0] S256x15.size (inb_ts t)) (fun _ => rfl)
/-- Rows `128 k …` of the weight codes. -/
abbrev Glob.twc (k : Fin 15) : Memref sig .tc .hbm S128x8192 .fp8e4m3 :=
  G.wc.slice (Rect.unit (s := S1920x8192) ![128 * k.val, 0] S128x8192.size (inb_wc k)) (fun _ => rfl)
/-- Slot `p` of the staged weight codes. -/
abbrev Glob.tst (p : Fin 2) : Memref sig .tc .vmem S128x8192 .fp8e4m3 :=
  (G.st.slice (Rect.unit (s := S2x128x8192) ![p.val, 0, 0] S1x128x8192.size (inb_slot p)) (fun _ => rfl)).squeeze S128x8192 squeezes_S1x128x8192_S128x8192
/-- The outlier rows of the dequantised weights. -/
abbrev Glob.two : Memref sig .tc .vmem S128x8192 .bf16 :=
  G.w.slice (Rect.unit (s := S2048x8192) ![1920, 0] S128x8192.size inb_S2048x8192_S128x8192_1920_0) (fun _ => rfl)

/-- The column block `n` of a tile's product. -/
def dotC (n : Fin 16) : Pg F PUnit := do
  let v : Vec F S256x2048 .bf16 ← Prog.lift (.load A.xd (Rect.unit (s := S256x2048) ![0, 0] S256x2048.size inb_S256x2048_S256x2048_0_0).toLoadRect (View.loadsAt_vmem h_S256x2048))
  let w : Vec F S2048x512 .bf16 ← Prog.lift (.load G.w (Rect.unit (s := S2048x8192) ![0, 512 * n.val] S2048x512.size (inb_w n)).toLoadRect (View.loadsAt_vmem h_S2048x512))
  let _o : Vec F S256x512 .bf16 ← Prog.lift (.load A.y (Rect.unit (s := S256x8192) ![0, 512 * n.val] S256x512.size (inb_y n)).toLoadRect (View.loadsAt_vmem h_S256x512))
  Prog.lift (.store A.y (Rect.unit (s := S256x8192) ![0, 512 * n.val] S256x512.size (inb_y n)) (shapeCast S256x512 (yV v w) shapeCasts_S256x512_S256x512) Finset.univ (View.stores_vmem h_S256x512 (A.hy.storeExact_slice rfl _ (pk_y n)) (fun _ => rfl)) (.inl rfl))

/-- Block `b` of a tile gathered, scaled, stored as codes and dequantised. -/
def blkC (b : Fin 15) (xo : FVec F S256x128 .f32) : Pg F (FVec F S256x128 .f32) := do
  let xb : Vec F S256x128 .bf16 ← Prog.lift (.load B.x (Rect.unit (s := S256x2048) ![0, 128 * b.val] S256x128.size (inb_xd b.castSucc)).toLoadRect (View.loadsAt_vmem h_S256x128))
  let ov : Vec F S1x128 .i32 ← Prog.lift (.load G.oidx (Rect.unit (s := S1x128) ![0, 0] S1x128.size inb_S1x128_S1x128_0_0).toLoadRect (View.loadsAt_vmem h_S1x128))
  let iv : Vec F S1x128 .i32 ← Prog.lift (.load G.idx (Rect.unit (s := S15x128) ![b.val, 0] S1x128.size (inb_i b)).toLoadRect (View.loadsAt_vmem h_S1x128))
  let xb2 : Vec F S256x128 .bf16 ← Prog.lift (.load B.x (Rect.unit (s := S256x2048) ![0, 128 * (b.val + 1)] S256x128.size (inb_xd b.succ)).toLoadRect (View.loadsAt_vmem h_S256x128))
  let _c : Vec F S256x128 .fp8e4m3 ← Prog.lift (.load B.c (Rect.unit (s := S256x1920) ![0, 128 * b.val] S256x128.size (inb_c b)).toLoadRect (View.loadsAt_vmem h_S256x128))
  Prog.lift (.store B.c (Rect.unit (s := S256x1920) ![0, 128 * b.val] S256x128.size (inb_c b)) (shapeCast S256x128 (codesV (gath (BitVec.ofNat 32 b.val) xb xb2 iv)) shapeCasts_S256x128_S256x128) Finset.univ (View.stores_vmem h_S256x128 (B.hc.storeExact_slice rfl _ (pk_c b)) (fun _ => rfl)) (.inl rfl))
  let _s : Vec F S256x1 .f32 ← Prog.lift (.load B.s (Rect.unit (s := S256x15) ![0, b.val] S256x1.size (inb_s b)).toLoadRect (View.loadsAt_vmem h_S256x1))
  Prog.lift (.store B.s (Rect.unit (s := S256x15) ![0, b.val] S256x1.size (inb_s b)) (shapeCast S256x1 (scaleV (gath (BitVec.ofNat 32 b.val) xb xb2 iv)) shapeCasts_S256x1_S256x1) Finset.univ (View.stores_vmem_bits_univ h_S256x1 rfl) (.inl rfl))
  let _d : Vec F S256x128 .bf16 ← Prog.lift (.load B.xd (Rect.unit (s := S256x2048) ![0, 128 * b.val] S256x128.size (inb_xd b.castSucc)).toLoadRect (View.loadsAt_vmem h_S256x128))
  Prog.lift (.store B.xd (Rect.unit (s := S256x2048) ![0, 128 * b.val] S256x128.size (inb_xd b.castSucc)) (shapeCast S256x128 (xdV (gath (BitVec.ofNat 32 b.val) xb xb2 iv)) shapeCasts_S256x128_S256x128) Finset.univ (View.stores_vmem h_S256x128 (B.hxd.storeExact_slice rfl _ (pk_xd b.castSucc)) (fun _ => rfl)) (.inl rfl))
  pure (outSel (BitVec.ofNat 32 b.val) xb ov xo)

/-- The last block, which only the outliers can fall in, and the outlier columns stored. -/
def lastC (xo : FVec F S256x128 .f32) : Pg F PUnit := do
  let xb : Vec F S256x128 .bf16 ← Prog.lift (.load B.x (Rect.unit (s := S256x2048) ![0, 1920] S256x128.size inb_S256x2048_S256x128_0_1920).toLoadRect (View.loadsAt_vmem h_S256x128))
  let ov : Vec F S1x128 .i32 ← Prog.lift (.load G.oidx (Rect.unit (s := S1x128) ![0, 0] S1x128.size inb_S1x128_S1x128_0_0).toLoadRect (View.loadsAt_vmem h_S1x128))
  let _d : Vec F S256x128 .bf16 ← Prog.lift (.load B.xd (Rect.unit (s := S256x2048) ![0, 1920] S256x128.size inb_S256x2048_S256x128_0_1920).toLoadRect (View.loadsAt_vmem h_S256x128))
  Prog.lift (.store B.xd (Rect.unit (s := S256x2048) ![0, 1920] S256x128.size inb_S256x2048_S256x128_0_1920) (shapeCast S256x128 (truncf .bf16 (outSel 15#32 xb ov xo) bitsLt_bf16_f32) shapeCasts_S256x128_S256x128) Finset.univ (View.stores_vmem h_S256x128 (B.hxd.storeExact_slice rfl _ packedbf16_S256x2048_S256x128_0_1920) (fun _ => rfl)) (.inl rfl))

/-- The first `n` blocks of a tile. -/
def blks (xo : FVec F S256x128 .f32) : (n : ℕ) → n ≤ 15 → Pg F (FVec F S256x128 .f32)
  | 0, _ => pure xo
  | n + 1, h => blks xo n (Nat.le_of_succ_le h) >>= fun o => blkC G B ⟨n, h⟩ o

/-- The first `n` column blocks of a tile's product, each followed by a block of the next tile. -/
def chunks (xo : FVec F S256x128 .f32) : (n : ℕ) → n ≤ 15 → Pg F (FVec F S256x128 .f32)
  | 0, _ => pure xo
  | n + 1, h => chunks xo n (Nat.le_of_succ_le h) >>= fun o => dotC G A ⟨n, Nat.lt_succ_of_lt h⟩ >>= fun _ => blkC G B ⟨n, h⟩ o

/-- The zeros the outlier columns start from. -/
def xo0 : FVec F S256x128 .f32 := broadcast S256x128 (Scalar.ofBits .f32 0x00000000#32)

/-- The tile after `t`, the last tile its own. -/
def nxt (t : Fin 64) : Fin 64 := ⟨min (t.val + 1) 63, by omega⟩
/-- The tile two after `t`. -/
def nxt2 (t : Fin 64) : Fin 64 := ⟨min (t.val + 2) 63, by omega⟩

/-- The waits and the copy a tile's pass opens with. -/
def openC (t : Fin 64) : Pg F PUnit := do
  if t.val < 63 then
    Prog.lift (.waitDma2 B.xsem (G.tx (nxt t)) B.x (G.hx.wordExact_slice rfl _ (wd_tx (nxt t))) B.hx.wordExact)
  else pure ⟨⟩
  if t.val < 62 then
    Prog.lift (.enqueueDma (G.tx (nxt2 t)) (.here A.x) (.dma A.xsem) (G.hx.wordExact_slice rfl _ (wd_tx (nxt2 t))) A.hx.wordExact ⟨Or.inl rfl, trivial⟩)
  else pure ⟨⟩
  if 0 < t.val then do
    Prog.lift (.waitDma2 B.csem B.c (G.tc (nxt t)) B.hc.wordExact (G.hc.wordExact_slice rfl _ (wd_tc (nxt t))))
    Prog.lift (.waitDma2 B.ssem B.s (G.ts (nxt t)) B.hs.wordExact (View.wordExact_bits rfl))
  else pure ⟨⟩
  if 1 < t.val then
    Prog.lift (.waitDma2 A.ysem A.y (G.ty t) A.hy.wordExact (G.hy.wordExact_slice rfl _ (wd_ty t)))
  else pure ⟨⟩

/-- The copies a tile's pass closes with. -/
def closeC (t : Fin 64) : Pg F PUnit := do
  Prog.lift (.enqueueDma A.y (.here (G.ty t)) (.dma A.ysem) A.hy.wordExact (G.hy.wordExact_slice rfl _ (wd_ty t)) ⟨Or.inl rfl, trivial⟩)
  if t.val < 63 then do
    Prog.lift (.enqueueDma B.c (.here (G.tc (nxt t))) (.dma B.csem) B.hc.wordExact (G.hc.wordExact_slice rfl _ (wd_tc (nxt t))) ⟨Or.inl rfl, trivial⟩)
    Prog.lift (.enqueueDma B.s (.here (G.ts (nxt t))) (.dma B.ssem) B.hs.wordExact (View.wordExact_bits rfl) ⟨Or.inl rfl, trivial⟩)
  else pure ⟨⟩

/-- One tile's pass: its product, and the next tile quantised. -/
def phaseC (t : Fin 64) : Pg F PUnit := do
  openC G A B t
  let o ← chunks G A B xo0 15 (Nat.le_refl 15)
  dotC G A 15
  lastC G B o
  closeC G A B t

/-- One trip of the loop over tiles. -/
def tripC (i : Fin 32) : Pg F PUnit := do
  phaseC G A B ⟨2 * i.val, by omega⟩
  phaseC G B A ⟨2 * i.val + 1, by omega⟩

/-- Column block `j` of weight tile `k`, staged in slot `p`, dequantised. -/
def colC (k : Fin 15) (p : Fin 2) (j : Fin 64) : Pg F PUnit := do
  let s : Elt F .f32 ← smemLoad G.ws (Rect.unit (s := S15x64) ![k.val, j.val] S1x1.size (inb_ws k j)) numel1_S1x1 rfl
  let v : Vec F S1x128x128 .fp8e4m3 ← Prog.lift (.load G.st (Rect.unit (s := S2x128x8192) ![p.val, 0, 128 * j.val] S1x128x128.size (inb_st p j)).toLoadRect (View.loadsAt_vmem h_S1x128x128))
  let _w : Vec F S128x128 .bf16 ← Prog.lift (.load G.w (Rect.unit (s := S2048x8192) ![128 * k.val, 128 * j.val] S128x128.size (inb_wr k j)).toLoadRect (View.loadsAt_vmem h_S128x128))
  Prog.lift (.store G.w (Rect.unit (s := S2048x8192) ![128 * k.val, 128 * j.val] S128x128.size (inb_wr k j)) (shapeCast S128x128 (wV v s) shapeCasts_S128x128_S128x128) Finset.univ (View.stores_vmem h_S128x128 (G.hw.storeExact_slice rfl _ (pk_wr k j)) (fun _ => rfl)) (.inl rfl))

/-- The first `n` column blocks of a weight tile. -/
def cols (k : Fin 15) (p : Fin 2) : (n : ℕ) → n ≤ 64 → Pg F PUnit
  | 0, _ => pure ⟨⟩
  | n + 1, h => cols k p n (Nat.le_of_succ_le h) >>= fun _ => colC G k p ⟨n, h⟩

/-- A weight tile's codes copied into a slot. -/
def wStart (k : Fin 15) (p : Fin 2) : Pg F PUnit :=
  Prog.lift (.enqueueDma (G.twc k) (.here (G.tst p)) (.dma A.wsem) (G.hwc.wordExact_slice rfl _ (wd_wc k)) ((G.hst.wordExact_slice rfl _ (wd_slot p)).reshape _ _) ⟨Or.inl rfl, trivial⟩)
/-- The wait for it. -/
def wWait (k : Fin 15) (p : Fin 2) : Pg F PUnit :=
  Prog.lift (.waitDma2 A.wsem (G.twc k) (G.tst p) (G.hwc.wordExact_slice rfl _ (wd_wc k)) ((G.hst.wordExact_slice rfl _ (wd_slot p)).reshape _ _))

/-- One trip of the loop over weight tiles. -/
def wtrip (k : Fin 15) : Pg F PUnit := do
  if h : k.val < 14 then (if k.val % 2 = 0 then wStart G B ⟨k.val + 1, by omega⟩ 1 else wStart G A ⟨k.val + 1, by omega⟩ 0) else pure ⟨⟩
  if k.val % 2 = 0 then wWait G A k 0 else wWait G B k 1
  cols G k ⟨k.val % 2, Nat.mod_lt _ (by decide)⟩ 64 (Nat.le_refl 64)

/-- What the program does before the loop over weight tiles. -/
def preC : Pg F PUnit := do
  Prog.lift (.enqueueDma (G.tx 0) (.here A.x) (.dma A.xsem) (G.hx.wordExact_slice rfl _ (wd_tx 0)) A.hx.wordExact ⟨Or.inl rfl, trivial⟩)
  Prog.lift (.enqueueDma G.wo (.here G.two) (.dma G.wosem) G.hwo.wordExact (G.hw.wordExact_slice rfl _ wordsbf16_S2048x8192_S128x8192_1920_0) ⟨Or.inl rfl, trivial⟩)
  wStart G A 0 0

/-- What it does between the two loops. -/
def midC : Pg F PUnit := do
  Prog.lift (.waitDma2 G.wosem G.wo G.two G.hwo.wordExact (G.hw.wordExact_slice rfl _ wordsbf16_S2048x8192_S128x8192_1920_0))
  Prog.lift (.waitDma2 A.xsem (G.tx 0) A.x (G.hx.wordExact_slice rfl _ (wd_tx 0)) A.hx.wordExact)
  Prog.lift (.enqueueDma (G.tx 1) (.here B.x) (.dma B.xsem) (G.hx.wordExact_slice rfl _ (wd_tx 1)) B.hx.wordExact ⟨Or.inl rfl, trivial⟩)
  let o ← blks G A xo0 15 (Nat.le_refl 15)
  lastC G A o
  Prog.lift (.enqueueDma A.c (.here (G.tc 0)) (.dma A.csem) A.hc.wordExact (G.hc.wordExact_slice rfl _ (wd_tc 0)) ⟨Or.inl rfl, trivial⟩)
  Prog.lift (.enqueueDma A.s (.here (G.ts 0)) (.dma A.ssem) A.hs.wordExact (View.wordExact_bits rfl) ⟨Or.inl rfl, trivial⟩)

/-- What it does after them, up to the last wait. -/
def finC : Pg F PUnit := do
  Prog.lift (.waitDma2 B.csem B.c (G.tc 0) B.hc.wordExact (G.hc.wordExact_slice rfl _ (wd_tc 0)))
  Prog.lift (.waitDma2 B.ssem B.s (G.ts 0) B.hs.wordExact (View.wordExact_bits rfl))
  Prog.lift (.waitDma2 A.ysem A.y (G.ty 0) A.hy.wordExact (G.hy.wordExact_slice rfl _ (wd_ty 0)))

/-- The last wait. -/
def endC : Pg F PUnit :=
  Prog.lift (.waitDma2 B.ysem B.y (G.ty 0) B.hy.wordExact (G.hy.wordExact_slice rfl _ (wd_ty 0)))

end Cert.KernelIdeal.Own
-- ==== Proof.Rules.lean ====
module

public import proofs.«01_k».proof.Proof.Struct
public import Idealize.ShloMosaic.Lib.MemrefSat
public import Idealize.ShloMosaic.Lib.Tactic
public import Idealize.ShloMosaic.Lib.Writes
public import Idealize.ShloMosaic.Lib.Pipeline.FrameBody

/-! Loads and stores of buffers held at named contents, and what the passes over blocks leave. -/

@[expose] public section

set_option maxRecDepth 10000

noncomputable section

namespace Cert.KernelIdeal.Own

open Cert.KernelIdeal Facts₀ Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- Contents `X` with the rectangle `r` replaced by `w`. -/
def updR {s : Shape} {T : Type} (X : s.Idx → T) (r : Rect s) (w : r.shape.Idx → T) : s.Idx → T :=
  open Classical in fun y => if h : ∃ x, r.emb x = y then w h.choose else X y

/-- Inside the rectangle the replaced contents are `w`. -/
theorem updR_hit {s : Shape} {T : Type} (X : s.Idx → T) (r : Rect s) (w : r.shape.Idx → T) (x : r.shape.Idx) : updR X r w (r.emb x) = w x := by
  have h : ∃ x', r.emb x' = r.emb x := ⟨x, rfl⟩
  unfold updR
  rw [dif_pos h, r.emb.injective h.choose_spec]

/-- Outside the rectangle the replaced contents are `X`. -/
theorem updR_miss {s : Shape} {T : Type} (X : s.Idx → T) (r : Rect s) (w : r.shape.Idx → T) (y : s.Idx) (h : ∀ x, r.emb x ≠ y) : updR X r w y = X y := by
  unfold updR
  rw [dif_neg (fun ⟨x, hx⟩ => h x hx)]

variable {F : FTy → Type} [FloatOps F]

/-- The proof's user algebra: the pipeline library's beside the transfers' counters. -/
local notation "𝕄" => MT nD τ sig Unit (Elt F) ℕ (Pipeline.UD sig nD τ) ℕ

/-- A program's weakest precondition on a TensorCore of device `c`. -/
abbrev wpC (c : Dev nD) {α : Type} (p : Pg F α) (Q : α → sProp 𝕄) : sProp 𝕄 :=
  wp frame (wpE (defs₀ (F := F)) Variants.none (c : Thread nD τ) none) Set.univ p Q

section
variable [Facts]
variable (c : Dev nD) {sp : CoreSpace} {s : Shape} {e : EltTy} (m : Memref sig .tc sp s e) (q : PosShare TreeShare)

/-- A buffer of device `c` held at share `q` with contents `X`. -/
abbrev at' (c : Dev nD) {sp : Space} {s : Shape} {e : EltTy} (m : Memref sig .tc sp s e) (q : PosShare TreeShare) (X : s.Idx → Elt F e) : sProp 𝕄 :=
  owns (c : Thread nD τ) m q X

/-- A load of a rectangle reads the held contents there and keeps them. -/
theorem load_at {α : Type} {r : Rect s} {hl : m.view.LoadsAt r.toLoadRect} {k : (r.shape.Idx → Elt F e) → Pg F α} {Q : α → sProp 𝕄} (X : s.Idx → Elt F e) :
    at' c m q X ⊢ iprop((at' c m q X -∗ wpC c (k (fun x => X (r.emb x))) Q) -∗ wpC c (.op (.load m r.toLoadRect hl) k) Q) := by
  unfold at' owns
  iintro ⟨%f, %hf, H⟩ Hk
  iapply (wp_load_rect Variants.none (c : Thread nD τ) none Set.univ (m := m) (r := r) (hl := hl) (S := m.view.set) (View.set_slice_subset _ _)) $$ H
  iintro H
  have : (m.access r).read (Elt F) f = fun x => X (r.emb x) := by
    subst hf; rfl
  rw [this]
  iapply Hk
  iexists f; isplitr; · ipureintro; exact hf
  iexact H

/-- A store to a rectangle replaces the held contents there. -/
theorem store_at {α : Type} {r : Rect s} {w : r.shape.Idx → Elt F e} {hx : (m.access r).Stores Finset.univ} {hm : Finset.univ = Finset.univ ∨ ∀ a, r.stride a = 1}
    {k : PUnit → Pg F α} {Q : α → sProp 𝕄} (X : s.Idx → Elt F e) :
    at' c m fullShare X ⊢ iprop((at' c m fullShare (updR X r w) -∗ wpC c (k ⟨⟩) Q) -∗ wpC c (.op (.store m r w Finset.univ hx hm) k) Q) := by
  unfold at' owns
  iintro ⟨%f, %hf, H⟩ Hk
  iapply (wp_store_writes₀ Variants.none (c : Thread nD τ) none Set.univ (m := m) (r := r) (w := w) (hx := hx) (hm := hm) (S := m.view.set) (f := f)
    (Memref.setOn_access_subset m r Finset.univ)) $$ H
  iintro H
  iapply Hk
  iexists _; isplitr; swap; · iexact H
  ipureintro
  subst hf
  funext y
  by_cases h : ∃ x, r.emb x = y
  · obtain ⟨x, rfl⟩ := h
    rw [updR_hit, View.read_writes_cons_emb]
  · rw [updR_miss _ _ _ _ (fun x hx => h ⟨x, hx⟩), View.read_writes_cons_miss, View.writes]
    intro hy
    obtain ⟨x, hx⟩ := r.exists_idx_of_mem hy
    exact h ⟨x, hx⟩

end

variable [Facts]

/-- The columns of block `b` of a tile. -/
abbrev rX (b : Fin 16) : Rect S256x2048 := Rect.unit (s := S256x2048) ![0, 128 * b.val] S256x128.size (inb_xd b)
/-- The columns of block `b` of a tile's codes. -/
abbrev rC (b : Fin 15) : Rect S256x1920 := Rect.unit (s := S256x1920) ![0, 128 * b.val] S256x128.size (inb_c b)
/-- The column of block `b` of a tile's scales. -/
abbrev rS (b : Fin 15) : Rect S256x15 := Rect.unit (s := S256x15) ![0, b.val] S256x1.size (inb_s b)
/-- The columns of part `n` of a tile's product. -/
abbrev rY (n : Fin 16) : Rect S256x8192 := Rect.unit (s := S256x8192) ![0, 512 * n.val] S256x512.size (inb_y n)
/-- The columns of part `n` of the weights. -/
abbrev rW (n : Fin 16) : Rect S2048x8192 := Rect.unit (s := S2048x8192) ![0, 512 * n.val] S2048x512.size (inb_w n)
/-- Row `b` of the inlier indices. -/
abbrev rI (b : Fin 15) : Rect S15x128 := Rect.unit (s := S15x128) ![b.val, 0] S1x128.size (inb_i b)
/-- All the outlier indices. -/
abbrev rO : Rect S1x128 := Rect.unit (s := S1x128) ![0, 0] S1x128.size inb_S1x128_S1x128_0_0
/-- All of a tile. -/
abbrev rXX : Rect S256x2048 := Rect.unit (s := S256x2048) ![0, 0] S256x2048.size inb_S256x2048_S256x2048_0_0

/-- Block `b` of the tile `X`. -/
def bX (X : S256x2048.Idx → Elt F .bf16) (b : Fin 16) : Vec F S256x128 .bf16 := fun x => X ((rX b).emb x)
/-- The outlier indices as loaded. -/
def bO (O : S1x128.Idx → Elt F .i32) : Vec F S1x128 .i32 := fun x => O (rO.emb x)
/-- Row `b` of the inlier indices as loaded. -/
def bI (I : S15x128.Idx → Elt F .i32) (b : Fin 15) : Vec F S1x128 .i32 := fun x => I ((rI b).emb x)

/-- The gathered values of block `b`. -/
def gB (X : S256x2048.Idx → Elt F .bf16) (I : S15x128.Idx → Elt F .i32) (b : Fin 15) : FVec F S256x128 .bf16 :=
  gath (BitVec.ofNat 32 b.val) (bX X b.castSucc) (bX X b.succ) (bI I b)

/-- The outlier columns after the first `n` blocks. -/
def xoI (X : S256x2048.Idx → Elt F .bf16) (O : S1x128.Idx → Elt F .i32) : (n : ℕ) → n ≤ 16 → FVec F S256x128 .f32
  | 0, _ => xo0
  | n + 1, h => outSel (BitVec.ofNat 32 n) (bX X ⟨n, h⟩) (bO O) (xoI X O n (Nat.le_of_succ_le h))

/-- The codes' buffer after the first `n` blocks. -/
def cI (X : S256x2048.Idx → Elt F .bf16) (I : S15x128.Idx → Elt F .i32) (Y : S256x1920.Idx → Elt F .fp8e4m3) : (n : ℕ) → n ≤ 15 → S256x1920.Idx → Elt F .fp8e4m3
  | 0, _ => Y
  | n + 1, h => updR (cI X I Y n (Nat.le_of_succ_le h)) (rC ⟨n, h⟩) (shapeCast S256x128 (codesV (gB X I ⟨n, h⟩)) shapeCasts_S256x128_S256x128)

/-- The scales' buffer after the first `n` blocks. -/
def sI (X : S256x2048.Idx → Elt F .bf16) (I : S15x128.Idx → Elt F .i32) (Y : S256x15.Idx → Elt F .f32) : (n : ℕ) → n ≤ 15 → S256x15.Idx → Elt F .f32
  | 0, _ => Y
  | n + 1, h => updR (sI X I Y n (Nat.le_of_succ_le h)) (rS ⟨n, h⟩) (shapeCast S256x1 (scaleV (gB X I ⟨n, h⟩)) shapeCasts_S256x1_S256x1)

/-- The dequantised tile after the first `n` blocks. -/
def dI (X : S256x2048.Idx → Elt F .bf16) (I : S15x128.Idx → Elt F .i32) (Y : S256x2048.Idx → Elt F .bf16) : (n : ℕ) → n ≤ 15 → S256x2048.Idx → Elt F .bf16
  | 0, _ => Y
  | n + 1, h => updR (dI X I Y n (Nat.le_of_succ_le h)) (rX (Fin.castSucc ⟨n, h⟩)) (shapeCast S256x128 (xdV (gB X I ⟨n, h⟩)) shapeCasts_S256x128_S256x128)

/-- The dequantised tile after its last block. -/
def dL (X : S256x2048.Idx → Elt F .bf16) (I : S15x128.Idx → Elt F .i32) (O : S1x128.Idx → Elt F .i32) (Y : S256x2048.Idx → Elt F .bf16) : S256x2048.Idx → Elt F .bf16 :=
  updR (dI X I Y 15 le_rfl) (rX 15) (shapeCast S256x128 (truncf .bf16 (xoI X O 16 le_rfl) bitsLt_bf16_f32) shapeCasts_S256x128_S256x128)

/-- The product's buffer after its first `n` parts. -/
def yI (D : S256x2048.Idx → Elt F .bf16) (W : S2048x8192.Idx → Elt F .bf16) (Y : S256x8192.Idx → Elt F .bf16) : (n : ℕ) → n ≤ 16 → S256x8192.Idx → Elt F .bf16
  | 0, _ => Y
  | n + 1, h => updR (yI D W Y n (Nat.le_of_succ_le h)) (rY ⟨n, h⟩) (shapeCast S256x512 (yV (fun x => D (rXX.emb x)) (fun x => W ((rW ⟨n, h⟩).emb x))) shapeCasts_S256x512_S256x512)

section
variable (c : Dev nD) (G : Glob) (A B : Slot)

/-- The buffers a pass over a tile's blocks works on. -/
def tileAt (X : S256x2048.Idx → Elt F .bf16) (I : S15x128.Idx → Elt F .i32) (O : S1x128.Idx → Elt F .i32) (C : S256x1920.Idx → Elt F .fp8e4m3) (S : S256x15.Idx → Elt F .f32) (D : S256x2048.Idx → Elt F .bf16) : sProp 𝕄 :=
  iprop(at' c B.x fullShare X ∗ at' c G.idx fullShare I ∗ at' c G.oidx fullShare O ∗ at' c B.c fullShare C ∗ at' c B.s fullShare S ∗ at' c B.xd fullShare D)

/-- What one block's pass does to the buffers, in the program's own words. -/
theorem wp_blkC_raw (b : Fin 15) (xo : FVec F S256x128 .f32) {Q : FVec F S256x128 .f32 → sProp 𝕄} (X : S256x2048.Idx → Elt F .bf16) (I : S15x128.Idx → Elt F .i32) (O : S1x128.Idx → Elt F .i32) (C : S256x1920.Idx → Elt F .fp8e4m3) (S : S256x15.Idx → Elt F .f32) (D : S256x2048.Idx → Elt F .bf16)
    (g : FVec F S256x128 .bf16) (hg : g = gath (BitVec.ofNat 32 b.val) (fun x => X ((Rect.unit (s := S256x2048) ![0, 128 * b.val] S256x128.size (inb_xd b.castSucc)).emb x)) (fun x => X ((Rect.unit (s := S256x2048) ![0, 128 * (b.val + 1)] S256x128.size (inb_xd b.succ)).emb x)) (fun x => I ((Rect.unit (s := S15x128) ![b.val, 0] S1x128.size (inb_i b)).emb x)))
    (o : FVec F S256x128 .f32) (ho : o = outSel (BitVec.ofNat 32 b.val) (fun x => X ((Rect.unit (s := S256x2048) ![0, 128 * b.val] S256x128.size (inb_xd b.castSucc)).emb x)) (fun x => O ((Rect.unit (s := S1x128) ![0, 0] S1x128.size inb_S1x128_S1x128_0_0).emb x)) xo) :
    tileAt c G B X I O C S D ⊢ iprop((tileAt c G B X I O (updR C (Rect.unit (s := S256x1920) ![0, 128 * b.val] S256x128.size (inb_c b)) (shapeCast S256x128 (codesV g) shapeCasts_S256x128_S256x128)) (updR S (Rect.unit (s := S256x15) ![0, b.val] S256x1.size (inb_s b)) (shapeCast S256x1 (scaleV g) shapeCasts_S256x1_S256x1)) (updR D (Rect.unit (s := S256x2048) ![0, 128 * b.val] S256x128.size (inb_xd b.castSucc)) (shapeCast S256x128 (xdV g) shapeCasts_S256x128_S256x128)) -∗ ∀ o', ⌜o' = o⌝ -∗ Q o') -∗ wpC c (blkC G B b xo) Q) := by
  unfold tileAt blkC
  subst hg ho
  iintro ⟨Hx, Hi, Ho, Hc, Hs, Hd⟩ Hk
  iapply (load_at c B.x fullShare X) $$ Hx; iintro Hx
  iapply (load_at c G.oidx fullShare O) $$ Ho; iintro Ho
  iapply (load_at c G.idx fullShare I) $$ Hi; iintro Hi
  iapply (load_at c B.x fullShare X) $$ Hx; iintro Hx
  iapply (load_at c B.c fullShare C) $$ Hc; iintro Hc
  iapply (store_at c B.c C) $$ Hc; iintro Hc
  iapply (load_at c B.s fullShare S) $$ Hs; iintro Hs
  iapply (store_at c B.s S) $$ Hs; iintro Hs
  iapply (load_at c B.xd fullShare D) $$ Hd; iintro Hd
  iapply (store_at c B.xd D) $$ Hd; iintro Hd
  iapply (le_wp_ret (Fr := frame) (a := _))
  iapply Hk $$ [Hx Hi Ho Hc Hs Hd]
  · isplitl [Hx]; · iexact Hx
    isplitl [Hi]; · iexact Hi
    isplitl [Ho]; · iexact Ho
    isplitl [Hc]; · iexact Hc
    isplitl [Hs]; · iexact Hs
    iexact Hd
  · ipureintro; rfl

/-- What one block's pass does to the buffers. -/
theorem wp_blkC (b : Fin 15) (xo : FVec F S256x128 .f32) {Q : FVec F S256x128 .f32 → sProp 𝕄} (X I O C S D) :
    tileAt c G B X I O C S D ⊢ iprop((tileAt c G B X I O (updR C (rC b) (shapeCast S256x128 (codesV (gB X I b)) shapeCasts_S256x128_S256x128)) (updR S (rS b) (shapeCast S256x1 (scaleV (gB X I b)) shapeCasts_S256x1_S256x1)) (updR D (rX b.castSucc) (shapeCast S256x128 (xdV (gB X I b)) shapeCasts_S256x128_S256x128)) -∗ Q (outSel (BitVec.ofNat 32 b.val) (bX X b.castSucc) (bO O) xo)) -∗ wpC c (blkC G B b xo) Q) := by
  iintro H Hk
  iapply (wp_blkC_raw c G B b xo X I O C S D (gB X I b) rfl (outSel (BitVec.ofNat 32 b.val) (bX X b.castSucc) (bO O) xo) rfl) $$ H
  iintro H %o %ho
  rw [ho]
  iapply Hk
  iexact H

/-- What the last block's pass does to the buffers. -/
theorem wp_lastC {Q : PUnit → sProp 𝕄} (X I O C S Y) :
    tileAt c G B X I O C S (dI X I Y 15 le_rfl) ⊢ iprop((tileAt c G B X I O C S (dL X I O Y) -∗ Q ⟨⟩) -∗ wpC c (lastC G B (xoI X O 15 (Nat.le_succ 15))) Q) := by
  unfold tileAt lastC
  iintro ⟨Hx, Hi, Ho, Hc, Hs, Hd⟩ Hk
  iapply (load_at c B.x fullShare X) $$ Hx; iintro Hx
  iapply (load_at c G.oidx fullShare O) $$ Ho; iintro Ho
  iapply (load_at c B.xd fullShare _) $$ Hd; iintro Hd
  iapply (store_at c B.xd _) $$ Hd; iintro Hd
  iapply (le_wp_ret (Fr := frame) (a := _))
  iapply Hk
  iframe
  iexact Hd

/-- A tile's buffers after the first `n` blocks. -/
def tileN (X : S256x2048.Idx → Elt F .bf16) (I : S15x128.Idx → Elt F .i32) (O : S1x128.Idx → Elt F .i32) (C : S256x1920.Idx → Elt F .fp8e4m3) (S : S256x15.Idx → Elt F .f32) (D : S256x2048.Idx → Elt F .bf16) (n : ℕ) (h : n ≤ 15) : sProp 𝕄 :=
  tileAt c G B X I O (cI X I C n h) (sI X I S n h) (dI X I D n h)

/-- What the passes over the first `n` blocks do. -/
theorem wp_blks (X I O C S D) (n : ℕ) (h : n ≤ 15) : ∀ {Q : FVec F S256x128 .f32 → sProp 𝕄},
    tileAt c G B X I O C S D ⊢ iprop((tileN c G B X I O C S D n h -∗ Q (xoI X O n (h.trans (Nat.le_succ 15)))) -∗ wpC c (blks G B xo0 n h) Q) := by
  induction n with
  | zero =>
    intro Q
    rw [show tileN c G B X I O C S D 0 h = tileAt c G B X I O C S D from rfl, show xoI X O 0 (h.trans (Nat.le_succ 15)) = xo0 from rfl]
    iintro H Hk
    unfold blks
    iapply (le_wp_ret (Fr := frame) (a := _))
    ihave Hq := Hk $$ [H]
    · iexact H
    iexact Hq
  | succ n ih =>
    intro Q
    rw [show tileN c G B X I O C S D (n + 1) h = tileAt c G B X I O (updR (cI X I C n (Nat.le_of_succ_le h)) (rC ⟨n, h⟩) (shapeCast S256x128 (codesV (gB X I ⟨n, h⟩)) shapeCasts_S256x128_S256x128)) (updR (sI X I S n (Nat.le_of_succ_le h)) (rS ⟨n, h⟩) (shapeCast S256x1 (scaleV (gB X I ⟨n, h⟩)) shapeCasts_S256x1_S256x1)) (updR (dI X I D n (Nat.le_of_succ_le h)) (rX (Fin.castSucc ⟨n, h⟩)) (shapeCast S256x128 (xdV (gB X I ⟨n, h⟩)) shapeCasts_S256x128_S256x128)) from rfl,
      show xoI X O (n + 1) (h.trans (Nat.le_succ 15)) = outSel (BitVec.ofNat 32 (⟨n, h⟩ : Fin 15).val) (bX X (Fin.castSucc ⟨n, h⟩)) (bO O) (xoI X O n ((Nat.le_of_succ_le h).trans (Nat.le_succ 15))) from rfl]
    iintro H Hk
    unfold blks wpC
    rw [wp_bind]
    iapply (ih (Nat.le_of_succ_le h)) $$ H
    iintro H
    unfold tileN
    iapply (wp_blkC c G B ⟨n, h⟩ _ X I O _ _ _) $$ H
    iintro H
    ihave Hq := Hk $$ [H]
    · iexact H
    iexact Hq

/-- The buffers a part of the product works on. -/
def dotAt (D : S256x2048.Idx → Elt F .bf16) (W : S2048x8192.Idx → Elt F .bf16) (Y : S256x8192.Idx → Elt F .bf16) : sProp 𝕄 :=
  iprop(at' c A.xd fullShare D ∗ at' c G.w fullShare W ∗ at' c A.y fullShare Y)

/-- What one part of the product does. -/
theorem wp_dotC (n : Fin 16) {Q : PUnit → sProp 𝕄} (D W Y) :
    dotAt c G A D W Y ⊢ iprop((dotAt c G A D W (updR Y (rY n) (shapeCast S256x512 (yV (fun x => D (rXX.emb x)) (fun x => W ((rW n).emb x))) shapeCasts_S256x512_S256x512)) -∗ Q ⟨⟩) -∗ wpC c (dotC G A n) Q) := by
  unfold dotAt dotC
  iintro ⟨Hd, Hw, Hy⟩ Hk
  iapply (load_at c A.xd fullShare D) $$ Hd; iintro Hd
  iapply (load_at c G.w fullShare W) $$ Hw; iintro Hw
  iapply (load_at c A.y fullShare Y) $$ Hy; iintro Hy
  iapply (store_at c A.y Y) $$ Hy; iintro Hy
  iapply (le_wp_ret (Fr := frame) (a := _))
  iapply Hk
  iframe
  iexact Hy

/-- What the first `n` parts of a tile's product, each followed by a block of the next tile, do. -/
theorem wp_chunks (X I O C S D D' W Y) (n : ℕ) (h : n ≤ 15) : ∀ {Q : FVec F S256x128 .f32 → sProp 𝕄},
    iprop(tileAt c G B X I O C S D ∗ dotAt c G A D' W Y) ⊢ iprop((tileN c G B X I O C S D n h -∗ dotAt c G A D' W (yI D' W Y n (h.trans (Nat.le_succ 15))) -∗ Q (xoI X O n (h.trans (Nat.le_succ 15)))) -∗ wpC c (chunks G A B xo0 n h) Q) := by
  induction n with
  | zero =>
    intro Q
    rw [show tileN c G B X I O C S D 0 h = tileAt c G B X I O C S D from rfl, show xoI X O 0 (h.trans (Nat.le_succ 15)) = xo0 from rfl]
    rw [show yI D' W Y 0 (h.trans (Nat.le_succ 15)) = Y from rfl]
    iintro ⟨H, Hd⟩ Hk
    unfold chunks
    iapply (le_wp_ret (Fr := frame) (a := _))
    ihave Hq := Hk $$ [H] [Hd]
    · iexact H
    · iexact Hd
    iexact Hq
  | succ n ih =>
    intro Q
    rw [show tileN c G B X I O C S D (n + 1) h = tileAt c G B X I O (updR (cI X I C n (Nat.le_of_succ_le h)) (rC ⟨n, h⟩) (shapeCast S256x128 (codesV (gB X I ⟨n, h⟩)) shapeCasts_S256x128_S256x128)) (updR (sI X I S n (Nat.le_of_succ_le h)) (rS ⟨n, h⟩) (shapeCast S256x1 (scaleV (gB X I ⟨n, h⟩)) shapeCasts_S256x1_S256x1)) (updR (dI X I D n (Nat.le_of_succ_le h)) (rX (Fin.castSucc ⟨n, h⟩)) (shapeCast S256x128 (xdV (gB X I ⟨n, h⟩)) shapeCasts_S256x128_S256x128)) from rfl,
      show xoI X O (n + 1) (h.trans (Nat.le_succ 15)) = outSel (BitVec.ofNat 32 (⟨n, h⟩ : Fin 15).val) (bX X (Fin.castSucc ⟨n, h⟩)) (bO O) (xoI X O n ((Nat.le_of_succ_le h).trans (Nat.le_succ 15))) from rfl]
    iintro ⟨H, Hd⟩ Hk
    unfold chunks wpC
    rw [wp_bind]
    iapply (ih (Nat.le_of_succ_le h)) $$ [H Hd]
    · iframe
    iintro H Hd
    rw [wp_bind]
    iapply (wp_dotC c G A ⟨n, Nat.lt_succ_of_lt h⟩ _ _ _) $$ Hd
    iintro Hd
    unfold tileN
    iapply (wp_blkC c G B ⟨n, h⟩ _ X I O _ _ _) $$ H
    iintro H
    ihave Hq := Hk $$ [H] [Hd]
    · iexact H
    · iexact Hd
    iexact Hq
end
end Cert.KernelIdeal.Own
-- ==== Proof.Parts.lean ====
module

public import proofs.«01_k».proof.Proof.Rules
public import Idealize.ShloMosaic.Lib.Transfers
public import Idealize.ShloMosaic.Lib.SparseCore.Scatter

/-! Parts of buffers held at named contents, and copies between them. -/

@[expose] public section

set_option maxRecDepth 10000

noncomputable section

namespace Cert.KernelIdeal.Own

open Cert.KernelIdeal Facts₀ Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

section
variable (c : Dev nD) {sp : Space} {s : Shape} {e : EltTy} (m : Memref sig .tc sp s e) (q : PosShare TreeShare)

/-- The elements `T` of a buffer of device `c` held at share `q`, with contents that agree with `X` on them. -/
def part (T : Finset s.Idx) (X : s.Idx → Elt F e) : sProp 𝕄 :=
  iprop(∃ f, ⌜∀ y ∈ T, m.view.read (Elt F) f y = X y⌝ ∗ (m.view.loc (c : Thread nD τ) ↦[T.map m.view.emb]{q} f))

/-- Contents matter on the part held only. -/
theorem part_congr {T : Finset s.Idx} {X Y : s.Idx → Elt F e} (h : ∀ y ∈ T, X y = Y y) : part c m q T X ⊢ part c m q T Y := by
  unfold part
  iintro ⟨%f, %hf, H⟩
  iexists f; isplitr
  · ipureintro; exact fun y hy => (hf y hy).trans (h y hy)
  iexact H

/-- A whole buffer held is its part of all elements. -/
theorem part_of_at (X : s.Idx → Elt F e) : at' c m q X ⊢ part c m q Finset.univ X := by
  unfold part at' owns
  iintro ⟨%f, %hf, H⟩
  iexists f; isplitr
  · ipureintro; exact fun y _ => congrFun hf y
  iexact H

/-- The part of all elements is the whole buffer. -/
theorem at_of_part (X : s.Idx → Elt F e) : part c m q Finset.univ X ⊢ at' c m q X := by
  unfold part at' owns
  iintro ⟨%f, %hf, H⟩
  iexists f; isplitr
  · ipureintro; exact funext fun y => hf y (Finset.mem_univ y)
  iexact H

/-- Two disjoint parts from their union. -/
theorem part_split {T U : Finset s.Idx} (h : Disjoint T U) (X : s.Idx → Elt F e) : part c m q (T ∪ U) X ⊢ iprop(part c m q T X ∗ part c m q U X) := by
  unfold part
  iintro ⟨%f, %hf, H⟩
  rw [Finset.map_union]
  ihave H2 := (pointsTo_union ((Finset.disjoint_map _).mpr h)).1 $$ H
  icases H2 with ⟨H1, H2⟩
  isplitl [H1]
  · iexists f; isplitr; · ipureintro; exact fun y hy => hf y (Finset.mem_union_left _ hy)
    iexact H1
  · iexists f; isplitr; · ipureintro; exact fun y hy => hf y (Finset.mem_union_right _ hy)
    iexact H2

/-- The union from two disjoint parts. -/
theorem part_join {T U : Finset s.Idx} (h : Disjoint T U) (X : s.Idx → Elt F e) : iprop(part c m q T X ∗ part c m q U X) ⊢ part c m q (T ∪ U) X := by
  unfold part
  iintro ⟨⟨%f, %hf, H1⟩, ⟨%g, %hg, H2⟩⟩
  rw [Finset.map_union]
  ihave H := (pointsTo_join (ℓ := m.view.loc (c : Thread nD τ)) (f := f) (g := g) (I := T.map m.view.emb) (J := U.map m.view.emb) ((Finset.disjoint_map m.view.emb).mpr h)) $$ [H1 H2]
  · isplitl [H1]; · iexact H1
    iexact H2
  iexists _; isplitr; swap; · iexact H
  ipureintro
  intro y hy
  rcases Finset.mem_union.mp hy with hy | hy
  · rw [← hf y hy, View.read_apply, View.read_apply, Finset.piecewise_eq_of_notMem]
    rw [Finset.mem_map']; exact Finset.disjoint_left.mp h hy
  · rw [← hg y hy, View.read_apply, View.read_apply, Finset.piecewise_eq_of_mem]
    rw [Finset.mem_map']; exact hy

/-- A part of a part, and the rest. -/
theorem part_take {T U : Finset s.Idx} (h : U ⊆ T) (X : s.Idx → Elt F e) : part c m q T X ⊢ iprop(part c m q U X ∗ part c m q (T \ U) X) := by
  have e : T = U ∪ (T \ U) := (Finset.union_sdiff_of_subset h).symm
  have := part_split c m q (F := F) (T := U) (U := T \ U) Finset.disjoint_sdiff X
  rwa [← e] at this

/-- A part put back. -/
theorem part_give {T U : Finset s.Idx} (h : U ⊆ T) (X : s.Idx → Elt F e) : iprop(part c m q U X ∗ part c m q (T \ U) X) ⊢ part c m q T X := by
  have e : T = U ∪ (T \ U) := (Finset.union_sdiff_of_subset h).symm
  have := part_join c m q (F := F) (T := U) (U := T \ U) Finset.disjoint_sdiff X
  rwa [← e] at this

/-- The two halves of a share. -/
theorem part_halve (T : Finset s.Idx) (X : s.Idx → Elt F e) : part c m q T X ⊢ iprop(part c m q.left T X ∗ part c m q.right T X) := by
  unfold part
  iintro ⟨%f, %hf, H⟩
  ihave H2 := (pointsTo_share (PosShare.mem_left_op_right q)).1 $$ H
  icases H2 with ⟨Hl, Hr⟩
  isplitl [Hl]
  · iexists f; isplitr; · ipureintro; exact hf
    iexact Hl
  · iexists f; isplitr; · ipureintro; exact hf
    iexact Hr

/-- Two halves of a share put together. -/
theorem part_unhalve (T : Finset s.Idx) (X : s.Idx → Elt F e) : iprop(part c m q.left T X ∗ part c m q.right T X) ⊢ part c m q T X := by
  unfold part
  iintro ⟨⟨%f, %hf, H1⟩, ⟨%g, %hg, H2⟩⟩
  have hc : ∀ i ∈ T.map m.view.emb, f i = g i := by
    intro i hi
    obtain ⟨y, hy, rfl⟩ := Finset.mem_map.mp hi
    exact (cast_inj (congrArg (Elt F) m.view.elt_eq)).mp ((View.read_apply (v := m.view) (Val := Elt F) f y).symm.trans (((hf y hy).trans (hg y hy).symm).trans (View.read_apply (v := m.view) (Val := Elt F) g y)))
  ihave H2 := (Entails.of_eq (pointsTo_congr (f := g) (g := f) (ℓ := m.view.loc (c : Thread nD τ)) (q := q.right) (fun i hi => (hc i hi).symm))) $$ H2
  iexists f
  isplitr
  · ipureintro; exact hf
  iapply (pointsTo_share (PosShare.mem_left_op_right q)).2
  isplitl [H1] <;> iassumption

/-- The part a rectangle selects is the slice held. -/
theorem slice_of_part (r : Rect s) (hr) (X : s.Idx → Elt F e) : part c m q r.set X ⊢ at' c (m.slice r hr) q (fun x => X (r.emb x)) := by
  unfold part at' owns
  iintro ⟨%f, %hf, H⟩
  iexists f; isplitr
  · ipureintro; exact funext fun x => hf (r.emb x) (r.idx_mem x)
  rw [← View.set_slice]
  iexact H

/-- The slice held is the part it selects. -/
theorem part_of_slice (r : Rect s) (hr) (X : s.Idx → Elt F e) (V : r.shape.Idx → Elt F e) : at' c (m.slice r hr) q V ⊢ part c m q r.set (updR X r V) := by
  unfold part at' owns
  iintro ⟨%f, %hf, H⟩
  iexists f; isplitr
  · ipureintro
    intro y hy
    obtain ⟨x, rfl⟩ := r.exists_idx_of_mem hy
    refine Eq.trans ?_ (updR_hit X r V x).symm
    exact congrFun hf x
  rw [← View.set_slice]
  iexact H

/-- A slice borrowed from a part and given back at any contents. -/
theorem borrow_slice (r : Rect s) (hr) {T : Finset s.Idx} (h : r.set ⊆ T) (X : s.Idx → Elt F e) :
    part c m q T X ⊢ iprop(at' c (m.slice r hr) q (fun x => X (r.emb x)) ∗ (∀ V, at' c (m.slice r hr) q V -∗ part c m q T (updR X r V))) := by
  iintro H
  ihave H2 := (part_take c m q h X) $$ H
  icases H2 with ⟨H1, H2⟩
  isplitl [H1]
  · iapply (slice_of_part c m q r hr X); iexact H1
  iintro %V H1
  iapply (part_give c m q h _)
  isplitl [H1]
  · iapply (part_of_slice c m q r hr X V); iexact H1
  have hX : ∀ y ∈ T \ r.set, X y = updR X r V y := fun y hy => by
    rw [updR_miss]
    intro x hx
    exact (Finset.mem_sdiff.mp hy).2 (hx ▸ r.idx_mem x)
  iapply (part_congr c m q hX)
  iexact H2

/-- Replacing a rectangle by what it holds changes nothing. -/
theorem updR_self (X : s.Idx → Elt F e) (r : Rect s) : updR X r (fun x => X (r.emb x)) = X := by
  funext y
  by_cases h : ∃ x, r.emb x = y
  · obtain ⟨x, rfl⟩ := h; rw [updR_hit]
  · rw [updR_miss _ _ _ _ (fun x hx => h ⟨x, hx⟩)]

/-- A slice borrowed and given back unchanged. -/
theorem borrow_slice_same (r : Rect s) (hr) {T : Finset s.Idx} (h : r.set ⊆ T) (X : s.Idx → Elt F e) :
    part c m q T X ⊢ iprop(at' c (m.slice r hr) q (fun x => X (r.emb x)) ∗ (at' c (m.slice r hr) q (fun x => X (r.emb x)) -∗ part c m q T X)) := by
  iintro H
  ihave H2 := (borrow_slice c m q r hr h X) $$ H
  icases H2 with ⟨H1, H2⟩
  isplitl [H1]; · iexact H1
  iintro H1
  ihave H3 := H2 $$ %(fun x => X (r.emb x)) H1
  rw [updR_self]
  iexact H3

/-- A squeezed memref held is the memref held, its contents renumbered. -/
theorem at_squeeze {s' : Shape} (h : s.Squeezes s') (X : s.Idx → Elt F e) : at' c m q X ⊢ at' c (m.squeeze s' h) q (fun x => X (Shape.reshapeEquiv h.numel_eq x)) := by
  unfold at' owns
  iintro ⟨%f, %hf, H⟩
  iexists f; isplitr
  · ipureintro; subst hf; rfl
  rw [show (m.squeeze s' h).view.set = m.view.set from View.set_reshape _ _]
  iexact H

/-- And back. -/
theorem at_unsqueeze {s' : Shape} (h : s.Squeezes s') (X : s'.Idx → Elt F e) : at' c (m.squeeze s' h) q X ⊢ at' c m q (fun x => X ((Shape.reshapeEquiv h.numel_eq).symm x)) := by
  unfold at' owns
  iintro ⟨%f, %hf, H⟩
  iexists f; isplitr
  · ipureintro; subst hf; funext x
    exact (congrArg (m.view.read (Elt F) f) ((Shape.reshapeEquiv h.numel_eq).apply_symm_apply x)).symm
  rw [show (m.squeeze s' h).view.set = m.view.set from View.set_reshape _ _]
  iexact H
end

section
variable (c : Dev nD) {sp : CoreSpace} {s : Shape} {e : EltTy} (m : Memref sig .tc sp s e) (q : PosShare TreeShare)

/-- A load from a part. -/
theorem load_part {α : Type} {r : Rect s} {hl : m.view.LoadsAt r.toLoadRect} {k : (r.shape.Idx → Elt F e) → Pg F α} {Q : α → sProp 𝕄} {T : Finset s.Idx} (h : r.set ⊆ T) (X : s.Idx → Elt F e) :
    part c m q T X ⊢ iprop((part c m q T X -∗ wpC c (k (fun x => X (r.emb x))) Q) -∗ wpC c (.op (.load m r.toLoadRect hl) k) Q) := by
  unfold part
  iintro ⟨%f, %hf, H⟩ Hk
  have hS : (m.access r).set ⊆ T.map m.view.emb := by
    rw [show (m.access r).set = _ from View.set_slice _ _]
    exact Finset.map_subset_map.mpr h
  iapply (wp_load_rect Variants.none (c : Thread nD τ) none Set.univ (m := m) (r := r) (hl := hl) hS) $$ H
  iintro H
  have : (m.access r).read (Elt F) f = fun x => X (r.emb x) := by
    funext x; exact hf (r.emb x) (h (r.idx_mem x))
  rw [this]
  iapply Hk
  iexists f; isplitr; · ipureintro; exact hf
  iexact H

/-- A store into a part. -/
theorem store_part {α : Type} {r : Rect s} {w : r.shape.Idx → Elt F e} {hx : (m.access r).Stores Finset.univ} {hm : Finset.univ = Finset.univ ∨ ∀ a, r.stride a = 1}
    {k : PUnit → Pg F α} {Q : α → sProp 𝕄} {T : Finset s.Idx} (h : r.set ⊆ T) (X : s.Idx → Elt F e) :
    part c m fullShare T X ⊢ iprop((part c m fullShare T (updR X r w) -∗ wpC c (k ⟨⟩) Q) -∗ wpC c (.op (.store m r w Finset.univ hx hm) k) Q) := by
  unfold part
  iintro ⟨%f, %hf, H⟩ Hk
  have hS : (m.access r).setOn Finset.univ ⊆ T.map m.view.emb := by
    rw [View.setOn_univ, show (m.access r).set = _ from View.set_slice _ _]
    exact Finset.map_subset_map.mpr h
  iapply (wp_store_writes₀ Variants.none (c : Thread nD τ) none Set.univ (m := m) (r := r) (w := w) (hx := hx) (hm := hm) (f := f) hS) $$ H
  iintro H
  iapply Hk
  iexists _; isplitr; swap; · iexact H
  ipureintro
  intro y hy
  by_cases hh : ∃ x, r.emb x = y
  · obtain ⟨x, rfl⟩ := hh
    rw [updR_hit, View.read_writes_cons_emb]
  · rw [updR_miss _ _ _ _ (fun x hx => hh ⟨x, hx⟩), View.read_writes_cons_miss, View.writes, hf y hy]
    intro hy
    obtain ⟨x, hx⟩ := r.exists_idx_of_mem hy
    exact hh ⟨x, hx⟩
end

section
variable (c : Dev nD)

/-- A copy in flight on semaphore `sm` of device `c`, which the wait delivers as `D`. -/
abbrev fly (c : Dev nD) (sm : DmaSem sig) (N : ℕ) (D : sProp 𝕄) : sProp 𝕄 := Transfers.Flight countersEmb (c : Thread nD τ) (.dma sm) () N D

/-- A semaphore of device `c` at zero. -/
abbrev idle (c : Dev nD) (sm : DmaSem sig) : sProp 𝕄 := semVal ((c : Thread nD τ), .dma sm) 0

/-- A copy's start: the source and the destination lent to it come back at the wait. -/
theorem wp_start {α : Type} {sp sp' : Space} {s : Shape} {e : EltTy} (src : Memref sig .tc sp s e) (dst : Memref sig .tc sp' s e) (sm : DmaSem sig)
    {hsrc : src.view.WordExact} {hdst : dst.view.WordExact} {hsem : (DmaTarget.here (nD := nD) (τ := τ) (p := .tc) dst).Typed sp (.dma sm)} {k : PUnit → Pg F α} {Q : α → sProp 𝕄}
    (N : ℕ) (hN : dst.view.dmaCredit = N) (hN0 : 0 < N) (q : PosShare TreeShare) (V V0 : s.Idx → Elt F e) (Ps Pd : sProp 𝕄) :
    iprop(at' c src q V ∗ at' c dst fullShare V0 ∗ (at' c src q V -∗ Ps) ∗ (at' c dst fullShare V -∗ Pd) ∗ idle c sm)
      ⊢ iprop((fly c sm N iprop(Pd ∗ Ps) -∗ wpC c (k ⟨⟩) Q) -∗ wpC c (.op (.enqueueDma src (.here dst) (.dma sm) hsrc hdst hsem) k) Q) := by
  unfold at' owns
  iintro ⟨⟨%fs, %hfs, Hs⟩, ⟨%fd, -, Hd⟩, Hps, Hpd, Hsem⟩ Hk
  iapply (Transfers.wp_dmaLocal countersEmb Variants.none (c : Thread nD τ) none (sm := .dma sm) () N hN hN0 (Sd := dst.view.set) (Finset.Subset.refl _)) $$ [Hs Hd Hsem]
  · isplitl [Hs]; · iexact Hs
    isplitl [Hd]; · iexact Hd
    iexact Hsem
  iintro Hf
  ihave Hf := (Transfers.Flight_frame countersEmb (c : Thread nD τ)) $$ [Hps Hf]
  · isplitl [Hps]; · iexact Hps
    iexact Hf
  ihave Hf := (Transfers.Flight_frame countersEmb (c : Thread nD τ)) $$ [Hpd Hf]
  · isplitl [Hpd]; · iexact Hpd
    iexact Hf
  iapply Hk
  iapply (Transfers.Flight_mono countersEmb (c : Thread nD τ) _) $$ Hf
  iintro ⟨Hpd, Hps, Hd, Hs⟩
  isplitl [Hpd Hd]
  · iapply Hpd
    iexists _; isplitr; swap; · iexact Hd
    ipureintro
    rw [View.read_write_univ, ReadAs.apply_same, hfs]
  · iapply Hps
    iexists fs; isplitr; · ipureintro; exact hfs
    iexact Hs

/-- What the core owes: nothing, having waited on any set of semaphores. -/
def quit (c : Dev nD) : sProp 𝕄 := iprop(∃ W, owes (c : Thread nD τ) 0 W)

/-- A copy's wait. -/
theorem wp_stop {α : Type} {sp : Space} {s : Shape} {e : EltTy} (dst : Memref sig .tc sp s e) (sm : DmaSem sig) {k : PUnit → Pg F α} {Q : α → sProp 𝕄}
    (N : ℕ) (hN : dst.view.dmaCredit = N) (D : sProp 𝕄) :
    iprop(fly c sm N D ∗ quit c) ⊢ iprop((iprop(D ∗ idle c sm ∗ quit c) -∗ wpC c (k ⟨⟩) Q) -∗ wpC c (.op (.waitDma sm dst.view.ref s e (.inr dst.hasMemref)) k) Q) := by
  unfold quit
  iintro ⟨Hf, %W, HO⟩ Hk
  iapply (Transfers.wp_waitLocalSized countersEmb Variants.none (c : Thread nD τ) none (b := dst.view.ref) (hk := .inr dst.hasMemref) () hN) $$ [Hf HO]
  · isplitl [Hf]; · iexact Hf
    iexact HO
  iintro ⟨HD, Hs, HO⟩
  iapply Hk
  isplitl [HD]; · iexact HD
  isplitl [Hs]; · iexact Hs
  iexists _; iexact HO
end

end Cert.KernelIdeal.Own
-- ==== Proof.Weights.lean ====
module

public import proofs.«01_k».proof.Proof.Parts

/-! The loop over the weight tiles. -/

@[expose] public section

set_option maxRecDepth 10000

noncomputable section

namespace Cert.KernelIdeal.Own

open Cert.KernelIdeal Facts₀ Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-- The staged codes' rectangle of slot `p`. -/
abbrev rSl (p : Fin 2) : Rect S2x128x8192 := Rect.unit (s := S2x128x8192) ![p.val, 0, 0] S1x128x8192.size (inb_slot p)
/-- Column block `j` of slot `p`. -/
abbrev rSt (p : Fin 2) (j : Fin 64) : Rect S2x128x8192 := Rect.unit (s := S2x128x8192) ![p.val, 0, 128 * j.val] S1x128x128.size (inb_st p j)
/-- Block `k`, `j` of the weights. -/
abbrev rWr (k : Fin 15) (j : Fin 64) : Rect S2048x8192 := Rect.unit (s := S2048x8192) ![128 * k.val, 128 * j.val] S128x128.size (inb_wr k j)
/-- The scale of block `k`, `j`. -/
abbrev rWs (k : Fin 15) (j : Fin 64) : Rect S15x64 := Rect.unit (s := S15x64) ![k.val, j.val] S1x1.size (inb_ws k j)
/-- Rows `128 k …` of the weight codes. -/
abbrev rWc (k : Fin 15) : Rect S1920x8192 := Rect.unit (s := S1920x8192) ![128 * k.val, 0] S128x8192.size (inb_wc k)

variable [Facts]

/-- The outlier rows of the weights. -/
abbrev rWo : Rect S2048x8192 := Rect.unit (s := S2048x8192) ![1920, 0] S128x8192.size inb_S2048x8192_S128x8192_1920_0
/-- The inlier rows of the weights. -/
def inRows : Finset S2048x8192.Idx := Finset.univ \ rWo.set

/-- A slot of staged codes laid in the whole staging buffer. -/
def stW (p : Fin 2) (V : S128x8192.Idx → Elt F .fp8e4m3) : S2x128x8192.Idx → Elt F .fp8e4m3 :=
  updR (fun _ => V (fun a => ⟨0, by fin_cases a <;> decide⟩)) (rSl p) (fun x => V ((Shape.reshapeEquiv squeezes_S1x128x8192_S128x8192.numel_eq).symm x))

/-- The scale of block `k`, `j` as loaded. -/
def wsE (WS : S15x64.Idx → Elt F .f32) (k : Fin 15) (j : Fin 64) : Elt F .f32 := WS ((rWs k j).emb (Shape.Idx.first (numel1_S1x1.symm ▸ Nat.one_pos)))

/-- The dequantised block `k`, `j`. -/
def wB (WS : S15x64.Idx → Elt F .f32) (k : Fin 15) (p : Fin 2) (V : S128x8192.Idx → Elt F .fp8e4m3) (j : Fin 64) : FVec F S128x128 .bf16 :=
  wV (fun x => stW p V ((rSt p j).emb x)) (wsE WS k j)

/-- The weights after `n` column blocks of tile `k`. -/
def wJ (WS : S15x64.Idx → Elt F .f32) (k : Fin 15) (p : Fin 2) (V : S128x8192.Idx → Elt F .fp8e4m3) (W : S2048x8192.Idx → Elt F .bf16) : (n : ℕ) → n ≤ 64 → S2048x8192.Idx → Elt F .bf16
  | 0, _ => W
  | n + 1, h => updR (wJ WS k p V W n (Nat.le_of_succ_le h)) (rWr k ⟨n, h⟩) (shapeCast S128x128 (wB WS k p V ⟨n, h⟩) shapeCasts_S128x128_S128x128)

/-- Tile `k` of the weight codes. -/
def wcT (WC : S1920x8192.Idx → Elt F .fp8e4m3) (k : Fin 15) : S128x8192.Idx → Elt F .fp8e4m3 := fun x => WC ((rWc k).emb x)

/-- The weights after `n` tiles. -/
def wK (WS : S15x64.Idx → Elt F .f32) (WC : S1920x8192.Idx → Elt F .fp8e4m3) (W : S2048x8192.Idx → Elt F .bf16) : (n : ℕ) → n ≤ 15 → S2048x8192.Idx → Elt F .bf16
  | 0, _ => W
  | n + 1, h => wJ WS ⟨n, h⟩ ⟨n % 2, Nat.mod_lt _ (by decide)⟩ (wcT WC ⟨n, h⟩) (wK WS WC W n (Nat.le_of_succ_le h)) 64 le_rfl

/-- The weights after one more tile. -/
theorem wK_succ (WS : S15x64.Idx → Elt F .f32) (WC : S1920x8192.Idx → Elt F .fp8e4m3) (W : S2048x8192.Idx → Elt F .bf16) (k : Fin 15) :
    wK WS WC W (k + 1) k.isLt = wJ WS k ⟨k.val % 2, Nat.mod_lt _ (by decide)⟩ (wcT WC k) (wK WS WC W k k.isLt.le) 64 le_rfl := by
  rw [wK]

/-- A block of inlier rows is among the inlier rows. -/
theorem rWr_inRows (k : Fin 15) (j : Fin 64) : (rWr k j).set ⊆ inRows := by
  intro y hy
  refine Finset.mem_sdiff.mpr ⟨Finset.mem_univ _, fun h => ?_⟩
  obtain ⟨x, rfl⟩ := (rWr k j).exists_idx_of_mem hy
  obtain ⟨z, hz⟩ := rWo.exists_idx_of_mem h
  have h0 := congrArg (fun i => (i 0 : ℕ)) hz
  have hx : (x 0 : ℕ) < 128 := (x 0).isLt
  have hk := k.isLt
  have h0' : 1920 + 1 * (z 0 : ℕ) = 128 * k.val + 1 * (x 0 : ℕ) := h0
  omega

/-- A column block of a slot is in the slot. -/
theorem rSt_slot (p : Fin 2) (j : Fin 64) : (rSt p j).set ⊆ (rSl p).set := by
  intro y hy
  obtain ⟨x, rfl⟩ := (rSt p j).exists_idx_of_mem hy
  refine (rSl p).mem_set.mpr fun a => ?_
  have hx := (x a).isLt
  have hj := j.isLt
  fin_cases a
  · exact ⟨x 0, hx, rfl⟩
  · exact ⟨x 1, hx, rfl⟩
  · have hx' : (x 2 : ℕ) < 128 := hx
    exact ⟨128 * j.val + x 2, by show _ < 8192; omega, by show 128 * j.val + 1 * (x 2 : ℕ) = 0 + 1 * (128 * j.val + (x 2 : ℕ)); omega⟩

section
variable (c : Dev nD) (G : Glob) (A B : Slot)

/-- What a column block of a weight tile works on. -/
def colAt (WS : S15x64.Idx → Elt F .f32) (p : Fin 2) (V : S128x8192.Idx → Elt F .fp8e4m3) (W : S2048x8192.Idx → Elt F .bf16) : sProp 𝕄 :=
  iprop(at' c G.ws fullShare WS ∗ at' c (G.tst p) fullShare V ∗ part c G.w fullShare inRows W)

/-- The staged codes as a part of their buffer. -/
theorem st_part (p : Fin 2) (V : S128x8192.Idx → Elt F .fp8e4m3) : at' c (G.tst p) fullShare V ⊢ part c G.st fullShare (rSl p).set (stW p V) := by
  iintro H
  iapply (part_of_slice c G.st fullShare (rSl p) (fun _ => rfl) _ _)
  iapply (at_unsqueeze c _ fullShare squeezes_S1x128x8192_S128x8192 V)
  iexact H

/-- And back. -/
theorem part_st (p : Fin 2) (V : S128x8192.Idx → Elt F .fp8e4m3) : part c G.st fullShare (rSl p).set (stW p V) ⊢ at' c (G.tst p) fullShare V := by
  iintro H
  ihave H := (slice_of_part c G.st fullShare (rSl p) (fun _ => rfl) _) $$ H
  ihave H := (at_squeeze c _ fullShare squeezes_S1x128x8192_S128x8192 _) $$ H
  have e : (fun x => (fun x => stW p V ((rSl p).emb x)) (Shape.reshapeEquiv squeezes_S1x128x8192_S128x8192.numel_eq x)) = V := by
    funext x
    show stW p V ((rSl p).emb _) = V x
    unfold stW
    rw [updR_hit]
    exact congrArg V ((Shape.reshapeEquiv squeezes_S1x128x8192_S128x8192.numel_eq).symm_apply_apply x)
  iapply (Entails.of_eq (congrArg (at' c (G.tst p) fullShare) e))
  iexact H

/-- What one column block does. -/
theorem wp_colC (k : Fin 15) (p : Fin 2) (j : Fin 64) {Q : PUnit → sProp 𝕄} (WS V W) :
    colAt c G WS p V W ⊢ iprop((colAt c G WS p V (updR W (rWr k j) (shapeCast S128x128 (wB WS k p V j) shapeCasts_S128x128_S128x128)) -∗ Q ⟨⟩) -∗ wpC c (colC G k p j) Q) := by
  unfold colAt colC
  iintro ⟨Hs, Hv, Hw⟩ Hk
  ihave Hv := (st_part c G p V) $$ Hv
  iapply (load_at c G.ws fullShare WS) $$ Hs; iintro Hs
  iapply (load_part c G.st fullShare (rSt_slot p j) (stW p V)) $$ Hv; iintro Hv
  iapply (load_part c G.w fullShare (rWr_inRows k j) W) $$ Hw; iintro Hw
  iapply (store_part c G.w (rWr_inRows k j) W) $$ Hw; iintro Hw
  iapply (le_wp_ret (Fr := frame) (a := _))
  iapply Hk
  isplitl [Hs]; · iexact Hs
  isplitl [Hv]
  · iapply (part_st c G p V); iexact Hv
  iexact Hw

/-- What the first `n` column blocks do. -/
theorem wp_cols (k : Fin 15) (p : Fin 2) (WS V W) (n : ℕ) (h : n ≤ 64) : ∀ {Q : PUnit → sProp 𝕄},
    colAt c G WS p V W ⊢ iprop((colAt c G WS p V (wJ WS k p V W n h) -∗ Q ⟨⟩) -∗ wpC c (cols G k p n h) Q) := by
  induction n with
  | zero =>
    intro Q
    iintro H Hk
    unfold cols
    iapply (le_wp_ret (Fr := frame) (a := _))
    iapply Hk
    iexact H
  | succ n ih =>
    intro Q
    rw [show wJ WS k p V W (n + 1) h = updR (wJ WS k p V W n (Nat.le_of_succ_le h)) (rWr k ⟨n, h⟩) (shapeCast S128x128 (wB WS k p V ⟨n, h⟩) shapeCasts_S128x128_S128x128) from rfl]
    iintro H Hk
    unfold cols wpC
    rw [wp_bind]
    iapply (ih (Nat.le_of_succ_le h)) $$ H
    iintro H
    iapply (wp_colC c G k p ⟨n, h⟩ _ _ _) $$ H
    iintro H
    iapply Hk
    iexact H

attribute [local irreducible] cols wJ

/-- What a copy of a weight tile moves. -/
abbrev nW : ℕ := (G.tst 0).view.dmaCredit

/-- Weight tile `k` on its way into slot `p`. -/
def flyW (S : Slot) (p : Fin 2) (q : PosShare TreeShare) (WC : S1920x8192.Idx → Elt F .fp8e4m3) (k : Fin 15) : sProp 𝕄 :=
  fly c S.wsem (nW G) iprop(at' c (G.tst p) fullShare (wcT WC k) ∗ part c G.wc q Finset.univ WC)

/-- Slot `p` not in use. -/
def restW (S : Slot) (p : Fin 2) (q : PosShare TreeShare) (WC : S1920x8192.Idx → Elt F .fp8e4m3) : sProp 𝕄 :=
  iprop(idle c S.wsem ∗ (∃ V, at' c (G.tst p) fullShare V) ∗ part c G.wc q Finset.univ WC)

/-- The start of a weight tile's copy. -/
theorem wp_wStart (S : Slot) (p : Fin 2) (q : PosShare TreeShare) (WC : S1920x8192.Idx → Elt F .fp8e4m3) (k : Fin 15) {Q : PUnit → sProp 𝕄} :
    restW c G S p q WC ⊢ iprop((flyW c G S p q WC k -∗ Q ⟨⟩) -∗ wpC c (wStart G S k p) Q) := by
  unfold restW flyW wStart
  iintro ⟨Hs, ⟨%V, Hv⟩, Hc⟩ Hk
  ihave Hc := (borrow_slice_same c G.wc q (rWc k) (fun _ => rfl) (Finset.subset_univ _) WC) $$ Hc
  icases Hc with ⟨Hc, Hb⟩
  iapply (wp_start c (G.twc k) (G.tst p) S.wsem (nW G) rfl (View.dmaCredit_pos _ (by decide)) q (wcT WC k) V (part c G.wc q Finset.univ WC) (at' c (G.tst p) fullShare (wcT WC k))) $$ [Hs Hv Hc Hb]
  · isplitl [Hc]; · iexact Hc
    isplitl [Hv]; · iexact Hv
    isplitl [Hb]; · iexact Hb
    isplitr; · iintro H; iexact H
    iexact Hs
  iintro Hf
  iapply (le_wp_ret (Fr := frame) (a := _))
  iapply Hk
  iexact Hf

/-- The wait for it. -/
theorem wp_wWait (S : Slot) (p : Fin 2) (q : PosShare TreeShare) (WC : S1920x8192.Idx → Elt F .fp8e4m3) (k k' : Fin 15) {Q : PUnit → sProp 𝕄} :
    iprop(flyW c G S p q WC k ∗ quit c) ⊢ iprop((idle c S.wsem -∗ at' c (G.tst p) fullShare (wcT WC k) -∗ part c G.wc q Finset.univ WC -∗ quit c -∗ Q ⟨⟩) -∗ wpC c (wWait G S k' p) Q) := by
  unfold flyW wWait
  iintro ⟨Hf, HO⟩ Hk
  iapply (wp_stop c (G.tst p) S.wsem (nW G) rfl _) $$ [Hf HO]
  · isplitl [Hf]; · iexact Hf
    iexact HO
  iintro ⟨⟨Hv, Hc⟩, Hs, HO⟩
  iapply (le_wp_ret (Fr := frame) (a := _))
  iapply Hk $$ Hs Hv Hc HO

/-- One slot's place at the start of trip `k`: its tile on its way if the tile is one of the fifteen, else not in use. -/
def mayW (S : Slot) (p : Fin 2) (q : PosShare TreeShare) (WC : S1920x8192.Idx → Elt F .fp8e4m3) (k : ℕ) : sProp 𝕄 :=
  if h : k < 15 then flyW c G S p q WC ⟨k, h⟩ else restW c G S p q WC

/-- A tile of the fifteen is on its way. -/
theorem mayW_lt (S : Slot) (p : Fin 2) (q : PosShare TreeShare) (WC : S1920x8192.Idx → Elt F .fp8e4m3) (k : Fin 15) : mayW c G S p q WC k = flyW c G S p q WC k := dif_pos k.isLt

/-- The state at the start of trip `k` of the loop over weight tiles. -/
def invW (WS : S15x64.Idx → Elt F .f32) (WC : S1920x8192.Idx → Elt F .fp8e4m3) (W : S2048x8192.Idx → Elt F .bf16) (k : ℕ) (h : k ≤ 15) : sProp 𝕄 :=
  iprop((if k % 2 = 0 then iprop(mayW c G A 0 fullShare.left WC k ∗ restW c G B 1 fullShare.right WC) else iprop(mayW c G B 1 fullShare.right WC k ∗ restW c G A 0 fullShare.left WC))
    ∗ at' c G.ws fullShare WS ∗ part c G.w fullShare inRows (wK WS WC W k h) ∗ quit c)

/-- One trip, from the slot `S` in flight and the other `S'`. -/
theorem wp_wtrip_aux (S S' : Slot) (p p' : Fin 2) (q q' : PosShare TreeShare) (WS : S15x64.Idx → Elt F .f32) (WC : S1920x8192.Idx → Elt F .fp8e4m3) (W : S2048x8192.Idx → Elt F .bf16) (k : Fin 15) (hp : p = ⟨k.val % 2, Nat.mod_lt _ (by decide)⟩) {Q : PUnit → sProp 𝕄} :
    iprop(flyW c G S p q WC k ∗ restW c G S' p' q' WC ∗ at' c G.ws fullShare WS ∗ part c G.w fullShare inRows (wK WS WC W k k.isLt.le) ∗ quit c)
    ⊢ iprop((mayW c G S' p' q' WC (k + 1) -∗ restW c G S p q WC -∗ at' c G.ws fullShare WS -∗ part c G.w fullShare inRows (wK WS WC W (k + 1) k.isLt) -∗ quit c -∗ Q ⟨⟩)
      -∗ wpC c (if h : k.val < 14 then (wStart G S' ⟨k.val + 1, by omega⟩ p' >>= fun _ => wWait G S k p >>= fun _ => cols G k p 64 (Nat.le_refl 64)) else (wWait G S k p >>= fun _ => cols G k p 64 (Nat.le_refl 64))) Q) := by
  subst hp
  have hK : wK WS WC W (k + 1) k.isLt = wJ WS k ⟨k.val % 2, Nat.mod_lt _ (by decide)⟩ (wcT WC k) (wK WS WC W k k.isLt.le) 64 le_rfl := wK_succ ..
  rw [hK]
  iintro ⟨Hf, Hr, Hs, Hw, HO⟩ Hk
  have tail : ∀ (_ : True), iprop(flyW c G S ⟨k.val % 2, Nat.mod_lt _ (by decide)⟩ q WC k ∗ at' c G.ws fullShare WS ∗ part c G.w fullShare inRows (wK WS WC W k k.isLt.le) ∗ quit c)
      ⊢ iprop((restW c G S ⟨k.val % 2, Nat.mod_lt _ (by decide)⟩ q WC -∗ at' c G.ws fullShare WS -∗ part c G.w fullShare inRows (wJ WS k ⟨k.val % 2, Nat.mod_lt _ (by decide)⟩ (wcT WC k) (wK WS WC W k k.isLt.le) 64 le_rfl) -∗ quit c -∗ Q ⟨⟩)
        -∗ wpC c (wWait G S k ⟨k.val % 2, Nat.mod_lt _ (by decide)⟩ >>= fun _ => cols G k ⟨k.val % 2, Nat.mod_lt _ (by decide)⟩ 64 (Nat.le_refl 64)) Q) := by
    intro _
    iintro ⟨Hf, Hs, Hw, HO⟩ Hk
    unfold wpC
    rw [wp_bind]
    iapply (wp_wWait c G S _ q WC k k) $$ [Hf HO]
    · isplitl [Hf] <;> iassumption
    iintro Hi Hv Hc HO
    iapply (wp_cols c G k _ WS (wcT WC k) (wK WS WC W k k.isLt.le) 64 le_rfl) $$ [Hs Hv Hw]
    · unfold colAt
      isplitl [Hs]; · iexact Hs
      isplitl [Hv] <;> iassumption
    unfold colAt
    iintro ⟨Hs, Hv, Hw⟩
    iapply Hk $$ [Hi Hv Hc] Hs [Hw] HO
    · unfold restW
      isplitl [Hi]; · iexact Hi
      isplitl [Hv]
      · iexists _; iexact Hv
      iexact Hc
    · iexact Hw
  by_cases h : k.val < 14
  · rw [dif_pos h]
    unfold wpC
    rw [wp_bind]
    iapply (wp_wStart c G S' p' q' WC ⟨k.val + 1, Nat.succ_lt_succ h⟩) $$ Hr
    iintro Hr
    iapply (tail trivial) $$ [Hf Hs Hw HO]
    · isplitl [Hf]; · iexact Hf
      isplitl [Hs]; · iexact Hs
      isplitl [Hw] <;> iassumption
    iapply Hk
    unfold mayW
    rw [dif_pos (show k.val + 1 < 15 by omega)]
    iexact Hr
  · rw [dif_neg h]
    iapply (tail trivial) $$ [Hf Hs Hw HO]
    · isplitl [Hf]; · iexact Hf
      isplitl [Hs]; · iexact Hs
      isplitl [Hw] <;> iassumption
    iapply Hk
    unfold mayW
    rw [dif_neg (show ¬ k.val + 1 < 15 by omega)]
    iexact Hr

/-- One trip of the loop over weight tiles. -/
theorem wp_wtrip (WS : S15x64.Idx → Elt F .f32) (WC : S1920x8192.Idx → Elt F .fp8e4m3) (W : S2048x8192.Idx → Elt F .bf16) (k : Fin 15) {Q : PUnit → sProp 𝕄} :
    invW c G A B WS WC W k k.isLt.le ⊢ iprop((invW c G A B WS WC W (k + 1) k.isLt -∗ Q ⟨⟩) -∗ wpC c (wtrip G A B k) Q) := by
  unfold invW wtrip
  rcases Nat.mod_two_eq_zero_or_one k.val with h | h
  · have hp : (0 : Fin 2) = ⟨k.val % 2, Nat.mod_lt _ (by decide)⟩ := Fin.ext h.symm
    simp only [if_pos h, if_neg (show ¬ (k.val + 1) % 2 = 0 by omega)]
    rw [mayW_lt]
    iintro ⟨⟨Hf, Hr⟩, Hs, Hw, HO⟩ Hk
    rw [← hp]
    iapply (wp_wtrip_aux c G A B 0 1 fullShare.left fullShare.right WS WC W k hp) $$ [Hf Hr Hs Hw HO]
    · isplitl [Hf]
      · iexact Hf
      isplitl [Hr]; · iexact Hr
      isplitl [Hs]; · iexact Hs
      isplitl [Hw] <;> iassumption
    iintro Hf Hr Hs Hw HO
    iapply Hk
    isplitl [Hf Hr]
    · isplitl [Hf] <;> iassumption
    isplitl [Hs]; · iexact Hs
    isplitl [Hw] <;> iassumption
  · have hp : (1 : Fin 2) = ⟨k.val % 2, Nat.mod_lt _ (by decide)⟩ := Fin.ext h.symm
    simp only [if_neg (show ¬ k.val % 2 = 0 by omega), if_pos (show (k.val + 1) % 2 = 0 by omega)]
    rw [mayW_lt]
    iintro ⟨⟨Hf, Hr⟩, Hs, Hw, HO⟩ Hk
    rw [← hp]
    iapply (wp_wtrip_aux c G B A 1 0 fullShare.right fullShare.left WS WC W k hp) $$ [Hf Hr Hs Hw HO]
    · isplitl [Hf]
      · iexact Hf
      isplitl [Hr]; · iexact Hr
      isplitl [Hs]; · iexact Hs
      isplitl [Hw] <;> iassumption
    iintro Hf Hr Hs Hw HO
    iapply Hk
    isplitl [Hf Hr]
    · isplitl [Hf] <;> iassumption
    isplitl [Hs]; · iexact Hs
    isplitl [Hw] <;> iassumption
end

end Cert.KernelIdeal.Own
-- ==== Proof.Tiles.lean ====
module

public import proofs.«01_k».proof.Proof.Weights

/-! What a pass over a tile computes, and results gathered tile by tile. -/

@[expose] public section

set_option maxRecDepth 10000

noncomputable section

namespace Cert.KernelIdeal.Own

open Cert.KernelIdeal Facts₀ Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-! ## Contents that do not depend on what the buffers held -/

/-- Replacing a rectangle in two contents that agree outside of it gives contents that agree. -/
theorem updR_agree {s : Shape} {T : Type} (X X' : s.Idx → T) (r : Rect s) (w : r.shape.Idx → T) (y : s.Idx) (h : y ∉ r.set → X y = X' y) : updR X r w y = updR X' r w y := by
  by_cases hy : ∃ x, r.emb x = y
  · obtain ⟨x, rfl⟩ := hy; rw [updR_hit, updR_hit]
  · rw [updR_miss _ _ _ _ (fun x hx => hy ⟨x, hx⟩), updR_miss _ _ _ _ (fun x hx => hy ⟨x, hx⟩)]
    exact h (fun hm => hy (r.exists_idx_of_mem hm))

variable [Facts]

/-- The codes' buffer after `n` blocks, on those blocks, whatever it held. -/
theorem cI_agree (X : S256x2048.Idx → Elt F .bf16) (I : S15x128.Idx → Elt F .i32) (Y Y' : S256x1920.Idx → Elt F .fp8e4m3) (y : S256x1920.Idx) :
    ∀ (n : ℕ) (h : n ≤ 15), (y 1 : ℕ) < 128 * n → cI X I Y n h y = cI X I Y' n h y
  | 0, _, hy => by omega
  | n + 1, h, hy => by
    rw [cI, cI]
    refine updR_agree _ _ _ _ _ fun hm => cI_agree X I Y Y' y n _ ?_
    by_contra hc
    refine hm ((rC ⟨n, h⟩).mem_set.mpr fun a => ?_)
    match a with
    | ⟨0, _⟩ => exact ⟨y 0, (y 0).isLt, by show (y 0 : ℕ) = 0 + 1 * (y 0 : ℕ); omega⟩
    | ⟨1, _⟩ => exact ⟨(y 1 : ℕ) - 128 * n, by show (y 1 : ℕ) - 128 * n < 128; omega, by show (y 1 : ℕ) = 128 * n + 1 * ((y 1 : ℕ) - 128 * n); omega⟩

/-- The scales' buffer after `n` blocks, on those blocks, whatever it held. -/
theorem sI_agree (X : S256x2048.Idx → Elt F .bf16) (I : S15x128.Idx → Elt F .i32) (Y Y' : S256x15.Idx → Elt F .f32) (y : S256x15.Idx) :
    ∀ (n : ℕ) (h : n ≤ 15), (y 1 : ℕ) < n → sI X I Y n h y = sI X I Y' n h y
  | 0, _, hy => by omega
  | n + 1, h, hy => by
    rw [sI, sI]
    refine updR_agree _ _ _ _ _ fun hm => sI_agree X I Y Y' y n _ ?_
    by_contra hc
    refine hm ((rS ⟨n, h⟩).mem_set.mpr fun a => ?_)
    match a with
    | ⟨0, _⟩ => exact ⟨y 0, (y 0).isLt, by show (y 0 : ℕ) = 0 + 1 * (y 0 : ℕ); omega⟩
    | ⟨1, _⟩ => exact ⟨0, by show 0 < 1; omega, by show (y 1 : ℕ) = n + 1 * 0; omega⟩

/-- The dequantised tile after `n` blocks, on those blocks, whatever it held. -/
theorem dI_agree (X : S256x2048.Idx → Elt F .bf16) (I : S15x128.Idx → Elt F .i32) (Y Y' : S256x2048.Idx → Elt F .bf16) (y : S256x2048.Idx) :
    ∀ (n : ℕ) (h : n ≤ 15), (y 1 : ℕ) < 128 * n → dI X I Y n h y = dI X I Y' n h y
  | 0, _, hy => by omega
  | n + 1, h, hy => by
    rw [dI, dI]
    refine updR_agree _ _ _ _ _ fun hm => dI_agree X I Y Y' y n _ ?_
    by_contra hc
    refine hm ((rX (Fin.castSucc ⟨n, h⟩)).mem_set.mpr fun a => ?_)
    match a with
    | ⟨0, _⟩ => exact ⟨y 0, (y 0).isLt, by show (y 0 : ℕ) = 0 + 1 * (y 0 : ℕ); omega⟩
    | ⟨1, _⟩ => exact ⟨(y 1 : ℕ) - 128 * n, by show (y 1 : ℕ) - 128 * n < 128; omega, by show (y 1 : ℕ) = 128 * n + 1 * ((y 1 : ℕ) - 128 * n); omega⟩

/-- The product's buffer after `n` parts, on those parts, whatever it held. -/
theorem yI_agree (D : S256x2048.Idx → Elt F .bf16) (W : S2048x8192.Idx → Elt F .bf16) (Y Y' : S256x8192.Idx → Elt F .bf16) (y : S256x8192.Idx) :
    ∀ (n : ℕ) (h : n ≤ 16), (y 1 : ℕ) < 512 * n → yI D W Y n h y = yI D W Y' n h y
  | 0, _, hy => by omega
  | n + 1, h, hy => by
    rw [yI, yI]
    refine updR_agree _ _ _ _ _ fun hm => yI_agree D W Y Y' y n _ ?_
    by_contra hc
    refine hm ((rY ⟨n, h⟩).mem_set.mpr fun a => ?_)
    match a with
    | ⟨0, _⟩ => exact ⟨y 0, (y 0).isLt, by show (y 0 : ℕ) = 0 + 1 * (y 0 : ℕ); omega⟩
    | ⟨1, _⟩ => exact ⟨(y 1 : ℕ) - 512 * n, by show (y 1 : ℕ) - 512 * n < 512; omega, by show (y 1 : ℕ) = 512 * n + 1 * ((y 1 : ℕ) - 512 * n); omega⟩

/-- A block's first place. -/
def z128 : S256x128.Idx := fun a => ⟨0, by fin_cases a <;> decide⟩
/-- A column's first place. -/
def z1 : S256x1.Idx := fun a => ⟨0, by fin_cases a <;> decide⟩
/-- A part's first place. -/
def z512 : S256x512.Idx := fun a => ⟨0, by fin_cases a <;> decide⟩

/-- A tile's codes. -/
def cT (X : S256x2048.Idx → Elt F .bf16) (I : S15x128.Idx → Elt F .i32) : S256x1920.Idx → Elt F .fp8e4m3 := cI X I (fun _ => codesV (gB X I 0) z128) 15 le_rfl
/-- A tile's scales. -/
def sT (X : S256x2048.Idx → Elt F .bf16) (I : S15x128.Idx → Elt F .i32) : S256x15.Idx → Elt F .f32 := sI X I (fun _ => scaleV (gB X I 0) z1) 15 le_rfl
/-- A tile dequantised. -/
def dT (X : S256x2048.Idx → Elt F .bf16) (I : S15x128.Idx → Elt F .i32) (O : S1x128.Idx → Elt F .i32) : S256x2048.Idx → Elt F .bf16 := dL X I O (fun _ => xdV (gB X I 0) z128)
/-- A tile's product. -/
def yT (D : S256x2048.Idx → Elt F .bf16) (W : S2048x8192.Idx → Elt F .bf16) : S256x8192.Idx → Elt F .bf16 :=
  yI D W (fun _ => yV (fun x => D (rXX.emb x)) (fun x => W ((rW 0).emb x)) z512) 16 le_rfl

/-- The codes' buffer after a pass. -/
theorem cI_eq (X : S256x2048.Idx → Elt F .bf16) (I : S15x128.Idx → Elt F .i32) (Y) : cI X I Y 15 le_rfl = cT X I :=
  funext fun y => cI_agree X I _ _ y 15 le_rfl (by have h : (y 1 : ℕ) < 1920 := (y 1).isLt; omega)
/-- The scales' buffer after a pass. -/
theorem sI_eq (X : S256x2048.Idx → Elt F .bf16) (I : S15x128.Idx → Elt F .i32) (Y) : sI X I Y 15 le_rfl = sT X I :=
  funext fun y => sI_agree X I _ _ y 15 le_rfl (y 1).isLt
/-- The dequantised tile after a pass. -/
theorem dL_eq (X : S256x2048.Idx → Elt F .bf16) (I : S15x128.Idx → Elt F .i32) (O : S1x128.Idx → Elt F .i32) (Y) : dL X I O Y = dT X I O := by
  funext y
  refine updR_agree _ _ _ _ _ fun hm => dI_agree X I _ _ y 15 le_rfl ?_
  by_contra hc
  have h : (y 1 : ℕ) < 2048 := (y 1).isLt
  refine hm ((rX 15).mem_set.mpr fun a => ?_)
  match a with
  | ⟨0, _⟩ => exact ⟨y 0, (y 0).isLt, by show (y 0 : ℕ) = 0 + 1 * (y 0 : ℕ); omega⟩
  | ⟨1, _⟩ => exact ⟨(y 1 : ℕ) - 1920, by show (y 1 : ℕ) - 1920 < 128; omega, by show (y 1 : ℕ) = 1920 + 1 * ((y 1 : ℕ) - 1920); omega⟩
/-- The product's buffer after a pass. -/
theorem yI_eq (D : S256x2048.Idx → Elt F .bf16) (W : S2048x8192.Idx → Elt F .bf16) (Y) : yI D W Y 16 le_rfl = yT D W :=
  funext fun y => yI_agree D W _ _ y 16 le_rfl (by have h : (y 1 : ℕ) < 8192 := (y 1).isLt; omega)

/-- The last part of a product. -/
theorem yI_last (D : S256x2048.Idx → Elt F .bf16) (W : S2048x8192.Idx → Elt F .bf16) (Y : S256x8192.Idx → Elt F .bf16) :
    updR (yI D W Y 15 (Nat.le_succ 15)) (rY 15) (shapeCast S256x512 (yV (fun x => D (rXX.emb x)) (fun x => W ((rW 15).emb x))) shapeCasts_S256x512_S256x512) = yT D W :=
  (yI_eq D W Y)

/-! ## Results gathered tile by tile -/

section
variable {s : Shape} {T : Type} (r : Fin 64 → Rect s) (tl : s.Idx → Fin 64) (hr : ∀ t y, y ∈ (r t).set ↔ tl y = t)

/-- The whole result whose tile `t` is `V t`. -/
def asm (V : ∀ t, (r t).shape.Idx → T) (y : s.Idx) : T := V (tl y) ((r (tl y)).exists_idx_of_mem ((hr _ _).mpr rfl)).choose

/-- The whole result on tile `t`. -/
theorem asm_emb (V : ∀ t, (r t).shape.Idx → T) (t : Fin 64) (x : (r t).shape.Idx) : asm r tl hr V ((r t).emb x) = V t x := by
  have key : ∀ (t' : Fin 64) (h : ∃ j, (r t').idx j = (r t).emb x) (e : t' = t), V t' h.choose = V t x := by
    intro t' h e
    subst e
    exact congrArg (V t') ((r t').emb.injective h.choose_spec)
  exact key _ _ ((hr t _).mp ((r t).idx_mem x))

/-- The result with its first `n` tiles in place. -/
def home (V : ∀ t, (r t).shape.Idx → T) (Y : s.Idx → T) (n : ℕ) (y : s.Idx) : T := if (tl y).val < n then asm r tl hr V y else Y y

/-- The places of the tiles of parity `p`. -/
def Par (p : ℕ) : Finset s.Idx := Finset.univ.filter fun y => (tl y).val % 2 = p

include hr in
/-- A tile is among those of its parity. -/
theorem r_Par (t : Fin 64) (p : ℕ) (h : t.val % 2 = p) : (r t).set ⊆ Par tl p := fun y hy => by
  have := (hr t y).mp hy
  exact Finset.mem_filter.mpr ⟨Finset.mem_univ _, by rw [this]; exact h⟩

/-- Tile `t` put in place. -/
theorem home_upd (V : ∀ t, (r t).shape.Idx → T) (Y : s.Idx → T) (t : Fin 64) (n : ℕ) (hn : n = t.val ∨ n + 1 = t.val) (y : s.Idx) (hy : y ∈ Par tl (t.val % 2)) :
    updR (home r tl hr V Y n) (r t) (V t) y = home r tl hr V Y (t.val + 1) y := by
  have hp := (Finset.mem_filter.mp hy).2
  by_cases h : ∃ x, (r t).emb x = y
  · obtain ⟨x, rfl⟩ := h
    rw [updR_hit]
    unfold home
    rw [if_pos, asm_emb]
    rw [show tl ((r t).emb x) = t from (hr t _).mp ((r t).idx_mem x)]; omega
  · rw [updR_miss _ _ _ _ (fun x hx => h ⟨x, hx⟩)]
    have hne : tl y ≠ t := fun e => h ((r t).exists_idx_of_mem ((hr t y).mpr e))
    have : (tl y).val ≠ t.val := fun e => hne (Fin.ext e)
    unfold home
    by_cases hlt : (tl y).val < n
    · rw [if_pos hlt, if_pos (by omega)]
    · rw [if_neg hlt, if_neg (by omega)]

/-- Tiles of one parity are in place or not in pairs. -/
theorem home_par (V : ∀ t, (r t).shape.Idx → T) (Y : s.Idx → T) (n : ℕ) (y : s.Idx) (hy : y ∈ Par tl ((n + 1) % 2)) :
    home r tl hr V Y n y = home r tl hr V Y (n + 1) y := by
  have hp := (Finset.mem_filter.mp hy).2
  unfold home
  by_cases hlt : (tl y).val < n
  · rw [if_pos hlt, if_pos (by omega)]
  · rw [if_neg hlt, if_neg (by omega)]

/-- With no tile in place it is what it was. -/
theorem home_zero (V : ∀ t, (r t).shape.Idx → T) (Y : s.Idx → T) : home r tl hr V Y 0 = Y := funext fun y => if_neg (by omega)

/-- With all in place it is the whole result. -/
theorem home_all (V : ∀ t, (r t).shape.Idx → T) (Y : s.Idx → T) (n : ℕ) (hn : 64 ≤ n) : home r tl hr V Y n = asm r tl hr V := funext fun y => if_pos (by have := (tl y).isLt; omega)

/-- The two parities make all. -/
theorem Par_union : (Par tl 0 ∪ Par tl 1 : Finset s.Idx) = Finset.univ := by
  ext y
  simp only [Par, Finset.mem_union, Finset.mem_filter, Finset.mem_univ, true_and, iff_true]
  omega

/-- They have nothing in common. -/
theorem Par_disjoint : Disjoint (Par tl 0 : Finset s.Idx) (Par tl 1) := by
  refine Finset.disjoint_left.mpr fun y h h' => ?_
  have := (Finset.mem_filter.mp h).2
  have := (Finset.mem_filter.mp h').2
  omega
end

/-! ## A tile's copy to a result -/

section
variable (c : Dev nD) {sp sp' : Space} {s s' : Shape} {e : EltTy} (b : Memref sig .tc sp s' e) (sm : DmaSem sig) (g : Memref sig .tc sp' s e) (T : Finset s.Idx) (f : s.Idx → Elt F e)

/-- A tile's buffer not in use, beside the places of the result its copies go to. -/
def oFree : sProp 𝕄 := iprop(idle c sm ∗ (∃ V, at' c b fullShare V) ∗ part c g fullShare T f)
/-- A tile's buffer on its way to the result. -/
def oFly (N : ℕ) : sProp 𝕄 := fly c sm N iprop(part c g fullShare T f ∗ ∃ V, at' c b fullShare V)

/-- The wait for a tile's copy. -/
theorem wp_oStop {α : Type} {sp₁ : Space} {s₁ : Shape} (dst : Memref sig .tc sp₁ s₁ e) {k : PUnit → Pg F α} {Q : α → sProp 𝕄} (N : ℕ) (hN : dst.view.dmaCredit = N) :
    iprop(oFly c b sm g T f N ∗ quit c) ⊢ iprop((oFree c b sm g T f -∗ quit c -∗ wpC c (k ⟨⟩) Q) -∗ wpC c (.op (.waitDma sm dst.view.ref s₁ e (.inr dst.hasMemref)) k) Q) := by
  unfold oFly oFree
  iintro H Hk
  iapply (wp_stop c dst sm N hN _) $$ H
  iintro ⟨⟨Hp, Hb⟩, Hs, HO⟩
  iapply Hk $$ [Hp Hb Hs] HO
  isplitl [Hs]; · iexact Hs
  isplitl [Hb] <;> iassumption
end

section
variable (c : Dev nD) {sp sp' : Space} {s : Shape} {e : EltTy} (r : Rect s) (b : Memref sig .tc sp r.shape e) (sm : DmaSem sig) (g : Memref sig .tc sp' s e) (T : Finset s.Idx)

/-- The start of a tile's copy. -/
theorem wp_oStart {α : Type} (hst) {hsrc : b.view.WordExact} {hdst : (g.slice r hst).view.WordExact} {hsem : (DmaTarget.here (nD := nD) (τ := τ) (p := .tc) (g.slice r hst)).Typed sp (.dma sm)} {k : PUnit → Pg F α} {Q : α → sProp 𝕄}
    (N : ℕ) (hN : (g.slice r hst).view.dmaCredit = N) (hN0 : 0 < N) (f f' : s.Idx → Elt F e) (V : r.shape.Idx → Elt F e) (hT : r.set ⊆ T) (hf : ∀ y ∈ T, updR f r V y = f' y) :
    iprop(idle c sm ∗ at' c b fullShare V ∗ part c g fullShare T f) ⊢ iprop((oFly c b sm g T f' N -∗ wpC c (k ⟨⟩) Q) -∗ wpC c (.op (.enqueueDma b (.here (g.slice r hst)) (.dma sm) hsrc hdst hsem) k) Q) := by
  unfold oFly
  iintro ⟨Hs, Hb, Hg⟩ Hk
  ihave Hg := (borrow_slice c g fullShare r hst hT f) $$ Hg
  icases Hg with ⟨Hg, Hgb⟩
  iapply (wp_start c b (g.slice r hst) sm N hN hN0 fullShare V _ iprop(∃ V, at' c b fullShare V) (part c g fullShare T f')) $$ [Hs Hb Hg Hgb]
  · isplitl [Hb]; · iexact Hb
    isplitl [Hg]; · iexact Hg
    isplitr
    · iintro H; iexists _; iexact H
    isplitl [Hgb]
    · iintro H
      iapply (part_congr c g fullShare hf)
      iapply Hgb $$ H
    iexact Hs
  iintro Hf
  iapply Hk
  iexact Hf
end

end Cert.KernelIdeal.Own
-- ==== Proof.Phase.lean ====
module

public import proofs.«01_k».proof.Proof.Tiles

/-! A pass over a tile and the loop over tiles. -/

@[expose] public section

set_option maxRecDepth 10000

noncomputable section

namespace Cert.KernelIdeal.Own

open Cert.KernelIdeal Facts₀ Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-- Rows `256 t …` of the inputs. -/
abbrev rTx (t : Fin 64) : Rect S16384x2048 := Rect.unit (s := S16384x2048) ![256 * t.val, 0] S256x2048.size (inb_tx t)
/-- Rows `256 t …` of the product. -/
abbrev rTy (t : Fin 64) : Rect S16384x8192 := Rect.unit (s := S16384x8192) ![256 * t.val, 0] S256x8192.size (inb_ty t)
/-- Rows `256 t …` of the codes. -/
abbrev rTc (t : Fin 64) : Rect S16384x1920 := Rect.unit (s := S16384x1920) ![256 * t.val, 0] S256x1920.size (inb_tc t)
/-- Rows `256 t …` of the scales. -/
abbrev rTs (t : Fin 64) : Rect S16384x15 := Rect.unit (s := S16384x15) ![256 * t.val, 0] S256x15.size (inb_ts t)

/-- The tile of a place of the product. -/
def tlY (y : S16384x8192.Idx) : Fin 64 := ⟨(y 0 : ℕ) / 256, by have h : (y 0 : ℕ) < 16384 := (y 0).isLt; omega⟩
/-- The tile of a place of the codes. -/
def tlC (y : S16384x1920.Idx) : Fin 64 := ⟨(y 0 : ℕ) / 256, by have h : (y 0 : ℕ) < 16384 := (y 0).isLt; omega⟩
/-- The tile of a place of the scales. -/
def tlS (y : S16384x15.Idx) : Fin 64 := ⟨(y 0 : ℕ) / 256, by have h : (y 0 : ℕ) < 16384 := (y 0).isLt; omega⟩

/-- The rows of tile `t` are the places whose tile is `t`. -/
theorem hrY (t : Fin 64) (y : S16384x8192.Idx) : y ∈ (rTy t).set ↔ tlY y = t := by
  constructor
  · intro h
    obtain ⟨x, rfl⟩ := (rTy t).exists_idx_of_mem h
    have hx : (x 0 : ℕ) < 256 := (x 0).isLt
    refine Fin.ext ?_
    show (256 * t.val + 1 * (x 0 : ℕ)) / 256 = t.val
    omega
  · intro h
    have h' : (y 0 : ℕ) / 256 = t.val := congrArg Fin.val h
    refine (rTy t).mem_set.mpr fun a => ?_
    match a with
    | ⟨0, _⟩ => exact ⟨(y 0 : ℕ) - 256 * t.val, by show (y 0 : ℕ) - 256 * t.val < 256; omega, by show (y 0 : ℕ) = 256 * t.val + 1 * ((y 0 : ℕ) - 256 * t.val); omega⟩
    | ⟨1, _⟩ => exact ⟨y 1, (y 1).isLt, by show (y 1 : ℕ) = 0 + 1 * (y 1 : ℕ); omega⟩

/-- The rows of tile `t` are the places whose tile is `t`. -/
theorem hrC (t : Fin 64) (y : S16384x1920.Idx) : y ∈ (rTc t).set ↔ tlC y = t := by
  constructor
  · intro h
    obtain ⟨x, rfl⟩ := (rTc t).exists_idx_of_mem h
    have hx : (x 0 : ℕ) < 256 := (x 0).isLt
    refine Fin.ext ?_
    show (256 * t.val + 1 * (x 0 : ℕ)) / 256 = t.val
    omega
  · intro h
    have h' : (y 0 : ℕ) / 256 = t.val := congrArg Fin.val h
    refine (rTc t).mem_set.mpr fun a => ?_
    match a with
    | ⟨0, _⟩ => exact ⟨(y 0 : ℕ) - 256 * t.val, by show (y 0 : ℕ) - 256 * t.val < 256; omega, by show (y 0 : ℕ) = 256 * t.val + 1 * ((y 0 : ℕ) - 256 * t.val); omega⟩
    | ⟨1, _⟩ => exact ⟨y 1, (y 1).isLt, by show (y 1 : ℕ) = 0 + 1 * (y 1 : ℕ); omega⟩

/-- The rows of tile `t` are the places whose tile is `t`. -/
theorem hrS (t : Fin 64) (y : S16384x15.Idx) : y ∈ (rTs t).set ↔ tlS y = t := by
  constructor
  · intro h
    obtain ⟨x, rfl⟩ := (rTs t).exists_idx_of_mem h
    have hx : (x 0 : ℕ) < 256 := (x 0).isLt
    refine Fin.ext ?_
    show (256 * t.val + 1 * (x 0 : ℕ)) / 256 = t.val
    omega
  · intro h
    have h' : (y 0 : ℕ) / 256 = t.val := congrArg Fin.val h
    refine (rTs t).mem_set.mpr fun a => ?_
    match a with
    | ⟨0, _⟩ => exact ⟨(y 0 : ℕ) - 256 * t.val, by show (y 0 : ℕ) - 256 * t.val < 256; omega, by show (y 0 : ℕ) = 256 * t.val + 1 * ((y 0 : ℕ) - 256 * t.val); omega⟩
    | ⟨1, _⟩ => exact ⟨y 1, (y 1).isLt, by show (y 1 : ℕ) = 0 + 1 * (y 1 : ℕ); omega⟩

variable [Facts]

/-- What the tiles are computed from, and what the results held before. -/
structure Ctx (F : FTy → Type) where
  X : S16384x2048.Idx → Elt F .bf16
  I : S15x128.Idx → Elt F .i32
  O : S1x128.Idx → Elt F .i32
  W : S2048x8192.Idx → Elt F .bf16
  Y : S16384x8192.Idx → Elt F .bf16
  C : S16384x1920.Idx → Elt F .fp8e4m3
  S : S16384x15.Idx → Elt F .f32

variable (K : Ctx F)

/-- Tile `t` of the inputs. -/
def Ctx.xt (t : Fin 64) : S256x2048.Idx → Elt F .bf16 := fun x => K.X ((rTx t).emb x)
/-- Tile `t` of the codes. -/
def Ctx.ct (t : Fin 64) : (rTc t).shape.Idx → Elt F .fp8e4m3 := cT (K.xt t) K.I
/-- Tile `t` of the scales. -/
def Ctx.st (t : Fin 64) : (rTs t).shape.Idx → Elt F .f32 := sT (K.xt t) K.I
/-- Tile `t` dequantised. -/
def Ctx.dt (t : Fin 64) : S256x2048.Idx → Elt F .bf16 := dT (K.xt t) K.I K.O
/-- Tile `t` of the product. -/
def Ctx.yt (t : Fin 64) : (rTy t).shape.Idx → Elt F .bf16 := yT (K.dt t) K.W
/-- The codes with `n` tiles in place. -/
def Ctx.hc (n : ℕ) : S16384x1920.Idx → Elt F .fp8e4m3 := home rTc tlC hrC K.ct K.C n
/-- The scales with `n` tiles in place. -/
def Ctx.hs (n : ℕ) : S16384x15.Idx → Elt F .f32 := home rTs tlS hrS K.st K.S n
/-- The product with `n` tiles in place. -/
def Ctx.hy (n : ℕ) : S16384x8192.Idx → Elt F .bf16 := home rTy tlY hrY K.yt K.Y n

attribute [local irreducible] chunks blks cI sI dI yI xoI home asm

section
variable (c : Dev nD) (G : Glob) (A B : Slot)

/-- What a copy of a tile of the inputs moves. -/
abbrev nX (S : Slot) : ℕ := S.x.view.dmaCredit
/-- What a copy of a tile of the product moves. -/
abbrev nY : ℕ := (G.ty 0).view.dmaCredit
/-- What a copy of a tile of the codes moves. -/
abbrev nC : ℕ := (G.tc 0).view.dmaCredit
/-- What a copy of a tile of the scales moves. -/
abbrev nS : ℕ := (G.ts 0).view.dmaCredit

/-- A slot's input buffer not in use, holding tile `t` if there is one. -/
def xGot (S : Slot) (q : PosShare TreeShare) (t : ℕ) : sProp 𝕄 :=
  iprop(idle c S.xsem ∗ (∃ X, ⌜∀ h : t < 64, X = K.xt ⟨t, h⟩⌝ ∗ at' c S.x fullShare X) ∗ part c G.x q Finset.univ K.X)
/-- Tile `t` of the inputs on its way, or the slot's buffer not in use if there is none. -/
def xMay (S : Slot) (q : PosShare TreeShare) (t : ℕ) : sProp 𝕄 :=
  if h : t < 64 then fly c S.xsem (nX S) iprop(at' c S.x fullShare (K.xt ⟨t, h⟩) ∗ part c G.x q Finset.univ K.X) else xGot K c G S q 64

/-- A tile's copy to a result on its way if `P`, else its buffer not in use. -/
def oMay {sp sp' : Space} {s s' : Shape} {e : EltTy} (P : Prop) [Decidable P] (b : Memref sig .tc sp s' e) (sm : DmaSem sig) (g : Memref sig .tc sp' s e) (T : Finset s.Idx) (f : s.Idx → Elt F e) (N : ℕ) : sProp 𝕄 :=
  if P then oFly c b sm g T f N else oFree c b sm g T f

/-- The start of an input tile's copy, if there is one to start. -/
theorem wp_xStart (S : Slot) (q : PosShare TreeShare) (u : ℕ) (t : Fin 64) (n : ℕ) (hn : n < 64 → t.val = n) {P : Prop} [Decidable P] (hP : P ↔ n < 64) {hs : (G.tx t).view.WordExact} {hd : S.x.view.WordExact} {ht : (DmaTarget.here (nD := nD) (τ := τ) (p := .tc) S.x).Typed .hbm (.dma S.xsem)} {Q : PUnit → sProp 𝕄} :
    xGot K c G S q u ⊢ iprop((xMay K c G S q n -∗ Q ⟨⟩) -∗ wpC c (if P then Prog.lift (.enqueueDma (G.tx t) (.here S.x) (.dma S.xsem) hs hd ht) else pure ⟨⟩) Q) := by
  by_cases h : P
  · rw [if_pos h]
    unfold xGot xMay
    have h' := hP.mp h
    rw [dif_pos h']
    have e : (⟨n, h'⟩ : Fin 64) = t := Fin.ext (hn h').symm
    rw [e]
    iintro ⟨Hs, ⟨%V, -, Hv⟩, Hx⟩ Hk
    ihave Hx := (borrow_slice_same c G.x q (rTx t) (fun _ => rfl) (Finset.subset_univ _) K.X) $$ Hx
    icases Hx with ⟨Hx, Hb⟩
    iapply (wp_start c (G.tx t) S.x S.xsem (nX S) rfl (View.dmaCredit_pos _ (by decide)) q (K.xt t) V (part c G.x q Finset.univ K.X) (at' c S.x fullShare (K.xt t))) $$ [Hs Hv Hx Hb]
    · isplitl [Hx]; · iexact Hx
      isplitl [Hv]; · iexact Hv
      isplitl [Hb]; · iexact Hb
      isplitr; · iintro H; iexact H
      iexact Hs
    iintro Hf
    iapply (le_wp_ret (Fr := frame) (a := _))
    iapply Hk
    iexact Hf
  · rw [if_neg h]
    have h' : ¬ n < 64 := fun hh => h (hP.mpr hh)
    unfold xMay
    rw [dif_neg h']
    unfold xGot
    iintro ⟨Hs, ⟨%V, -, Hv⟩, Hx⟩ Hk
    iapply (le_wp_ret (Fr := frame) (a := _))
    iapply Hk
    isplitl [Hs]; · iexact Hs
    isplitl [Hv]
    · iexists V; isplitr
      · ipureintro; intro h; omega
      iexact Hv
    iexact Hx

/-- The wait for an input tile's copy, if there is one. -/
theorem wp_xStop (S : Slot) (q : PosShare TreeShare) (n : ℕ) {P : Prop} [Decidable P] (hP : P ↔ n < 64) {Q : PUnit → sProp 𝕄} :
    iprop(xMay K c G S q n ∗ quit c) ⊢ iprop((xGot K c G S q n -∗ quit c -∗ Q ⟨⟩) -∗ wpC c (if P then Prog.lift (.waitDma S.xsem S.x.view.ref S256x2048 .bf16 (.inr S.x.hasMemref)) else pure ⟨⟩) Q) := by
  by_cases h : P
  · rw [if_pos h]
    unfold xMay
    have h' := hP.mp h
    rw [dif_pos h']
    iintro H Hk
    iapply (wp_stop c S.x S.xsem (nX S) rfl _) $$ H
    iintro ⟨⟨Hv, Hx⟩, Hs, HO⟩
    iapply (le_wp_ret (Fr := frame) (a := _))
    iapply Hk $$ [Hv Hx Hs] HO
    unfold xGot
    isplitl [Hs]; · iexact Hs
    isplitl [Hv]
    · iexists _; isplitr; swap; · iexact Hv
      ipureintro; intro _; rfl
    iexact Hx
  · rw [if_neg h]
    have h' : ¬ n < 64 := fun hh => h (hP.mpr hh)
    unfold xMay
    rw [dif_neg h']
    unfold xGot
    iintro ⟨⟨Hs, ⟨%V, -, Hv⟩, Hx⟩, HO⟩ Hk
    iapply (le_wp_ret (Fr := frame) (a := _))
    iapply Hk $$ [Hv Hx Hs] HO
    isplitl [Hs]; · iexact Hs
    isplitl [Hv]
    · iexists V; isplitr
      · ipureintro; intro h; omega
      iexact Hv
    iexact Hx

/-- The wait for a tile's copy, if there is one. -/
theorem wp_oMayStop {sp sp' : Space} {s s' : Shape} {e : EltTy} (P : Prop) [Decidable P] (b : Memref sig .tc sp s' e) (sm : DmaSem sig) (g : Memref sig .tc sp' s e) (T : Finset s.Idx) (f : s.Idx → Elt F e) {sp₁ : Space} {s₁ : Shape} (dst : Memref sig .tc sp₁ s₁ e) {Q : PUnit → sProp 𝕄} (N : ℕ) (hN : dst.view.dmaCredit = N) :
    iprop(oMay c P b sm g T f N ∗ quit c) ⊢ iprop((oFree c b sm g T f -∗ quit c -∗ Q ⟨⟩) -∗ wpC c (if P then Prog.lift (.waitDma sm dst.view.ref s₁ e (.inr dst.hasMemref)) else pure ⟨⟩) Q) := by
  unfold oMay
  by_cases h : P
  · rw [if_pos h, if_pos h]
    iintro H Hk
    iapply (wp_oStop c b sm g T f dst N hN) $$ H
    iintro H HO
    iapply (le_wp_ret (Fr := frame) (a := _))
    iapply Hk $$ H HO
  · rw [if_neg h, if_neg h]
    iintro ⟨H, HO⟩ Hk
    iapply (le_wp_ret (Fr := frame) (a := _))
    iapply Hk $$ H HO

/-- The buffers both slots' passes read. -/
def comA : sProp 𝕄 := iprop(at' c G.idx fullShare K.I ∗ at' c G.oidx fullShare K.O ∗ at' c G.w fullShare K.W)

/-- The state at the start of tile `t`'s pass, from the slot `A` of the tile and the other slot `B`. -/
def invT (q q' : PosShare TreeShare) (p p' : ℕ) (t : ℕ) : sProp 𝕄 :=
  iprop((xGot K c G A q t ∗ xMay K c G B q' (t + 1))
    ∗ (oMay c (t < 64) A.c A.csem G.c (Par tlC p) (K.hc (t + 1)) (nC G) ∗ oMay c (0 < t) B.c B.csem G.c (Par tlC p') (K.hc t) (nC G))
    ∗ (oMay c (t < 64) A.s A.ssem G.s (Par tlS p) (K.hs (t + 1)) (nS G) ∗ oMay c (0 < t) B.s B.ssem G.s (Par tlS p') (K.hs t) (nS G))
    ∗ (oMay c (1 < t) A.y A.ysem G.y (Par tlY p) (K.hy (t - 1)) (nY G) ∗ oMay c (0 < t) B.y B.ysem G.y (Par tlY p') (K.hy t) (nY G))
    ∗ (∃ D, ⌜∀ h : t < 64, D = K.dt ⟨t, h⟩⌝ ∗ at' c A.xd fullShare D) ∗ (∃ D, at' c B.xd fullShare D)
    ∗ comA K c G ∗ quit c)
end

section
variable (c : Dev nD) (G : Glob) (A B : Slot)

/-- A pass's opening, one step after another. -/
theorem openC_eq (t : Fin 64) : (openC G A B t : Pg F PUnit) =
    ((if t.val < 63 then Prog.lift (.waitDma2 B.xsem (G.tx (nxt t)) B.x (G.hx.wordExact_slice rfl _ (wd_tx (nxt t))) B.hx.wordExact) else pure ⟨⟩) >>= fun _ =>
     (if t.val < 62 then Prog.lift (.enqueueDma (G.tx (nxt2 t)) (.here A.x) (.dma A.xsem) (G.hx.wordExact_slice rfl _ (wd_tx (nxt2 t))) A.hx.wordExact ⟨Or.inl rfl, trivial⟩) else pure ⟨⟩) >>= fun _ =>
     (if 0 < t.val then Prog.lift (.waitDma2 B.csem B.c (G.tc (nxt t)) B.hc.wordExact (G.hc.wordExact_slice rfl _ (wd_tc (nxt t)))) else pure ⟨⟩) >>= fun _ =>
     (if 0 < t.val then Prog.lift (.waitDma2 B.ssem B.s (G.ts (nxt t)) B.hs.wordExact (View.wordExact_bits rfl)) else pure ⟨⟩) >>= fun _ =>
     (if 1 < t.val then Prog.lift (.waitDma2 A.ysem A.y (G.ty t) A.hy.wordExact (G.hy.wordExact_slice rfl _ (wd_ty t))) else pure ⟨⟩)) := by
  unfold openC
  by_cases h1 : t.val < 63 <;> by_cases h2 : t.val < 62 <;> by_cases h3 : 0 < t.val <;> by_cases h4 : 1 < t.val <;>
    simp only [h1, h2, h3, h4, if_true, if_false] <;> rfl

/-- A pass's closing, one step after another. -/
theorem closeC_eq (t : Fin 64) : (closeC G A B t : Pg F PUnit) =
    (Prog.lift (.enqueueDma A.y (.here (G.ty t)) (.dma A.ysem) A.hy.wordExact (G.hy.wordExact_slice rfl _ (wd_ty t)) ⟨Or.inl rfl, trivial⟩) >>= fun _ =>
     (if t.val < 63 then Prog.lift (.enqueueDma B.c (.here (G.tc (nxt t))) (.dma B.csem) B.hc.wordExact (G.hc.wordExact_slice rfl _ (wd_tc (nxt t))) ⟨Or.inl rfl, trivial⟩) else pure ⟨⟩) >>= fun _ =>
     (if t.val < 63 then Prog.lift (.enqueueDma B.s (.here (G.ts (nxt t))) (.dma B.ssem) B.hs.wordExact (View.wordExact_bits rfl) ⟨Or.inl rfl, trivial⟩) else pure ⟨⟩)) := by
  unfold closeC
  by_cases h1 : t.val < 63 <;> simp only [h1, if_true, if_false] <;> rfl

/-- The start of a tile's copy to a result, if there is one. -/
theorem wp_oMayStart {sp sp' : Space} {s : Shape} {e : EltTy} (r : Rect s) (b : Memref sig .tc sp r.shape e) (sm : DmaSem sig) (g : Memref sig .tc sp' s e) (T : Finset s.Idx)
    (P P' : Prop) [Decidable P] [Decidable P'] (hPP : P ↔ P') (hst) {hsrc : b.view.WordExact} {hdst : (g.slice r hst).view.WordExact} {hsem : (DmaTarget.here (nD := nD) (τ := τ) (p := .tc) (g.slice r hst)).Typed sp (.dma sm)} {Q : PUnit → sProp 𝕄}
    (N : ℕ) (hN : (g.slice r hst).view.dmaCredit = N) (hN0 : 0 < N) (f f' : s.Idx → Elt F e) (V V' : r.shape.Idx → Elt F e) (hT : P → r.set ⊆ T) (hf : P → ∀ y ∈ T, updR f r V' y = f' y) (hV : P → V = V') (hn : ¬ P → ∀ y ∈ T, f y = f' y) :
    iprop(idle c sm ∗ at' c b fullShare V ∗ part c g fullShare T f) ⊢ iprop((oMay c P' b sm g T f' N -∗ Q ⟨⟩) -∗ wpC c (if P then Prog.lift (.enqueueDma b (.here (g.slice r hst)) (.dma sm) hsrc hdst hsem) else pure ⟨⟩) Q) := by
  unfold oMay
  by_cases h : P
  · rw [if_pos h, if_pos (hPP.mp h), hV h]
    iintro H Hk
    iapply (wp_oStart c r b sm g T hst N hN hN0 f f' V' (hT h) (hf h)) $$ H
    iintro H
    iapply (le_wp_ret (Fr := frame) (a := _))
    iapply Hk $$ H
  · rw [if_neg h, if_neg (fun h' => h (hPP.mpr h'))]
    unfold oFree
    iintro ⟨Hs, Hb, Hg⟩ Hk
    iapply (le_wp_ret (Fr := frame) (a := _))
    iapply Hk
    isplitl [Hs]; · iexact Hs
    isplitl [Hb]
    · iexists _; iexact Hb
    iapply (part_congr c g fullShare (hn h))
    iexact Hg

/-- The other slot's product at the start of the next pass. -/
theorem yMay_succ (B : Slot) (p' : ℕ) (t : ℕ) : oMay c (0 < t) B.y B.ysem G.y (Par tlY p') (K.hy t) (nY G) = oMay c (1 < t + 1) B.y B.ysem G.y (Par tlY p') (K.hy (t + 1 - 1)) (nY G) := by
  unfold oMay
  by_cases h : 0 < t
  · rw [if_pos h, if_pos (by omega)]; rfl
  · rw [if_neg h, if_neg (by omega)]; rfl

/-- A copy that is on its way. -/
theorem oMay_true {sp sp' : Space} {s s' : Shape} {e : EltTy} {P : Prop} [Decidable P] (h : P) (b : Memref sig .tc sp s' e) (sm : DmaSem sig) (g : Memref sig .tc sp' s e) (T : Finset s.Idx) (f : s.Idx → Elt F e) (N : ℕ) :
    oMay c P b sm g T f N = oFly c b sm g T f N := if_pos h

/-- A copy on its way under either condition. -/
theorem oMay_both {sp sp' : Space} {s s' : Shape} {e : EltTy} {P P' : Prop} [Decidable P] [Decidable P'] (h : P) (h' : P') (b : Memref sig .tc sp s' e) (sm : DmaSem sig) (g : Memref sig .tc sp' s e) (T : Finset s.Idx) (f : s.Idx → Elt F e) (N : ℕ) :
    oMay c P b sm g T f N ⊢ oMay c P' b sm g T f N := Entails.of_eq ((oMay_true c h b sm g T f N).trans (oMay_true c h' b sm g T f N).symm)

/-- One tile's pass. -/
theorem wp_phaseC (q q' : PosShare TreeShare) (p p' : ℕ) (t : Fin 64) (hp : t.val % 2 = p) (hp' : (t.val + 1) % 2 = p') {Q : PUnit → sProp 𝕄} :
    invT K c G A B q q' p p' t ⊢ iprop((invT K c G B A q' q p' p (t + 1 : ℕ) -∗ Q ⟨⟩) -∗ wpC c (phaseC G A B t) Q) := by
  unfold invT phaseC
  rw [openC_eq, closeC_eq]
  iintro ⟨⟨HxA, HxB⟩, ⟨HcA, HcB⟩, ⟨HsA, HsB⟩, ⟨HyA, HyB⟩, ⟨%D, %hD, HdA⟩, ⟨%D', HdB⟩, Hcom, HO⟩ Hk
  unfold wpC
  rw [wp_bind, wp_bind]
  iapply (wp_xStop K c G B q' (t + 1) (P := t.val < 63) (by omega)) $$ [HxB HO]
  · isplitl [HxB] <;> iassumption
  iintro HxB HO
  rw [wp_bind]
  iapply (wp_xStart K c G A q t (nxt2 t) (t + 2) (by intro h; show min (t.val + 2) 63 = t.val + 2; omega) (P := t.val < 62) (by omega)) $$ HxA
  iintro HxA
  rw [wp_bind]
  iapply (wp_oMayStop c (0 < t.val) B.c B.csem G.c (Par tlC p') (K.hc t) (G.tc (nxt t)) (nC G) rfl) $$ [HcB HO]
  · isplitl [HcB] <;> iassumption
  iintro HcB HO
  rw [wp_bind]
  iapply (wp_oMayStop c (0 < t.val) B.s B.ssem G.s (Par tlS p') (K.hs t) (G.ts (nxt t)) (nS G) rfl) $$ [HsB HO]
  · isplitl [HsB] <;> iassumption
  iintro HsB HO
  iapply (wp_oMayStop c (1 < t.val) A.y A.ysem G.y (Par tlY p) (K.hy (t - 1)) (G.ty t) (nY G) rfl) $$ [HyA HO]
  · isplitl [HyA] <;> iassumption
  iintro HyA HO
  unfold xGot oFree comA
  icases HxB with ⟨HxBs, ⟨%X, %hX, HxBv⟩, HxBp⟩
  icases HcB with ⟨HcBs, ⟨%C, HcBv⟩, HcBp⟩
  icases HsB with ⟨HsBs, ⟨%S, HsBv⟩, HsBp⟩
  icases HyA with ⟨HyAs, ⟨%Y, HyAv⟩, HyAp⟩
  icases Hcom with ⟨Hi, Ho, Hw⟩
  rw [wp_bind]
  iapply (wp_chunks c G A B X K.I K.O C S D' D K.W Y 15 (Nat.le_refl 15)) $$ [HxBv HcBv HsBv HyAv Hi Ho Hw HdA HdB]
  · unfold tileAt dotAt
    isplitl [HxBv Hi Ho HcBv HsBv HdB]
    · isplitl [HxBv]; · iexact HxBv
      isplitl [Hi]; · iexact Hi
      isplitl [Ho]; · iexact Ho
      isplitl [HcBv]; · iexact HcBv
      isplitl [HsBv] <;> iassumption
    · isplitl [HdA]; · iexact HdA
      isplitl [Hw] <;> iassumption
  iintro Ht Hd
  rw [wp_bind]
  iapply (wp_dotC c G A 15 D K.W _) $$ Hd
  iintro Hd
  rw [wp_bind]
  unfold tileN
  iapply (wp_lastC c G B X K.I K.O _ _ D') $$ Ht
  iintro Ht
  unfold tileAt dotAt
  icases Ht with ⟨HxBv, Hi, Ho, HcBv, HsBv, HdB⟩
  icases Hd with ⟨HdA, Hw, HyAv⟩
  rw [cI_eq, sI_eq, dL_eq]
  have hY : updR (yI D K.W Y 15 ((Nat.le_refl 15).trans (Nat.le_succ 15))) (rY 15) (shapeCast S256x512 (yV (fun x => D (rXX.emb x)) (fun x => K.W ((rW 15).emb x))) shapeCasts_S256x512_S256x512) = K.yt t := by
    rw [Ctx.yt, ← hD t.isLt]; exact yI_last D K.W Y
  ihave HyAv := (Entails.of_eq (congrArg (at' c A.y fullShare) hY)) $$ HyAv
  rw [wp_bind]
  have hy0 : ∀ y ∈ Par tlY p, updR (K.hy (t - 1)) (rTy t) (K.yt t) y = K.hy (t + 1) y := by
    subst hp
    intro y hy
    by_cases h0 : t.val = 0
    · exact home_upd rTy tlY hrY K.yt K.Y t (t.val - 1) (Or.inl (by omega)) y hy
    · exact home_upd rTy tlY hrY K.yt K.Y t (t.val - 1) (Or.inr (by omega)) y hy
  iapply (wp_oStart c (rTy t) A.y A.ysem G.y (Par tlY p) (fun _ => rfl) (nY G) rfl (View.dmaCredit_pos _ (by decide)) (K.hy (t - 1)) (K.hy (t + 1)) (K.yt t) (r_Par rTy tlY hrY t p hp) hy0) $$ [HyAs HyAv HyAp]
  · isplitl [HyAs]; · iexact HyAs
    isplitl [HyAv] <;> iassumption
  iintro HyA
  iapply (le_wp_ret (Fr := frame) (a := _))
  rw [wp_bind]
  have hnx : t.val < 63 → (nxt t).val = t.val + 1 := fun h => by show min (t.val + 1) 63 = t.val + 1; omega
  have hXn : ∀ h : t.val < 63, X = K.xt (nxt t) := fun h => by
    rw [hX (by omega)]; exact congrArg K.xt (Fin.ext (hnx h).symm)
  iapply (wp_oMayStart c (rTc (nxt t)) B.c B.csem G.c (Par tlC p') (t.val < 63) (t.val + 1 < 64) (by omega) (fun _ => rfl) (nC G) rfl (View.dmaCredit_pos _ (by decide)) (K.hc t) (K.hc (t + 1 + 1)) (cT X K.I) (K.ct (nxt t))
    (fun h => r_Par rTc tlC hrC (nxt t) p' (by rw [hnx h]; exact hp'))
    (fun h y hy => by
      have e := home_upd rTc tlC hrC K.ct K.C (nxt t) t.val (Or.inr (hnx h).symm) y (by rw [hnx h, hp']; exact hy)
      rw [hnx h] at e; exact e)
    (fun h => by rw [hXn h]; rfl)
    (fun h y hy => by
      have e1 := home_par rTc tlC hrC K.ct K.C t.val y (by rw [hp']; exact hy)
      refine e1.trans ?_
      unfold Ctx.hc
      rw [home_all _ _ _ _ _ (t.val + 1) (by omega), home_all _ _ _ _ _ (t.val + 1 + 1) (by omega)])) $$ [HcBs HcBv HcBp]
  · isplitl [HcBs]; · iexact HcBs
    isplitl [HcBv] <;> iassumption
  iintro HcB
  iapply (wp_oMayStart c (rTs (nxt t)) B.s B.ssem G.s (Par tlS p') (t.val < 63) (t.val + 1 < 64) (by omega) (fun _ => rfl) (nS G) rfl (View.dmaCredit_pos _ (by decide)) (K.hs t) (K.hs (t + 1 + 1)) (sT X K.I) (K.st (nxt t))
    (fun h => r_Par rTs tlS hrS (nxt t) p' (by rw [hnx h]; exact hp'))
    (fun h y hy => by
      have e := home_upd rTs tlS hrS K.st K.S (nxt t) t.val (Or.inr (hnx h).symm) y (by rw [hnx h, hp']; exact hy)
      rw [hnx h] at e; exact e)
    (fun h => by rw [hXn h]; rfl)
    (fun h y hy => by
      have e1 := home_par rTs tlS hrS K.st K.S t.val y (by rw [hp']; exact hy)
      refine e1.trans ?_
      unfold Ctx.hs
      rw [home_all _ _ _ _ _ (t.val + 1) (by omega), home_all _ _ _ _ _ (t.val + 1 + 1) (by omega)])) $$ [HsBs HsBv HsBp]
  · isplitl [HsBs]; · iexact HsBs
    isplitl [HsBv] <;> iassumption
  iintro HsB
  iapply Hk
  isplitl [HxA HxBs HxBv HxBp]
  · isplitr [HxA]
    · isplitl [HxBs]; · iexact HxBs
      isplitl [HxBv]
      · iexists X; isplitr; · ipureintro; exact hX
        iexact HxBv
      iexact HxBp
    · iexact HxA
  isplitl [HcA HcB]
  · isplitl [HcB]; · iexact HcB
    iapply (oMay_both c t.isLt (Nat.succ_pos t.val) _ _ _ _ _ _) $$ HcA
  isplitl [HsA HsB]
  · isplitl [HsB]; · iexact HsB
    iapply (oMay_both c t.isLt (Nat.succ_pos t.val) _ _ _ _ _ _) $$ HsA
  isplitl [HyA HyB]
  · isplitl [HyB]
    · iapply (Entails.of_eq (yMay_succ K c G B p' t.val)) $$ HyB
    · iapply (Entails.of_eq (oMay_true c (Nat.succ_pos t.val) _ _ _ _ _ _).symm) $$ HyA
  isplitl [HdB]
  · iexists _; isplitr; swap; · iexact HdB
    ipureintro
    intro h
    rw [hX h]; rfl
  isplitl [HdA]
  · iexists _; iexact HdA
  isplitl [Hi Ho Hw]
  · isplitl [Hi]; · iexact Hi
    isplitl [Ho] <;> iassumption
  iexact HO
end

end Cert.KernelIdeal.Own
-- ==== Proof.Whole.lean ====
module

public import proofs.«01_k».proof.Proof.Phase

/-! The whole program, over its buffers. -/

@[expose] public section

set_option maxRecDepth 10000

noncomputable section

namespace Cert.KernelIdeal.Own

open Cert.KernelIdeal Facts₀ Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

variable [Facts]

/-- Blocks of a weight tile, whatever the weights held. -/
theorem wJ_agree (WS : S15x64.Idx → Elt F .f32) (k : Fin 15) (p : Fin 2) (V : S128x8192.Idx → Elt F .fp8e4m3) (W W' : S2048x8192.Idx → Elt F .bf16) (y : S2048x8192.Idx) :
    ∀ (n : ℕ) (h : n ≤ 64), (W y = W' y ∨ (128 * k.val ≤ (y 0 : ℕ) ∧ (y 0 : ℕ) < 128 * k.val + 128 ∧ (y 1 : ℕ) < 128 * n)) → wJ WS k p V W n h y = wJ WS k p V W' n h y
  | 0, _, hy => by
    rcases hy with hy | hy
    · exact hy
    · omega
  | n + 1, h, hy => by
    rw [wJ, wJ]
    refine updR_agree _ _ _ _ _ fun hm => wJ_agree WS k p V W W' y n _ ?_
    rcases hy with hy | ⟨h0, h1, h2⟩
    · exact Or.inl hy
    refine Or.inr ⟨h0, h1, ?_⟩
    by_contra hc
    refine hm ((rWr k ⟨n, h⟩).mem_set.mpr fun a => ?_)
    match a with
    | ⟨0, _⟩ => exact ⟨(y 0 : ℕ) - 128 * k.val, by show (y 0 : ℕ) - 128 * k.val < 128; omega, by show (y 0 : ℕ) = 128 * k.val + 1 * ((y 0 : ℕ) - 128 * k.val); omega⟩
    | ⟨1, _⟩ => exact ⟨(y 1 : ℕ) - 128 * n, by show (y 1 : ℕ) - 128 * n < 128; omega, by show (y 1 : ℕ) = 128 * n + 1 * ((y 1 : ℕ) - 128 * n); omega⟩

/-- The inlier weights, whatever the buffer held. -/
theorem wK_agree (WS : S15x64.Idx → Elt F .f32) (WC : S1920x8192.Idx → Elt F .fp8e4m3) (W W' : S2048x8192.Idx → Elt F .bf16) (y : S2048x8192.Idx) :
    ∀ (n : ℕ) (h : n ≤ 15), (y 0 : ℕ) < 128 * n → wK WS WC W n h y = wK WS WC W' n h y
  | 0, _, hy => by omega
  | n + 1, h, hy => by
    rw [wK, wK]
    refine wJ_agree _ _ _ _ _ _ _ _ _ ?_
    have h1 : (y 1 : ℕ) < 8192 := (y 1).isLt
    by_cases hc : (y 0 : ℕ) < 128 * n
    · exact Or.inl (wK_agree WS WC W W' y n _ hc)
    · exact Or.inr ⟨by show 128 * n ≤ _; omega, by show _ < 128 * n + 128; omega, by omega⟩

/-- A block's first place. -/
def zW : S128x128.Idx := fun a => ⟨0, by fin_cases a <;> decide⟩

/-- The weights the tiles are multiplied by: the inlier rows dequantised and the outlier rows. -/
def wT (WS : S15x64.Idx → Elt F .f32) (WC : S1920x8192.Idx → Elt F .fp8e4m3) (WO : S128x8192.Idx → Elt F .bf16) : S2048x8192.Idx → Elt F .bf16 :=
  updR (wK WS WC (fun _ => wB WS 0 0 (wcT WC 0) 0 zW) 15 le_rfl) rWo WO

/-- On the inlier rows the weights are what the loop leaves. -/
theorem wT_in (WS : S15x64.Idx → Elt F .f32) (WC : S1920x8192.Idx → Elt F .fp8e4m3) (WO : S128x8192.Idx → Elt F .bf16) (W) (y : S2048x8192.Idx) (hy : y ∈ inRows) : wK WS WC W 15 le_rfl y = wT WS WC WO y := by
  have hn : y ∉ rWo.set := (Finset.mem_sdiff.mp hy).2
  unfold wT
  rw [updR_miss _ _ _ _ (fun x hx => hn (by rw [← hx]; exact rWo.idx_mem x))]
  refine wK_agree _ _ _ _ _ _ _ ?_
  by_contra hc
  have h0 : (y 0 : ℕ) < 2048 := (y 0).isLt
  refine hn (rWo.mem_set.mpr fun a => ?_)
  match a with
  | ⟨0, _⟩ => exact ⟨(y 0 : ℕ) - 1920, by show (y 0 : ℕ) - 1920 < 128; omega, by show (y 0 : ℕ) = 1920 + 1 * ((y 0 : ℕ) - 1920); omega⟩
  | ⟨1, _⟩ => exact ⟨y 1, (y 1).isLt, by show (y 1 : ℕ) = 0 + 1 * (y 1 : ℕ); omega⟩

/-- On the outlier rows they are the outlier weights. -/
theorem wT_out (WS : S15x64.Idx → Elt F .f32) (WC : S1920x8192.Idx → Elt F .fp8e4m3) (WO : S128x8192.Idx → Elt F .bf16) (W : S2048x8192.Idx → Elt F .bf16) (y : S2048x8192.Idx) (hy : y ∈ rWo.set) : updR W rWo WO y = wT WS WC WO y := by
  obtain ⟨x, rfl⟩ := rWo.exists_idx_of_mem hy
  exact (updR_hit W rWo WO x).trans (updR_hit _ rWo WO x).symm

attribute [local irreducible] chunks blks cI sI dI yI xoI home asm wK wJ cols

section
variable (c : Dev nD) (G : Glob) (A B : Slot)

/-- The staging buffer's two slots, and the way back. -/
theorem st_two (X : S2x128x8192.Idx → Elt F .fp8e4m3) :
    at' c G.st fullShare X ⊢ iprop((∃ V, at' c (G.tst 0) fullShare V) ∗ (∃ V, at' c (G.tst 1) fullShare V) ∗ (∀ V V', at' c (G.tst 0) fullShare V -∗ at' c (G.tst 1) fullShare V' -∗ ∃ X', at' c G.st fullShare X')) := by
  have h1 : (rSl 1).set ⊆ Finset.univ \ (rSl 0).set := by
    intro y hy
    refine Finset.mem_sdiff.mpr ⟨Finset.mem_univ _, fun h => ?_⟩
    obtain ⟨x, rfl⟩ := (rSl 1).exists_idx_of_mem hy
    obtain ⟨z, hz⟩ := (rSl 0).exists_idx_of_mem h
    have h0 := congrArg (fun i => (i 0 : ℕ)) hz
    have hz0 : (z 0 : ℕ) < 1 := (z 0).isLt
    have h0' : 0 + 1 * (z 0 : ℕ) = 1 + 1 * (x 0 : ℕ) := h0
    omega
  iintro H
  ihave H := (part_of_at c G.st fullShare X) $$ H
  ihave H := (part_take c G.st fullShare (Finset.subset_univ (rSl 0).set) X) $$ H
  icases H with ⟨H0, H1⟩
  ihave H1 := (part_take c G.st fullShare h1 X) $$ H1
  icases H1 with ⟨H1, H2⟩
  isplitl [H0]
  · iexists _
    iapply (at_squeeze c _ fullShare squeezes_S1x128x8192_S128x8192 _)
    iapply (slice_of_part c G.st fullShare (rSl 0) (fun _ => rfl) X)
    iexact H0
  isplitl [H1]
  · iexists _
    iapply (at_squeeze c _ fullShare squeezes_S1x128x8192_S128x8192 _)
    iapply (slice_of_part c G.st fullShare (rSl 1) (fun _ => rfl) X)
    iexact H1
  iintro %V %V' H0 H1
  obtain ⟨U, hU⟩ : ∃ U, at' c (G.tst 0) fullShare V ⊢ at' c (G.st.slice (rSl 0) (fun _ => rfl)) fullShare U := ⟨_, at_unsqueeze c _ fullShare squeezes_S1x128x8192_S128x8192 V⟩
  obtain ⟨U', hU'⟩ : ∃ U', at' c (G.tst 1) fullShare V' ⊢ at' c (G.st.slice (rSl 1) (fun _ => rfl)) fullShare U' := ⟨_, at_unsqueeze c _ fullShare squeezes_S1x128x8192_S128x8192 V'⟩
  ihave H0 := hU $$ H0
  ihave H1 := hU' $$ H1
  ihave H1 := (part_of_slice c G.st fullShare (rSl 1) (fun _ => rfl) X U') $$ H1
  have hX : ∀ y ∈ (Finset.univ \ (rSl 0).set) \ (rSl 1).set, X y = updR X (rSl 1) U' y := fun y hy => by
    rw [updR_miss]
    intro x hx
    exact (Finset.mem_sdiff.mp hy).2 (hx ▸ (rSl 1).idx_mem x)
  ihave H2 := (part_congr c G.st fullShare hX) $$ H2
  ihave H1 := (part_give c G.st fullShare h1 (updR X (rSl 1) U')) $$ [H1 H2]
  · isplitl [H1] <;> iassumption
  ihave H0 := (part_of_slice c G.st fullShare (rSl 0) (fun _ => rfl) (updR X (rSl 1) U') U) $$ H0
  have hX : ∀ y ∈ Finset.univ \ (rSl 0).set, updR X (rSl 1) U' y = updR (updR X (rSl 1) U') (rSl 0) U y := fun y hy => by
    symm
    rw [updR_miss _ (rSl 0)]
    intro x hx
    exact (Finset.mem_sdiff.mp hy).2 (hx ▸ (rSl 0).idx_mem x)
  ihave H1 := (part_congr c G.st fullShare hX) $$ H1
  ihave H0 := (part_give c G.st fullShare (Finset.subset_univ (rSl 0).set) (updR (updR X (rSl 1) U') (rSl 0) U)) $$ [H0 H1]
  · isplitl [H0] <;> iassumption
  iexists _
  iapply (at_of_part c G.st fullShare _)
  iexact H0

/-- The loop over weight tiles. -/
theorem wp_loop1 (WS : S15x64.Idx → Elt F .f32) (WC : S1920x8192.Idx → Elt F .fp8e4m3) (W : S2048x8192.Idx → Elt F .bf16) (b : Fin k0_t1_loop.trips → Pg F PUnit) (hb : ∀ t : Fin 15, b t = wtrip G A B t) {Q : PUnit → sProp 𝕄} :
    invW c G A B WS WC W 0 (Nat.zero_le 15) ⊢ iprop((invW c G A B WS WC W 15 le_rfl -∗ Q ⟨⟩) -∗ wpC c (Scf.Loop.for k0_t1_loop k0_t1_ok ⟨⟩ (fun t _ => b t)) Q) := by
  iintro H Hk
  iapply (Scf.wp_for _ _ _ _ _ _ _ _ _ (fun k (_ : PUnit) => iprop(∃ h : k ≤ 15, invW c G A B WS WC W k h)) ?_) $$ [H Hk]
  · intro k acc
    iintro ⟨%h, H⟩
    rw [hb k]
    iapply (wp_wtrip c G A B WS WC W k) $$ H
    iintro H
    iexists k.isLt
    iexact H
  · isplitl [H]
    · iexists (Nat.zero_le 15); iexact H
    · iintro %acc ⟨%h, H⟩
      iapply Hk
      iexact H

variable (K : Ctx F)

/-- Parity of a tile's number. -/
theorem t_odd (n : ℕ) : (2 * n + 1) % 2 = 1 := by omega

/-- Parity of a tile's number. -/
theorem t_even (n : ℕ) : (2 * n + 1 + 1) % 2 = 0 := by omega

/-- A trip's first tile is one of the tiles. -/
theorem t_lt (i : Fin 32) : 2 * i.val < 64 := by omega

/-- A trip's second tile is one of the tiles. -/
theorem t_lt' (i : Fin 32) : 2 * i.val + 1 < 64 := by omega

/-- One trip of the loop over tiles. -/
theorem wp_tripC (i : Fin 32) {Q : PUnit → sProp 𝕄} :
    invT K c G A B fullShare.left fullShare.right 0 1 (2 * i.val) ⊢ iprop((invT K c G A B fullShare.left fullShare.right 0 1 (2 * (i.val + 1)) -∗ Q ⟨⟩) -∗ wpC c (tripC G A B i) Q) := by
  unfold tripC
  iintro H Hk
  unfold wpC
  rw [wp_bind]
  iapply (wp_phaseC K c G A B fullShare.left fullShare.right 0 1 ⟨2 * i.val, t_lt i⟩ (Nat.mul_mod_right 2 i.val) (t_odd i.val)) $$ H
  iintro H
  iapply (wp_phaseC K c G B A fullShare.right fullShare.left 1 0 ⟨2 * i.val + 1, t_lt' i⟩ (t_odd i.val) (t_even i.val)) $$ H
  iintro H
  iapply Hk
  iexact H

/-- The loop over tiles. -/
theorem wp_loop2 (b : Fin k0_t2_loop.trips → Pg F PUnit) (hb : ∀ t : Fin 32, b t = tripC G A B t) {Q : PUnit → sProp 𝕄} :
    invT K c G A B fullShare.left fullShare.right 0 1 0 ⊢ iprop((invT K c G A B fullShare.left fullShare.right 0 1 64 -∗ Q ⟨⟩) -∗ wpC c (Scf.Loop.for k0_t2_loop k0_t2_ok ⟨⟩ (fun t _ => b t)) Q) := by
  iintro H Hk
  iapply (Scf.wp_for _ _ _ _ _ _ _ _ _ (fun k (_ : PUnit) => invT K c G A B fullShare.left fullShare.right 0 1 (2 * k)) ?_) $$ [H Hk]
  · intro k acc
    iintro H
    rw [hb k]
    iapply (wp_tripC c G A B K k) $$ H
    iintro H
    iexact H
  · isplitl [H]
    · iexact H
    · iintro %acc H
      iapply Hk
      iexact H
end

section
variable (c : Dev nD) (G : Glob) (A B : Slot) (K : Ctx F)

/-- The state when a slot is not in use. -/
def slotSt (S : Slot) : sProp 𝕄 :=
  iprop((∃ V : S256x2048.Idx → Elt F .bf16, at' c S.x fullShare V) ∗ (∃ V : S256x2048.Idx → Elt F .bf16, at' c S.xd fullShare V) ∗ (∃ V : S256x1920.Idx → Elt F .fp8e4m3, at' c S.c fullShare V)
    ∗ (∃ V : S256x15.Idx → Elt F .f32, at' c S.s fullShare V) ∗ (∃ V : S256x8192.Idx → Elt F .bf16, at' c S.y fullShare V)
    ∗ idle c S.xsem ∗ idle c S.csem ∗ idle c S.ssem ∗ idle c S.ysem ∗ idle c S.wsem)

/-- The arrays when no copy is on its way: the arguments, the results at `Y`, `C` and `S`, and the two weight buffers. -/
def globSt (WS : S15x64.Idx → Elt F .f32) (WC : S1920x8192.Idx → Elt F .fp8e4m3) (WO : S128x8192.Idx → Elt F .bf16) (Y : S16384x8192.Idx → Elt F .bf16) (C : S16384x1920.Idx → Elt F .fp8e4m3) (S : S16384x15.Idx → Elt F .f32) : sProp 𝕄 :=
  iprop(at' c G.idx fullShare K.I ∗ at' c G.oidx fullShare K.O ∗ at' c G.ws fullShare WS ∗ at' c G.x fullShare K.X ∗ at' c G.wo fullShare WO ∗ at' c G.wc fullShare WC
    ∗ at' c G.y fullShare Y ∗ at' c G.c fullShare C ∗ at' c G.s fullShare S ∗ (∃ V : S2048x8192.Idx → Elt F .bf16, at' c G.w fullShare V) ∗ (∃ V : S2x128x8192.Idx → Elt F .fp8e4m3, at' c G.st fullShare V) ∗ idle c G.wosem)

/-- An array into its two parities of tiles. -/
theorem par_split {sp : Space} {s : Shape} {e : EltTy} (g : Memref sig .tc sp s e) (tl : s.Idx → Fin 64) (X : s.Idx → Elt F e) : at' c g fullShare X ⊢ iprop(part c g fullShare (Par tl 0) X ∗ part c g fullShare (Par tl 1) X) := by
  iintro H
  ihave H := (part_of_at c g fullShare X) $$ H
  iapply (part_split c g fullShare (Par_disjoint tl) X)
  iapply (Entails.of_eq (congrArg (fun T => part c g fullShare T X) (Par_union tl).symm)) $$ H

/-- And back. -/
theorem par_join {sp : Space} {s : Shape} {e : EltTy} (g : Memref sig .tc sp s e) (tl : s.Idx → Fin 64) (X : s.Idx → Elt F e) : iprop(part c g fullShare (Par tl 0) X ∗ part c g fullShare (Par tl 1) X) ⊢ at' c g fullShare X := by
  iintro H
  ihave H := (part_join c g fullShare (Par_disjoint tl) X) $$ H
  ihave H := (Entails.of_eq (congrArg (fun T => part c g fullShare T X) (Par_union tl))) $$ H
  iapply (at_of_part c g fullShare X) $$ H

/-- What the copy of the outlier weights moves. -/
abbrev nWo : ℕ := G.two.view.dmaCredit

/-- The copy of the outlier weights on its way. -/
def flyO (W : S2048x8192.Idx → Elt F .bf16) (WO : S128x8192.Idx → Elt F .bf16) : sProp 𝕄 :=
  fly c G.wosem (nWo G) iprop(part c G.w fullShare rWo.set (updR W rWo WO) ∗ at' c G.wo fullShare WO)

/-- What comes before the loop over weight tiles. -/
theorem wp_preC (W : S2048x8192.Idx → Elt F .bf16) (WO : S128x8192.Idx → Elt F .bf16) (WC : S1920x8192.Idx → Elt F .fp8e4m3) {Q : PUnit → sProp 𝕄} :
    iprop(xGot K c G A fullShare.left 64 ∗ part c G.w fullShare rWo.set W ∗ at' c G.wo fullShare WO ∗ idle c G.wosem ∗ restW c G A 0 fullShare.left WC)
      ⊢ iprop((xMay K c G A fullShare.left 0 -∗ flyO c G W WO -∗ flyW c G A 0 fullShare.left WC 0 -∗ Q ⟨⟩) -∗ wpC c (preC G A) Q) := by
  unfold preC flyO
  iintro ⟨Hx, Hw, Ho, Hs, Hr⟩ Hk
  unfold wpC
  have h1 := wp_xStart K c G A fullShare.left 64 0 0 (fun _ => rfl) (P := True) (by decide) (hs := G.hx.wordExact_slice rfl _ (wd_tx 0)) (hd := A.hx.wordExact) (ht := ⟨Or.inl rfl, trivial⟩) (Q := fun a => wpC c (Prog.lift (.enqueueDma G.wo (.here G.two) (.dma G.wosem) G.hwo.wordExact (G.hw.wordExact_slice rfl _ wordsbf16_S2048x8192_S128x8192_1920_0) ⟨Or.inl rfl, trivial⟩) >>= fun _ => wStart G A 0 0) Q)
  rw [if_pos trivial] at h1
  unfold wpC at h1
  rw [wp_bind]
  iapply h1 $$ Hx
  iintro Hx
  ihave Hw := (borrow_slice c G.w fullShare rWo (fun _ => rfl) (Finset.Subset.refl _) W) $$ Hw
  icases Hw with ⟨Hw, Hb⟩
  rw [wp_bind]
  iapply (wp_start c G.wo G.two G.wosem (nWo G) rfl (View.dmaCredit_pos _ (by decide)) fullShare WO _ (at' c G.wo fullShare WO) (part c G.w fullShare rWo.set (updR W rWo WO))) $$ [Hs Ho Hw Hb]
  · isplitl [Ho]; · iexact Ho
    isplitl [Hw]; · iexact Hw
    isplitr; · iintro H; iexact H
    isplitl [Hb]
    · iintro H; iapply Hb; iexact H
    iexact Hs
  iintro Hf
  iapply (le_wp_ret (Fr := frame) (a := _))
  iapply (wp_wStart c G A 0 fullShare.left WC 0) $$ Hr
  iintro Hr
  iapply Hk $$ Hx Hf Hr

/-- What comes between the loops. -/
theorem wp_midC (WS : S15x64.Idx → Elt F .f32) (WC : S1920x8192.Idx → Elt F .fp8e4m3) (W : S2048x8192.Idx → Elt F .bf16) (WO : S128x8192.Idx → Elt F .bf16) (hW : K.W = wT WS WC WO) {Q : PUnit → sProp 𝕄} :
    iprop(flyO c G W WO ∗ part c G.w fullShare inRows (wK WS WC W 15 le_rfl) ∗ quit c ∗ xMay K c G A fullShare.left 0 ∗ xGot K c G B fullShare.right 64
      ∗ at' c G.idx fullShare K.I ∗ at' c G.oidx fullShare K.O
      ∗ oFree c A.c A.csem G.c (Par tlC 0) K.C ∗ oFree c B.c B.csem G.c (Par tlC 1) K.C
      ∗ oFree c A.s A.ssem G.s (Par tlS 0) K.S ∗ oFree c B.s B.ssem G.s (Par tlS 1) K.S
      ∗ oFree c A.y A.ysem G.y (Par tlY 0) K.Y ∗ oFree c B.y B.ysem G.y (Par tlY 1) K.Y
      ∗ (∃ D, at' c A.xd fullShare D) ∗ (∃ D, at' c B.xd fullShare D))
      ⊢ iprop((invT K c G A B fullShare.left fullShare.right 0 1 0 -∗ at' c G.wo fullShare WO -∗ idle c G.wosem -∗ Q ⟨⟩) -∗ wpC c (midC G A B) Q) := by
  unfold midC flyO
  iintro ⟨Hf, Hw, HO, HxA, HxB, Hi, Ho, HcA, HcB, HsA, HsB, HyA, HyB, ⟨%D, HdA⟩, HdB⟩ Hk
  unfold wpC
  rw [wp_bind]
  iapply (wp_stop c G.two G.wosem (nWo G) rfl _) $$ [Hf HO]
  · isplitl [Hf] <;> iassumption
  iintro ⟨⟨Hw1, Hwo⟩, Hos, HO⟩
  have e1 : ∀ y ∈ rWo.set, updR W rWo WO y = K.W y := fun y hy => by rw [hW]; exact wT_out WS WC WO W y hy
  have e2 : ∀ y ∈ Finset.univ \ rWo.set, wK WS WC W 15 le_rfl y = K.W y := fun y hy => by rw [hW]; exact wT_in WS WC WO W y hy
  ihave Hw1 := (part_congr c G.w fullShare e1) $$ Hw1
  unfold inRows
  ihave Hw := (part_congr c G.w fullShare e2) $$ Hw
  ihave Hw := (part_give c G.w fullShare (Finset.subset_univ rWo.set) K.W) $$ [Hw Hw1]
  · isplitl [Hw1] <;> iassumption
  ihave Hw := (at_of_part c G.w fullShare K.W) $$ Hw
  iapply (le_wp_ret (Fr := frame) (a := _))
  rw [wp_bind]
  have h1 := fun Q => wp_xStop K c G A fullShare.left 0 (P := True) (by decide) (Q := Q)
  simp only [if_true] at h1
  iapply (h1 _) $$ [HxA HO]
  · isplitl [HxA] <;> iassumption
  iintro HxA HO
  rw [wp_bind]
  have h2 := fun Q => wp_xStart K c G B fullShare.right 64 1 1 (fun _ => rfl) (P := True) (by decide) (hs := G.hx.wordExact_slice rfl _ (wd_tx 1)) (hd := B.hx.wordExact) (ht := ⟨Or.inl rfl, trivial⟩) (Q := Q)
  simp only [if_true] at h2
  iapply (h2 _) $$ HxB
  iintro HxB
  unfold xGot
  icases HxA with ⟨HxAs, ⟨%X, %hX, HxAv⟩, HxAp⟩
  unfold oFree
  icases HcA with ⟨HcAs, ⟨%C, HcAv⟩, HcAp⟩
  icases HsA with ⟨HsAs, ⟨%S, HsAv⟩, HsAp⟩
  rw [wp_bind]
  iapply (wp_blks c G A X K.I K.O C S D 15 (Nat.le_refl 15)) $$ [HxAv HcAv HsAv Hi Ho HdA]
  · unfold tileAt
    isplitl [HxAv]; · iexact HxAv
    isplitl [Hi]; · iexact Hi
    isplitl [Ho]; · iexact Ho
    isplitl [HcAv]; · iexact HcAv
    isplitl [HsAv] <;> iassumption
  iintro Ht
  rw [wp_bind]
  unfold tileN
  iapply (wp_lastC c G A X K.I K.O _ _ D) $$ Ht
  iintro Ht
  unfold tileAt
  icases Ht with ⟨HxAv, Hi, Ho, HcAv, HsAv, HdA⟩
  rw [cI_eq, sI_eq, dL_eq]
  have hX0 : X = K.xt 0 := hX (by decide)
  rw [wp_bind]
  iapply (wp_oStart c (rTc 0) A.c A.csem G.c (Par tlC 0) (fun _ => rfl) (nC G) rfl (View.dmaCredit_pos _ (by decide)) K.C (K.hc (0 + 1)) (cT X K.I) (r_Par rTc tlC hrC 0 0 rfl) (fun y hy => by
      rw [hX0]
      have e := home_upd rTc tlC hrC K.ct K.C 0 0 (Or.inl rfl) y hy
      rw [home_zero] at e; exact e)) $$ [HcAs HcAv HcAp]
  · isplitl [HcAs]; · iexact HcAs
    isplitl [HcAv] <;> iassumption
  iintro HcA
  iapply (le_wp_ret (Fr := frame) (a := _))
  iapply (wp_oStart c (rTs 0) A.s A.ssem G.s (Par tlS 0) (fun _ => rfl) (nS G) rfl (View.dmaCredit_pos _ (by decide)) K.S (K.hs (0 + 1)) (sT X K.I) (r_Par rTs tlS hrS 0 0 rfl) (fun y hy => by
      rw [hX0]
      have e := home_upd rTs tlS hrS K.st K.S 0 0 (Or.inl rfl) y hy
      rw [home_zero] at e; exact e)) $$ [HsAs HsAv HsAp]
  · isplitl [HsAs]; · iexact HsAs
    isplitl [HsAv] <;> iassumption
  iintro HsA
  iapply (le_wp_ret (Fr := frame) (a := _))
  iapply Hk $$ [-Hwo Hos] Hwo Hos
  unfold invT xGot oMay
  rw [if_pos (show (0 < 64) by decide), if_neg (show ¬ (0 < 0) by decide), if_pos (show (0 < 64) by decide), if_neg (show ¬ (0 < 0) by decide), if_neg (show ¬ (1 < 0) by decide), if_neg (show ¬ (0 < 0) by decide)]
  unfold oFree
  rw [show K.hc 0 = K.C from home_zero _ _ _ _ _, show K.hs 0 = K.S from home_zero _ _ _ _ _, show K.hy (0 - 1) = K.Y from home_zero _ _ _ _ _]
  isplitl [HxAs HxAv HxAp HxB]
  · isplitr [HxB]
    · isplitl [HxAs]; · iexact HxAs
      isplitl [HxAv]
      · iexists X; isplitr; · ipureintro; exact hX
        iexact HxAv
      iexact HxAp
    · iexact HxB
  isplitl [HcA HcB]
  · isplitl [HcA] <;> iassumption
  isplitl [HsA HsB]
  · isplitl [HsA] <;> iassumption
  isplitl [HyA HyB]
  · isplitl [HyA] <;> iassumption
  isplitl [HdA]
  · iexists _; isplitr; swap; · iexact HdA
    ipureintro
    intro h
    rw [hX h]; rfl
  isplitl [HdB]; · iexact HdB
  isplitl [Hi Ho Hw]
  · unfold comA
    isplitl [Hi]; · iexact Hi
    isplitl [Ho] <;> iassumption
  iexact HO

/-- The last waits. -/
theorem wp_finC {Q : PUnit → sProp 𝕄} :
    invT K c G A B fullShare.left fullShare.right 0 1 64
      ⊢ iprop((iprop(xGot K c G A fullShare.left 64 ∗ xGot K c G B fullShare.right 64 ∗ oFree c A.c A.csem G.c (Par tlC 0) (asm rTc tlC hrC K.ct) ∗ oFree c B.c B.csem G.c (Par tlC 1) (asm rTc tlC hrC K.ct)
        ∗ oFree c A.s A.ssem G.s (Par tlS 0) (asm rTs tlS hrS K.st) ∗ oFree c B.s B.ssem G.s (Par tlS 1) (asm rTs tlS hrS K.st)
        ∗ oFree c A.y A.ysem G.y (Par tlY 0) (asm rTy tlY hrY K.yt) ∗ oFree c B.y B.ysem G.y (Par tlY 1) (asm rTy tlY hrY K.yt)
        ∗ (∃ D, at' c A.xd fullShare D) ∗ (∃ D, at' c B.xd fullShare D) ∗ comA K c G ∗ quit c) -∗ Q ⟨⟩) -∗ wpC c (finC G A B >>= fun _ => endC G B) Q) := by
  unfold invT oMay xMay
  rw [if_neg (show ¬ (64 < 64) by decide), if_pos (show (0 < 64) by decide), if_neg (show ¬ (64 < 64) by decide), if_pos (show (0 < 64) by decide), if_pos (show (1 < 64) by decide), if_pos (show (0 < 64) by decide), dif_neg (show ¬ (64 + 1 < 64) by decide)]
  rw [show K.hc (64 + 1) = asm rTc tlC hrC K.ct from home_all _ _ _ _ _ _ (by decide), show K.hc 64 = asm rTc tlC hrC K.ct from home_all _ _ _ _ _ _ (by decide), show K.hs (64 + 1) = asm rTs tlS hrS K.st from home_all _ _ _ _ _ _ (by decide), show K.hs 64 = asm rTs tlS hrS K.st from home_all _ _ _ _ _ _ (by decide), show K.hy 64 = asm rTy tlY hrY K.yt from home_all _ _ _ _ _ _ (by decide)]
  iintro ⟨⟨HxA, HxB⟩, ⟨HcA, HcB⟩, ⟨HsA, HsB⟩, ⟨HyA, HyB⟩, ⟨%D, -, HdA⟩, HdB, Hcom, HO⟩ Hk
  unfold finC endC wpC
  rw [wp_bind, wp_bind]
  iapply (wp_oStop c B.c B.csem G.c (Par tlC 1) _ (G.tc 0) (nC G) rfl) $$ [HcB HO]
  · isplitl [HcB] <;> iassumption
  iintro HcB HO
  iapply (le_wp_ret (Fr := frame) (a := _))
  rw [wp_bind]
  iapply (wp_oStop c B.s B.ssem G.s (Par tlS 1) _ (G.ts 0) (nS G) rfl) $$ [HsB HO]
  · isplitl [HsB] <;> iassumption
  iintro HsB HO
  iapply (le_wp_ret (Fr := frame) (a := _))
  iapply (wp_oStop c A.y A.ysem G.y (Par tlY 0) _ (G.ty 0) (nY G) rfl) $$ [HyA HO]
  · isplitl [HyA] <;> iassumption
  iintro HyA HO
  iapply (le_wp_ret (Fr := frame) (a := _))
  iapply (wp_oStop c B.y B.ysem G.y (Par tlY 1) _ (G.ty 0) (nY G) rfl) $$ [HyB HO]
  · isplitl [HyB] <;> iassumption
  iintro HyB HO
  iapply (le_wp_ret (Fr := frame) (a := _))
  iapply Hk
  unfold oFree
  icases HyA with ⟨HyAs, HyAv, HyAp⟩
  have hy : ∀ y ∈ Par tlY 0, K.hy (64 - 1) y = asm rTy tlY hrY K.yt y := fun y hy => by
    rw [← home_all rTy tlY hrY K.yt K.Y (64 - 1 + 1) (by decide)]
    exact home_par rTy tlY hrY K.yt K.Y (64 - 1) y hy
  ihave HyAp := (part_congr c G.y fullShare hy) $$ HyAp
  isplitl [HxA]; · iexact HxA
  isplitl [HxB]; · iexact HxB
  isplitl [HcA]; · iexact HcA
  isplitl [HcB]; · iexact HcB
  isplitl [HsA]; · iexact HsA
  isplitl [HsB]; · iexact HsB
  isplitl [HyAs HyAv HyAp]
  · isplitl [HyAs]; · iexact HyAs
    isplitl [HyAv] <;> iassumption
  isplitl [HyB]; · iexact HyB
  isplitl [HdA]
  · iexists D; iexact HdA
  isplitl [HdB]; · iexact HdB
  isplitl [Hcom] <;> iassumption

/-- The whole program: from the arrays and both slots not in use to the same with the results in place. -/
theorem wp_whole (WS : S15x64.Idx → Elt F .f32) (WC : S1920x8192.Idx → Elt F .fp8e4m3) (WO : S128x8192.Idx → Elt F .bf16) (hW : K.W = wT WS WC WO)
    (b1 : Fin k0_t1_loop.trips → Pg F PUnit) (hb1 : ∀ t : Fin 15, b1 t = wtrip G A B t) (b2 : Fin k0_t2_loop.trips → Pg F PUnit) (hb2 : ∀ t : Fin 32, b2 t = tripC G A B t) {Q : PUnit → sProp 𝕄} :
    iprop(globSt c G K WS WC WO K.Y K.C K.S ∗ slotSt c A ∗ slotSt c B ∗ quit c)
      ⊢ iprop((iprop(globSt c G K WS WC WO (asm rTy tlY hrY K.yt) (asm rTc tlC hrC K.ct) (asm rTs tlS hrS K.st) ∗ slotSt c A ∗ slotSt c B ∗ quit c) -∗ Q ⟨⟩)
        -∗ wpC c (preC G A >>= fun _ => Scf.Loop.for k0_t1_loop k0_t1_ok ⟨⟩ (fun t _ => b1 t) >>= fun _ => midC G A B >>= fun _ => Scf.Loop.for k0_t2_loop k0_t2_ok ⟨⟩ (fun t _ => b2 t) >>= fun _ => finC G A B >>= fun _ => endC G B) Q) := by
  unfold globSt slotSt
  iintro ⟨⟨Hi, Ho, Hws, Hx, Hwo, Hwc, Hy, Hc, Hs, ⟨%W, Hw⟩, ⟨%St, Hst⟩, Hos⟩, ⟨⟨%XA, HxA⟩, HdA, HcA, HsA, HyA, HxsA, HcsA, HssA, HysA, HwsA⟩, ⟨⟨%XB, HxB⟩, HdB, HcB, HsB, HyB, HxsB, HcsB, HssB, HysB, HwsB⟩, HO⟩ Hk
  ihave Hx := (part_of_at c G.x fullShare K.X) $$ Hx
  ihave Hx := (part_halve c G.x fullShare Finset.univ K.X) $$ Hx
  icases Hx with ⟨Hx0, Hx1⟩
  ihave Hwc := (part_of_at c G.wc fullShare WC) $$ Hwc
  ihave Hwc := (part_halve c G.wc fullShare Finset.univ WC) $$ Hwc
  icases Hwc with ⟨Hwc0, Hwc1⟩
  ihave Hst := (st_two c G St) $$ Hst
  icases Hst with ⟨Hst0, Hst1, Hstb⟩
  ihave Hw := (part_of_at c G.w fullShare W) $$ Hw
  ihave Hw := (part_take c G.w fullShare (Finset.subset_univ rWo.set) W) $$ Hw
  icases Hw with ⟨Hw0, Hw1⟩
  ihave Hy := (par_split c G.y tlY K.Y) $$ Hy
  icases Hy with ⟨Hy0, Hy1⟩
  ihave Hc := (par_split c G.c tlC K.C) $$ Hc
  icases Hc with ⟨Hc0, Hc1⟩
  ihave Hs := (par_split c G.s tlS K.S) $$ Hs
  icases Hs with ⟨Hs0, Hs1⟩
  unfold wpC
  rw [wp_bind]
  iapply (wp_preC c G A K W WO WC) $$ [HxA HxsA Hx0 Hw0 Hwo Hos HwsA Hst0 Hwc0]
  · isplitl [HxA HxsA Hx0]
    · unfold xGot
      isplitl [HxsA]; · iexact HxsA
      isplitl [HxA]
      · iexists XA; isplitr
        · ipureintro; intro h; exact absurd h (by decide)
        iexact HxA
      iexact Hx0
    isplitl [Hw0]; · iexact Hw0
    isplitl [Hwo]; · iexact Hwo
    isplitl [Hos]; · iexact Hos
    unfold restW
    isplitl [HwsA]; · iexact HwsA
    isplitl [Hst0] <;> iassumption
  iintro HxA Hf Hr
  rw [wp_bind]
  iapply (wp_loop1 c G A B WS WC W b1 hb1) $$ [Hr HwsB Hst1 Hwc1 Hws Hw1 HO]
  · unfold invW
    rw [if_pos (show 0 % 2 = 0 from rfl)]
    isplitl [Hr HwsB Hst1 Hwc1]
    · isplitl [Hr]
      · iapply (Entails.of_eq (mayW_lt c G A 0 fullShare.left WC 0).symm) $$ Hr
      unfold restW
      isplitl [HwsB]; · iexact HwsB
      isplitl [Hst1] <;> iassumption
    isplitl [Hws]; · iexact Hws
    isplitl [Hw1]
    · have e : part c G.w fullShare (Finset.univ \ rWo.set) W = part c G.w fullShare inRows (wK WS WC W 0 (Nat.zero_le 15)) := by unfold inRows wK; rfl
      iapply (Entails.of_eq e) $$ Hw1
    iexact HO
  unfold invW
  rw [if_neg (show ¬ 15 % 2 = 0 by decide)]
  unfold mayW
  rw [dif_neg (show ¬ 15 < 15 by decide)]
  iintro ⟨⟨HrB, HrA⟩, Hws, Hw1, HO⟩
  rw [wp_bind]
  iapply (wp_midC c G A B K WS WC W WO hW) $$ [Hf Hw1 HO HxA HxB HxsB Hx1 Hi Ho HcA HcsA Hc0 HcB HcsB Hc1 HsA HssA Hs0 HsB HssB Hs1 HyA HysA Hy0 HyB HysB Hy1 HdA HdB]
  · unfold xGot oFree
    isplitl [Hf]; · iexact Hf
    isplitl [Hw1]; · iexact Hw1
    isplitl [HO]; · iexact HO
    isplitl [HxA]; · iexact HxA
    isplitl [HxB HxsB Hx1]
    · isplitl [HxsB]; · iexact HxsB
      isplitl [HxB]
      · iexists XB; isplitr
        · ipureintro; intro h; exact absurd h (by decide)
        iexact HxB
      iexact Hx1
    isplitl [Hi]; · iexact Hi
    isplitl [Ho]; · iexact Ho
    isplitl [HcA HcsA Hc0]
    · isplitl [HcsA]; · iexact HcsA
      isplitl [HcA] <;> iassumption
    isplitl [HcB HcsB Hc1]
    · isplitl [HcsB]; · iexact HcsB
      isplitl [HcB] <;> iassumption
    isplitl [HsA HssA Hs0]
    · isplitl [HssA]; · iexact HssA
      isplitl [HsA] <;> iassumption
    isplitl [HsB HssB Hs1]
    · isplitl [HssB]; · iexact HssB
      isplitl [HsB] <;> iassumption
    isplitl [HyA HysA Hy0]
    · isplitl [HysA]; · iexact HysA
      isplitl [HyA] <;> iassumption
    isplitl [HyB HysB Hy1]
    · isplitl [HysB]; · iexact HysB
      isplitl [HyB] <;> iassumption
    isplitl [HdA] <;> iassumption
  iintro HI Hwo Hos
  rw [wp_bind]
  iapply (wp_loop2 c G A B K b2 hb2) $$ HI
  iintro HI
  iapply (wp_finC c G A B K) $$ HI
  unfold xGot oFree comA restW
  iintro ⟨⟨HxsA, ⟨%XA', -, HxA⟩, Hx0⟩, ⟨HxsB, ⟨%XB', -, HxB⟩, Hx1⟩, ⟨HcsA, HcA, Hc0⟩, ⟨HcsB, HcB, Hc1⟩, ⟨HssA, HsA, Hs0⟩, ⟨HssB, HsB, Hs1⟩, ⟨HysA, HyA, Hy0⟩, ⟨HysB, HyB, Hy1⟩, HdA, HdB, ⟨Hi, Ho, Hw⟩, HO⟩
  icases HrA with ⟨HwsA, ⟨%S0, Hst0⟩, Hwc0⟩
  icases HrB with ⟨HwsB, ⟨%S1, Hst1⟩, Hwc1⟩
  ihave Hx := (part_unhalve c G.x fullShare Finset.univ K.X) $$ [Hx0 Hx1]
  · isplitl [Hx0] <;> iassumption
  ihave Hx := (at_of_part c G.x fullShare K.X) $$ Hx
  ihave Hwc := (part_unhalve c G.wc fullShare Finset.univ WC) $$ [Hwc0 Hwc1]
  · isplitl [Hwc0] <;> iassumption
  ihave Hwc := (at_of_part c G.wc fullShare WC) $$ Hwc
  ihave Hst := Hstb $$ Hst0 Hst1
  ihave Hy := (par_join c G.y tlY _) $$ [Hy0 Hy1]
  · isplitl [Hy0] <;> iassumption
  ihave Hc := (par_join c G.c tlC _) $$ [Hc0 Hc1]
  · isplitl [Hc0] <;> iassumption
  ihave Hs := (par_join c G.s tlS _) $$ [Hs0 Hs1]
  · isplitl [Hs0] <;> iassumption
  iapply Hk
  isplitl [Hi Ho Hws Hx Hwo Hwc Hy Hc Hs Hw Hst Hos]
  · isplitl [Hi]; · iexact Hi
    isplitl [Ho]; · iexact Ho
    isplitl [Hws]; · iexact Hws
    isplitl [Hx]; · iexact Hx
    isplitl [Hwo]; · iexact Hwo
    isplitl [Hwc]; · iexact Hwc
    isplitl [Hy]; · iexact Hy
    isplitl [Hc]; · iexact Hc
    isplitl [Hs]; · iexact Hs
    isplitl [Hw]; · iexists K.W; iexact Hw
    isplitl [Hst] <;> iassumption
  isplitl [HxA HdA HcA HsA HyA HxsA HcsA HssA HysA HwsA]
  · isplitl [HxA]; · iexists XA'; iexact HxA
    isplitl [HdA]; · iexact HdA
    isplitl [HcA]; · iexact HcA
    isplitl [HsA]; · iexact HsA
    isplitl [HyA]; · iexact HyA
    isplitl [HxsA]; · iexact HxsA
    isplitl [HcsA]; · iexact HcsA
    isplitl [HssA]; · iexact HssA
    isplitl [HysA] <;> iassumption
  isplitl [HxB HdB HcB HsB HyB HxsB HcsB HssB HysB HwsB]
  · isplitl [HxB]; · iexists XB'; iexact HxB
    isplitl [HdB]; · iexact HdB
    isplitl [HcB]; · iexact HcB
    isplitl [HsB]; · iexact HsB
    isplitl [HyB]; · iexact HyB
    isplitl [HxsB]; · iexact HxsB
    isplitl [HcsB]; · iexact HcsB
    isplitl [HssB]; · iexact HssB
    isplitl [HysB] <;> iassumption
  iexact HO

end
end Cert.KernelIdeal.Own
-- ==== Proof.Bodies.lean ====
module

public import proofs.«01_k».proof.Proof.Struct
public import Idealize.ShloMosaic.Lib.Tactic

/-! The printed program is the one written in its own order. -/

@[expose] public section

set_option maxRecDepth 10000

noncomputable section

namespace Cert.KernelIdeal.Own

open Idealize.ShloMosaic Idealize.SL.Sem
open Cert.KernelIdeal

variable {F : FTy → Type} [FloatOps F] [Facts]
open Facts₀ Facts

/-- The printed body of the loop over weight tiles. -/
def body1 (arg0 : Memref sig .tc .vmem S15x128 .i32) (harg0 : arg0.IsWhole) (arg1 : Memref sig .tc .vmem S1x128 .i32) (harg1 : arg1.IsWhole) (arg2 : Memref sig .tc .smem S15x64 .f32) (harg2 : arg2.IsWhole) (arg3 : Memref sig .tc .hbm S16384x2048 .bf16) (harg3 : arg3.IsWhole) (arg4 : Memref sig .tc .hbm S128x8192 .bf16) (harg4 : arg4.IsWhole) (arg5 : Memref sig .tc .hbm S1920x8192 .fp8e4m3) (harg5 : arg5.IsWhole) (arg6 : Memref sig .tc .hbm S16384x8192 .bf16) (harg6 : arg6.IsWhole) (arg7 : Memref sig .tc .hbm S16384x1920 .fp8e4m3) (harg7 : arg7.IsWhole) (arg8 : Memref sig .tc .hbm S16384x15 .f32) (harg8 : arg8.IsWhole) (arg9 : Memref sig .tc .vmem S2048x8192 .bf16) (harg9 : arg9.IsWhole) (arg10 : Memref sig .tc .vmem S2x128x8192 .fp8e4m3) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x1920 .fp8e4m3) (harg15 : arg15.IsWhole) (arg16 : Memref sig .tc .vmem S256x1920 .fp8e4m3) (harg16 : arg16.IsWhole) (arg17 : Memref sig .tc .vmem S256x15 .f32) (harg17 : arg17.IsWhole) (arg18 : Memref sig .tc .vmem S256x15 .f32) (harg18 : arg18.IsWhole) (arg19 : Memref sig .tc .vmem S256x8192 .bf16) (harg19 : arg19.IsWhole) (arg20 : Memref sig .tc .vmem S256x8192 .bf16) (harg20 : arg20.IsWhole) (arg21 : DmaSems sig S2) (arg22 : DmaSems sig S_) (arg23 : DmaSems sig S2) (arg24 : DmaSems sig S2) (arg25 : DmaSems sig S2) (arg26 : DmaSems sig S2) (k0_t1 : Fin k0_t1_loop.trips) : Pg F PUnit := do
  let c128_i32_1206 : BitVec 32 := 128#32
  let c0_i32_9 : BitVec 32 := 0#32
  let c1_i32 : BitVec 32 := 1#32
  let ⟨v2876, v3778, c128_i32_1206⟩ : Σ' (v2876 : BitVec 32) (v3778 : FVec F S128x128 .bf16), BitVec 32 ← k0_part22 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 c0_i32_9 c1_i32 k0_t1
  let v3779 : BitVec 32 := Scalar.muli v2876 c128_i32_1206
  let v3780 : Index := Scalar.indexCast v3779
  let c8064_1207 : Index := 8064#32
  let v3781 : Vec F S128x128 .bf16 ← Prog.lift (.load arg9 (Rect.unit (s := S2048x8192) (k0_off198 k0_t1) S128x128.size (k0_off198_inb k0_t1)).toLoadRect (View.loadsAt_vmem h_S128x128))
  have v3782 : FVec F S128x128 .bf16 := shapeCast S128x128 v3781 shapeCasts_S128x128_S128x128
  have v3783 : FVec F S128x128 .bf16 := shapeCast S128x128 v3778 shapeCasts_S128x128_S128x128
  Prog.lift (.store arg9 (Rect.unit (s := S2048x8192) (k0_off198 k0_t1) S128x128.size (k0_off198_inb k0_t1)) v3783 Finset.univ (View.stores_vmem h_S128x128 (harg9.storeExact_slice rfl _ (k0_off198_packedbf16 k0_t1)) (fun _ => rfl)) (.inl rfl))
  pure ⟨⟩

/-- The printed body of the loop over tiles. -/
def body2 (arg0 : Memref sig .tc .vmem S15x128 .i32) (harg0 : arg0.IsWhole) (arg1 : Memref sig .tc .vmem S1x128 .i32) (harg1 : arg1.IsWhole) (arg2 : Memref sig .tc .smem S15x64 .f32) (harg2 : arg2.IsWhole) (arg3 : Memref sig .tc .hbm S16384x2048 .bf16) (harg3 : arg3.IsWhole) (arg4 : Memref sig .tc .hbm S128x8192 .bf16) (harg4 : arg4.IsWhole) (arg5 : Memref sig .tc .hbm S1920x8192 .fp8e4m3) (harg5 : arg5.IsWhole) (arg6 : Memref sig .tc .hbm S16384x8192 .bf16) (harg6 : arg6.IsWhole) (arg7 : Memref sig .tc .hbm S16384x1920 .fp8e4m3) (harg7 : arg7.IsWhole) (arg8 : Memref sig .tc .hbm S16384x15 .f32) (harg8 : arg8.IsWhole) (arg9 : Memref sig .tc .vmem S2048x8192 .bf16) (harg9 : arg9.IsWhole) (arg10 : Memref sig .tc .vmem S2x128x8192 .fp8e4m3) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x1920 .fp8e4m3) (harg15 : arg15.IsWhole) (arg16 : Memref sig .tc .vmem S256x1920 .fp8e4m3) (harg16 : arg16.IsWhole) (arg17 : Memref sig .tc .vmem S256x15 .f32) (harg17 : arg17.IsWhole) (arg18 : Memref sig .tc .vmem S256x15 .f32) (harg18 : arg18.IsWhole) (arg19 : Memref sig .tc .vmem S256x8192 .bf16) (harg19 : arg19.IsWhole) (arg20 : Memref sig .tc .vmem S256x8192 .bf16) (harg20 : arg20.IsWhole) (arg21 : DmaSems sig S2) (arg22 : DmaSems sig S_) (arg23 : DmaSems sig S2) (arg24 : DmaSems sig S2) (arg25 : DmaSems sig S2) (arg26 : DmaSems sig S2) (v0 : FVec F S256x128 .f32) (k0_t2 : Fin k0_t2_loop.trips) : Pg F PUnit := do
  let c0_i32_960 : BitVec 32 := 0#32
  let c1_i32_961 : BitVec 32 := 1#32
  let ⟨v2876, v2877, v2879, v5262, v5397, v5427, v5452⟩ : Σ' (v2876 : BitVec 32) (v2877 : BitVec 32) (v2879 : BitVec 32) (v5262 : FVec F S256x128 .f32) (v5397 : FVec F S256x128 .f32) (v5427 : IVec S256x128 1), IVec S256x128 32 ← k0_part161 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v0 c0_i32_960 c1_i32_961 k0_t2
  let ⟨v5851, v5853, v7852, v7987, v8017, v8019, v8021, v8023, v8025⟩ : Σ' (v5851 : BitVec 32) (v5853 : BitVec 32) (v7852 : FVec F S256x128 .f32) (v7987 : FVec F S256x128 .f32) (v8017 : IVec S256x128 1) (v8019 : BitVec 32) (v8021 : IVec S1x128 32) (v8023 : IVec S1x128 1), IVec S1x128 1 ← k0_part162 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v0 k0_t2 v2876 v2877 v2879 v5262 v5397 v5427 v5452
  let ⟨v8044, v8046, v8064, c128_i32_2904, v8066, v8069, v8071⟩ : Σ' (v8044 : FVec F S256x128 .f32) (v8046 : IVec S1x128 32) (v8064 : IVec S256x128 32) (c128_i32_2904 : BitVec 32) (v8066 : IVec S1x128 32) (v8069 : IVec S1x128 32), IVec S1x128 1 ← k0_part143 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v7852 v7987 v8017 v8019 v8021 v8023 v8025
  let ⟨v8112, v8118⟩ : Σ' (v8112 : FVec F S256x128 .bf16), FVec F S256x1 .f32 ← k0_part144 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v7987 v8046 v8064 c128_i32_2904 v8066 v8069 v8071
  let ⟨v8140, v8157⟩ : Σ' (v8140 : FVec F S256x1 .f32), FVec F S256x128 .fp8e4m3 ← k0_part145 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v8112 v8118
  let ⟨v8179, v8181, v8183, v8197, v8198⟩ : Σ' (v8179 : FVec F S256x128 .f32) (v8181 : IVec S1x128 32) (v8183 : IVec S1x128 32) (v8197 : IVec S1x128 1), IVec S1x128 32 ← k0_part146 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v8140 v8157
  let ⟨v8236, v8238, v8240, v8242⟩ : Σ' (v8236 : FVec F S256x128 .f32) (v8238 : IVec S1x128 32) (v8240 : BitVec 32), IVec S1x128 32 ← k0_part147 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v8044 v8179 v8181 v8183 v8197 v8198
  let ⟨v8256, v8284, v8289⟩ : Σ' (v8256 : IVec S256x128 32) (v8284 : IVec S256x128 1), IVec S256x128 32 ← k0_part148 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v8238 v8240 v8242
  let ⟨v8304, v8327, v8332, v8333⟩ : Σ' (v8304 : FVec F S256x128 .bf16) (v8327 : IVec S256x1 32) (v8332 : FVec F S256x1 .f32), IVec S256x1 32 ← k0_part149 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v8179 v8256 v8284 v8289
  let v8370 : Vec F S256x128 .bf16 ← k0_part150 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v8304 v8327 v8332 v8333
  let ⟨v8371, v8401, v8403, v8405, v8414⟩ : Σ' (v8371 : FVec F S256x128 .f32) (v8401 : IVec S256x128 1) (v8403 : BitVec 32) (v8405 : IVec S1x128 32), IVec S1x128 1 ← k0_part151 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v8370
  let ⟨v8428, v8430, v8448, c128_i32_3046, v8450, v8457, v8459, c0_i32_3050⟩ : Σ' (v8428 : FVec F S256x128 .f32) (v8430 : IVec S1x128 32) (v8448 : IVec S256x128 32) (c128_i32_3046 : BitVec 32) (v8450 : IVec S1x128 32) (v8457 : IVec S1x128 32) (v8459 : BitVec 32), BitVec 32 ← k0_part152 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v8236 v8371 v8401 v8403 v8405 v8414
  let ⟨v8496, v8502, v8506, v8507⟩ : Σ' (v8496 : FVec F S256x128 .bf16) (v8502 : FVec F S256x1 .f32) (v8506 : FVec F S256x256 .f32), FVec F S256x256 .f32 ← k0_part153 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v8371 v8430 v8448 c128_i32_3046 v8450 v8457 v8459 c0_i32_3050
  let ⟨v8524, v8548⟩ : Σ' (v8524 : FVec F S256x1 .f32), FVec F S256x128 .bf16 ← k0_part154 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v8496 v8502 v8506 v8507
  let ⟨v8563, v8565, v8567, v8586, c1_i32_3099⟩ : Σ' (v8563 : FVec F S256x128 .f32) (v8565 : IVec S1x128 32) (v8567 : IVec S1x128 32) (v8586 : IVec S1x128 1), BitVec 32 ← k0_part155 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v8524 v8548
  let ⟨v8620, v8622, v8624, v8626, v8628, v8630⟩ : Σ' (v8620 : FVec F S256x128 .f32) (v8622 : IVec S1x128 32) (v8624 : BitVec 32) (v8626 : IVec S1x128 32) (v8628 : IVec S1x128 1), IVec S1x128 1 ← k0_part156 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v8428 v8563 v8565 v8567 v8586 c1_i32_3099
  let ⟨v8640, v8668, v8676, v8677⟩ : Σ' (v8640 : IVec S256x128 32) (v8668 : IVec S256x128 1) (v8676 : FVec F S256x128 .f32), Vec F S256x128 .bf16 ← k0_part157 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v8563 v8622 v8624 v8626 v8628 v8630
  let ⟨v8688, v8716, v8720, v8721⟩ : Σ' (v8688 : FVec F S256x128 .bf16) (v8716 : FVec F S256x1 .f32) (v8720 : IVec S256x1 32), IVec S256x1 32 ← k0_part158 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v8640 v8668 v8676 v8677
  let ⟨v8755, v8757, c128_i32_3164⟩ : Σ' (v8755 : FVec F S256x128 .f32) (v8757 : IVec S1x128 32), BitVec 32 ← k0_part159 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v8688 v8716 v8720 v8721
  let ⟨v8785, v8803, c0_i32_3178⟩ : Σ' (v8785 : IVec S256x128 1) (v8803 : IVec S256x128 32), BitVec 32 ← k0_part160 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v8757 c128_i32_3164
  have v8804 : IVec S256x128 32 := broadcast S256x128 c0_i32_3178
  have v8805 : IVec S256x128 1 := cmpi .slt v8803 v8804
  let c128_i32_3179 : BitVec 32 := 128#32
  have v8806 : IVec S256x128 32 := broadcast S256x128 c128_i32_3179
  have v8807 : IVec S256x128 32 := addi v8803 v8806
  have v8808 : IVec S256x128 32 := select v8805 v8807 v8803
  have v8809 : IVec S256x128x1 32 := shapeCast S256x128x1 v8808 shapeCasts_S256x128_S256x128x1
  have v8810 : IVec S256x128 32 := shapeCast S256x128 v8809 shapeCasts_S256x128x1_S256x128
  have v8811 : FVec F S256x128 .f32 := dynamicGather 1 v8755 v8810
  have v8812 : FVec F S256x128 .f32 := select v8785 v8811 v8620
  have v8813 : FVec F S256x128 .bf16 := truncf .bf16 v8812 bitsLt_bf16_f32
  let c0_3180 : Index := 0#32
  let c1920_3181 : Index := 1920#32
  let v8814 : Vec F S256x128 .bf16 ← Prog.lift (.load arg13 (Rect.unit (s := S256x2048) ![0, 1920] S256x128.size inb_S256x2048_S256x128_0_1920).toLoadRect (View.loadsAt_vmem h_S256x128))
  have v8815 : FVec F S256x128 .bf16 := shapeCast S256x128 v8814 shapeCasts_S256x128_S256x128
  have v8816 : FVec F S256x128 .bf16 := shapeCast S256x128 v8813 shapeCasts_S256x128_S256x128
  Prog.lift (.store arg13 (Rect.unit (s := S256x2048) ![0, 1920] S256x128.size inb_S256x2048_S256x128_0_1920) v8816 Finset.univ (View.stores_vmem h_S256x128 (harg13.storeExact_slice rfl _ packedbf16_S256x2048_S256x128_0_1920) (fun _ => rfl)) (.inl rfl))
  let c256_i32_3182 : BitVec 32 := 256#32
  let v8817 : BitVec 32 := Scalar.muli v5851 c256_i32_3182
  let c1_i32_3183 : BitVec 32 := 1#32
  let v8818 : DmaSems sig S1 := arg26.slice (Rect.unit (s := S2) ![1] S1.size inb_S2_S1_1)
  let v8819 : DmaSems sig S_ := v8818.squeeze S_ squeezes_S1_S_
  let c0_i32_3184 : BitVec 32 := 0#32
  let v8820 : Memref sig .tc .hbm S256x8192 .bf16 := arg6.slice (Rect.unit (s := S16384x8192) (k0_off212 k0_t2) S256x8192.size (k0_off212_inb k0_t2)) (fun _ => rfl)
  Prog.lift (.enqueueDma arg20 (.here v8820) (.dma v8819.sem) harg20.wordExact (harg6.wordExact_slice rfl _ (k0_off212_wordsbf16 k0_t2)) ⟨Or.inl rfl, trivial⟩)
  let c63_i32_3185 : BitVec 32 := 63#32
  let v8821 : BitVec 1 := Scalar.cmpi .slt v5851 c63_i32_3185
  let v8822 : BitVec 32 := Scalar.extui v8821
  let c0_i32_3186 : BitVec 32 := 0#32
  let v8823 : BitVec 1 := Scalar.cmpi .ne v8822 c0_i32_3186
  if k0_h11 : k0_cond11 k0_t2 = 1#1 then do
    let c256_i32_3187 : BitVec 32 := 256#32
    let v8824 : BitVec 32 := Scalar.muli v5853 c256_i32_3187
    let c0_i32_3188 : BitVec 32 := 0#32
    let v8825 : DmaSems sig S1 := arg24.slice (Rect.unit (s := S2) ![0] S1.size inb_S2_S1_0)
    let v8826 : DmaSems sig S_ := v8825.squeeze S_ squeezes_S1_S_
    let c0_i32_3189 : BitVec 32 := 0#32
    let v8827 : Memref sig .tc .hbm S256x1920 .fp8e4m3 := arg7.slice (Rect.unit (s := S16384x1920) (k0_off213 k0_t2) S256x1920.size (k0_off213_inb k0_t2 k0_h11)) (fun _ => rfl)
    Prog.lift (.enqueueDma arg15 (.here v8827) (.dma v8826.sem) harg15.wordExact (harg7.wordExact_slice rfl _ (k0_off213_wordsfp8e4m3 k0_t2 k0_h11)) ⟨Or.inl rfl, trivial⟩)
    let c256_i32_3190 : BitVec 32 := 256#32
    let v8828 : BitVec 32 := Scalar.muli v5853 c256_i32_3190
    let c0_i32_3191 : BitVec 32 := 0#32
    let v8829 : DmaSems sig S1 := arg25.slice (Rect.unit (s := S2) ![0] S1.size inb_S2_S1_0)
    let v8830 : DmaSems sig S_ := v8829.squeeze S_ squeezes_S1_S_
    let c0_i32_3192 : BitVec 32 := 0#32
    let v8831 : Memref sig .tc .hbm S256x15 .f32 := arg8.slice (Rect.unit (s := S16384x15) (k0_off214 k0_t2) S256x15.size (k0_off214_inb k0_t2 k0_h11)) (fun _ => rfl)
    Prog.lift (.enqueueDma arg17 (.here v8831) (.dma v8830.sem) harg17.wordExact (View.wordExact_bits rfl) ⟨Or.inl rfl, trivial⟩)
    pure ⟨⟩
  else do
    pure ⟨⟩
  pure ⟨⟩

/-- The buffers both slots share, as the kernel's arguments. -/
def globOf (arg0 : Memref sig .tc .vmem S15x128 .i32) (arg1 : Memref sig .tc .vmem S1x128 .i32) (arg2 : Memref sig .tc .smem S15x64 .f32) (arg3 : Memref sig .tc .hbm S16384x2048 .bf16) (harg3 : arg3.IsWhole) (arg4 : Memref sig .tc .hbm S128x8192 .bf16) (harg4 : arg4.IsWhole) (arg5 : Memref sig .tc .hbm S1920x8192 .fp8e4m3) (harg5 : arg5.IsWhole) (arg6 : Memref sig .tc .hbm S16384x8192 .bf16) (harg6 : arg6.IsWhole) (arg7 : Memref sig .tc .hbm S16384x1920 .fp8e4m3) (harg7 : arg7.IsWhole) (arg8 : Memref sig .tc .hbm S16384x15 .f32) (harg8 : arg8.IsWhole) (arg9 : Memref sig .tc .vmem S2048x8192 .bf16) (harg9 : arg9.IsWhole) (arg10 : Memref sig .tc .vmem S2x128x8192 .fp8e4m3) (harg10 : arg10.IsWhole) (arg22 : DmaSems sig S_) : Glob := ⟨arg0, arg1, arg2, arg3, harg3, arg4, harg4, arg5, harg5, arg6, harg6, arg7, harg7, arg8, harg8, arg9, harg9, arg10, harg10, arg22.sem⟩
/-- The first slot, as the kernel's arguments. -/
def slotOf0 (arg11 : Memref sig .tc .vmem S256x2048 .bf16) (harg11 : arg11.IsWhole) (arg13 : Memref sig .tc .vmem S256x2048 .bf16) (harg13 : arg13.IsWhole) (arg15 : Memref sig .tc .vmem S256x1920 .fp8e4m3) (harg15 : arg15.IsWhole) (arg17 : Memref sig .tc .vmem S256x15 .f32) (harg17 : arg17.IsWhole) (arg19 : Memref sig .tc .vmem S256x8192 .bf16) (harg19 : arg19.IsWhole) (arg21 : DmaSems sig S2) (arg23 : DmaSems sig S2) (arg24 : DmaSems sig S2) (arg25 : DmaSems sig S2) (arg26 : DmaSems sig S2) : Slot := ⟨arg11, harg11, arg13, harg13, arg15, harg15, arg17, harg17, arg19, harg19, ((arg23.slice (Rect.unit (s := S2) ![0] S1.size inb_S2_S1_0)).squeeze S_ squeezes_S1_S_).sem, ((arg24.slice (Rect.unit (s := S2) ![0] S1.size inb_S2_S1_0)).squeeze S_ squeezes_S1_S_).sem, ((arg25.slice (Rect.unit (s := S2) ![0] S1.size inb_S2_S1_0)).squeeze S_ squeezes_S1_S_).sem, ((arg26.slice (Rect.unit (s := S2) ![0] S1.size inb_S2_S1_0)).squeeze S_ squeezes_S1_S_).sem, ((arg21.slice (Rect.unit (s := S2) ![0] S1.size inb_S2_S1_0)).squeeze S_ squeezes_S1_S_).sem⟩
/-- The second slot, as the kernel's arguments. -/
def slotOf1 (arg12 : Memref sig .tc .vmem S256x2048 .bf16) (harg12 : arg12.IsWhole) (arg14 : Memref sig .tc .vmem S256x2048 .bf16) (harg14 : arg14.IsWhole) (arg16 : Memref sig .tc .vmem S256x1920 .fp8e4m3) (harg16 : arg16.IsWhole) (arg18 : Memref sig .tc .vmem S256x15 .f32) (harg18 : arg18.IsWhole) (arg20 : Memref sig .tc .vmem S256x8192 .bf16) (harg20 : arg20.IsWhole) (arg21 : DmaSems sig S2) (arg23 : DmaSems sig S2) (arg24 : DmaSems sig S2) (arg25 : DmaSems sig S2) (arg26 : DmaSems sig S2) : Slot := ⟨arg12, harg12, arg14, harg14, arg16, harg16, arg18, harg18, arg20, harg20, ((arg23.slice (Rect.unit (s := S2) ![1] S1.size inb_S2_S1_1)).squeeze S_ squeezes_S1_S_).sem, ((arg24.slice (Rect.unit (s := S2) ![1] S1.size inb_S2_S1_1)).squeeze S_ squeezes_S1_S_).sem, ((arg25.slice (Rect.unit (s := S2) ![1] S1.size inb_S2_S1_1)).squeeze S_ squeezes_S1_S_).sem, ((arg26.slice (Rect.unit (s := S2) ![1] S1.size inb_S2_S1_1)).squeeze S_ squeezes_S1_S_).sem, ((arg21.slice (Rect.unit (s := S2) ![1] S1.size inb_S2_S1_1)).squeeze S_ squeezes_S1_S_).sem⟩

variable (arg0 : Memref sig .tc .vmem S15x128 .i32) (harg0 : arg0.IsWhole) (arg1 : Memref sig .tc .vmem S1x128 .i32) (harg1 : arg1.IsWhole) (arg2 : Memref sig .tc .smem S15x64 .f32) (harg2 : arg2.IsWhole) (arg3 : Memref sig .tc .hbm S16384x2048 .bf16) (harg3 : arg3.IsWhole) (arg4 : Memref sig .tc .hbm S128x8192 .bf16) (harg4 : arg4.IsWhole) (arg5 : Memref sig .tc .hbm S1920x8192 .fp8e4m3) (harg5 : arg5.IsWhole) (arg6 : Memref sig .tc .hbm S16384x8192 .bf16) (harg6 : arg6.IsWhole) (arg7 : Memref sig .tc .hbm S16384x1920 .fp8e4m3) (harg7 : arg7.IsWhole) (arg8 : Memref sig .tc .hbm S16384x15 .f32) (harg8 : arg8.IsWhole) (arg9 : Memref sig .tc .vmem S2048x8192 .bf16) (harg9 : arg9.IsWhole) (arg10 : Memref sig .tc .vmem S2x128x8192 .fp8e4m3) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x1920 .fp8e4m3) (harg15 : arg15.IsWhole) (arg16 : Memref sig .tc .vmem S256x1920 .fp8e4m3) (harg16 : arg16.IsWhole) (arg17 : Memref sig .tc .vmem S256x15 .f32) (harg17 : arg17.IsWhole) (arg18 : Memref sig .tc .vmem S256x15 .f32) (harg18 : arg18.IsWhole) (arg19 : Memref sig .tc .vmem S256x8192 .bf16) (harg19 : arg19.IsWhole) (arg20 : Memref sig .tc .vmem S256x8192 .bf16) (harg20 : arg20.IsWhole) (arg21 : DmaSems sig S2) (arg22 : DmaSems sig S_) (arg23 : DmaSems sig S2) (arg24 : DmaSems sig S2) (arg25 : DmaSems sig S2) (arg26 : DmaSems sig S2)

/-- The printed body of the loop over tiles is a trip. -/
theorem body2_eq (t : Fin 32) : body2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 xo0 t = tripC (globOf arg0 arg1 arg2 arg3 harg3 arg4 harg4 arg5 harg5 arg6 harg6 arg7 harg7 arg8 harg8 arg9 harg9 arg10 harg10 arg22) (slotOf0 arg11 harg11 arg13 harg13 arg15 harg15 arg17 harg17 arg19 harg19 arg21 arg23 arg24 arg25 arg26) (slotOf1 arg12 harg12 arg14 harg14 arg16 harg16 arg18 harg18 arg20 harg20 arg21 arg23 arg24 arg25 arg26) t := by
  match t with
  | ⟨0, _⟩ => sl_kernel_rfl
  | ⟨1, _⟩ => sl_kernel_rfl
  | ⟨2, _⟩ => sl_kernel_rfl
  | ⟨3, _⟩ => sl_kernel_rfl
  | ⟨4, _⟩ => sl_kernel_rfl
  | ⟨5, _⟩ => sl_kernel_rfl
  | ⟨6, _⟩ => sl_kernel_rfl
  | ⟨7, _⟩ => sl_kernel_rfl
  | ⟨8, _⟩ => sl_kernel_rfl
  | ⟨9, _⟩ => sl_kernel_rfl
  | ⟨10, _⟩ => sl_kernel_rfl
  | ⟨11, _⟩ => sl_kernel_rfl
  | ⟨12, _⟩ => sl_kernel_rfl
  | ⟨13, _⟩ => sl_kernel_rfl
  | ⟨14, _⟩ => sl_kernel_rfl
  | ⟨15, _⟩ => sl_kernel_rfl
  | ⟨16, _⟩ => sl_kernel_rfl
  | ⟨17, _⟩ => sl_kernel_rfl
  | ⟨18, _⟩ => sl_kernel_rfl
  | ⟨19, _⟩ => sl_kernel_rfl
  | ⟨20, _⟩ => sl_kernel_rfl
  | ⟨21, _⟩ => sl_kernel_rfl
  | ⟨22, _⟩ => sl_kernel_rfl
  | ⟨23, _⟩ => sl_kernel_rfl
  | ⟨24, _⟩ => sl_kernel_rfl
  | ⟨25, _⟩ => sl_kernel_rfl
  | ⟨26, _⟩ => sl_kernel_rfl
  | ⟨27, _⟩ => sl_kernel_rfl
  | ⟨28, _⟩ => sl_kernel_rfl
  | ⟨29, _⟩ => sl_kernel_rfl
  | ⟨30, _⟩ => sl_kernel_rfl
  | ⟨31, _⟩ => sl_kernel_rfl
  | ⟨n + 32, h⟩ => exact absurd h (by omega)

/-- The printed body of the loop over weight tiles is a trip. -/
theorem body1_eq (t : Fin 15) : body1 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 t = wtrip (globOf arg0 arg1 arg2 arg3 harg3 arg4 harg4 arg5 harg5 arg6 harg6 arg7 harg7 arg8 harg8 arg9 harg9 arg10 harg10 arg22) (slotOf0 arg11 harg11 arg13 harg13 arg15 harg15 arg17 harg17 arg19 harg19 arg21 arg23 arg24 arg25 arg26) (slotOf1 arg12 harg12 arg14 harg14 arg16 harg16 arg18 harg18 arg20 harg20 arg21 arg23 arg24 arg25 arg26) t := by
  match t with
  | ⟨0, _⟩ => sl_kernel_rfl
  | ⟨1, _⟩ => sl_kernel_rfl
  | ⟨2, _⟩ => sl_kernel_rfl
  | ⟨3, _⟩ => sl_kernel_rfl
  | ⟨4, _⟩ => sl_kernel_rfl
  | ⟨5, _⟩ => sl_kernel_rfl
  | ⟨6, _⟩ => sl_kernel_rfl
  | ⟨7, _⟩ => sl_kernel_rfl
  | ⟨8, _⟩ => sl_kernel_rfl
  | ⟨9, _⟩ => sl_kernel_rfl
  | ⟨10, _⟩ => sl_kernel_rfl
  | ⟨11, _⟩ => sl_kernel_rfl
  | ⟨12, _⟩ => sl_kernel_rfl
  | ⟨13, _⟩ => sl_kernel_rfl
  | ⟨14, _⟩ => sl_kernel_rfl
  | ⟨n + 15, h⟩ => exact absurd h (by omega)

end Cert.KernelIdeal.Own
-- ==== Proof.Root.lean ====
module

public import proofs.«01_k».proof.Proof.Bodies
public import Idealize.ShloMosaic.Lib.Tactic

/-! The printed program is the one written in its own order. -/

@[expose] public section

set_option maxRecDepth 10000

noncomputable section

namespace Cert.KernelIdeal.Own

open Idealize.ShloMosaic Idealize.SL.Sem
open Cert.KernelIdeal

variable {F : FTy → Type} [FloatOps F] [Facts]
open Facts₀ Facts

/-- The printed program's first part around its loop. -/
def p163 (arg0 : Memref sig .tc .vmem S15x128 .i32) (harg0 : arg0.IsWhole) (arg1 : Memref sig .tc .vmem S1x128 .i32) (harg1 : arg1.IsWhole) (arg2 : Memref sig .tc .smem S15x64 .f32) (harg2 : arg2.IsWhole) (arg3 : Memref sig .tc .hbm S16384x2048 .bf16) (harg3 : arg3.IsWhole) (arg4 : Memref sig .tc .hbm S128x8192 .bf16) (harg4 : arg4.IsWhole) (arg5 : Memref sig .tc .hbm S1920x8192 .fp8e4m3) (harg5 : arg5.IsWhole) (arg6 : Memref sig .tc .hbm S16384x8192 .bf16) (harg6 : arg6.IsWhole) (arg7 : Memref sig .tc .hbm S16384x1920 .fp8e4m3) (harg7 : arg7.IsWhole) (arg8 : Memref sig .tc .hbm S16384x15 .f32) (harg8 : arg8.IsWhole) (arg9 : Memref sig .tc .vmem S2048x8192 .bf16) (harg9 : arg9.IsWhole) (arg10 : Memref sig .tc .vmem S2x128x8192 .fp8e4m3) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x1920 .fp8e4m3) (harg15 : arg15.IsWhole) (arg16 : Memref sig .tc .vmem S256x1920 .fp8e4m3) (harg16 : arg16.IsWhole) (arg17 : Memref sig .tc .vmem S256x15 .f32) (harg17 : arg17.IsWhole) (arg18 : Memref sig .tc .vmem S256x15 .f32) (harg18 : arg18.IsWhole) (arg19 : Memref sig .tc .vmem S256x8192 .bf16) (harg19 : arg19.IsWhole) (arg20 : Memref sig .tc .vmem S256x8192 .bf16) (harg20 : arg20.IsWhole) (arg21 : DmaSems sig S2) (arg22 : DmaSems sig S_) (arg23 : DmaSems sig S2) (arg24 : DmaSems sig S2) (arg25 : DmaSems sig S2) (arg26 : DmaSems sig S2) (L1 : Pg F PUnit) : Pg F ((Σ' (v0 : FVec F S256x128 .f32) (v19 : FVec F S256x128 .f32) (v21 : IVec S1x128 32) (c128_i32 : BitVec 32), IVec S1x128 32)) := do
  have cst : F .f32 := Scalar.ofBits .f32 0x00000000#32
  have v0 : FVec F S256x128 .f32 := broadcast S256x128 cst
  let c0_i32 : BitVec 32 := 0#32
  let v1 : DmaSems sig S1 := arg23.slice (Rect.unit (s := S2) ![0] S1.size inb_S2_S1_0)
  let v2 : DmaSems sig S_ := v1.squeeze S_ squeezes_S1_S_
  let c0_i32_0 : BitVec 32 := 0#32
  let c0_i32_1 : BitVec 32 := 0#32
  let v3 : Memref sig .tc .hbm S256x2048 .bf16 := arg3.slice (Rect.unit (s := S16384x2048) ![0, 0] S256x2048.size inb_S16384x2048_S256x2048_0_0) (fun _ => rfl)
  Prog.lift (.enqueueDma v3 (.here arg11) (.dma v2.sem) (harg3.wordExact_slice rfl _ wordsbf16_S16384x2048_S256x2048_0_0) harg11.wordExact ⟨Or.inl rfl, trivial⟩)
  let c1920_i32 : BitVec 32 := 1920#32
  let c0_i32_2 : BitVec 32 := 0#32
  let v4 : Memref sig .tc .vmem S128x8192 .bf16 := arg9.slice (Rect.unit (s := S2048x8192) ![1920, 0] S128x8192.size inb_S2048x8192_S128x8192_1920_0) (fun _ => rfl)
  Prog.lift (.enqueueDma arg4 (.here v4) (.dma arg22.sem) harg4.wordExact (harg9.wordExact_slice rfl _ wordsbf16_S2048x8192_S128x8192_1920_0) ⟨Or.inl rfl, trivial⟩)
  let c0_i32_3 : BitVec 32 := 0#32
  let c0_i32_4 : BitVec 32 := 0#32
  let v5 : DmaSems sig S1 := arg21.slice (Rect.unit (s := S2) ![0] S1.size inb_S2_S1_0)
  let v6 : DmaSems sig S_ := v5.squeeze S_ squeezes_S1_S_
  let c0_i32_5 : BitVec 32 := 0#32
  let c0_i32_6 : BitVec 32 := 0#32
  let v7 : Memref sig .tc .vmem S1x128x8192 .fp8e4m3 := arg10.slice (Rect.unit (s := S2x128x8192) ![0, 0, 0] S1x128x8192.size inb_S2x128x8192_S1x128x8192_0_0_0) (fun _ => rfl)
  let v8 : Memref sig .tc .vmem S128x8192 .fp8e4m3 := v7.squeeze S128x8192 squeezes_S1x128x8192_S128x8192
  let c0_i32_7 : BitVec 32 := 0#32
  let c0_i32_8 : BitVec 32 := 0#32
  let v9 : Memref sig .tc .hbm S128x8192 .fp8e4m3 := arg5.slice (Rect.unit (s := S1920x8192) ![0, 0] S128x8192.size inb_S1920x8192_S128x8192_0_0) (fun _ => rfl)
  Prog.lift (.enqueueDma v9 (.here v8) (.dma v6.sem) (harg5.wordExact_slice rfl _ wordsfp8e4m3_S1920x8192_S128x8192_0_0) ((harg10.wordExact_slice rfl _ wordsfp8e4m3_S2x128x8192_S1x128x8192_0_0_0).reshape _ _) ⟨Or.inl rfl, trivial⟩)
  let c0_i32_9 : BitVec 32 := 0#32
  let c15_i32 : BitVec 32 := 15#32
  let v10 : BitVec 32 := Scalar.addi c0_i32_9 c15_i32
  let c1_i32 : BitVec 32 := 1#32
  L1
  let c15_i32_10 : BitVec 32 := 15#32
  let c1920_i32_11 : BitVec 32 := 1920#32
  let c0_i32_12 : BitVec 32 := 0#32
  let v11 : Memref sig .tc .vmem S128x8192 .bf16 := arg9.slice (Rect.unit (s := S2048x8192) ![1920, 0] S128x8192.size inb_S2048x8192_S128x8192_1920_0) (fun _ => rfl)
  Prog.lift (.waitDma2 arg22.sem arg4 v11 harg4.wordExact (harg9.wordExact_slice rfl _ wordsbf16_S2048x8192_S128x8192_1920_0))
  let c0_i32_13 : BitVec 32 := 0#32
  let v12 : DmaSems sig S1 := arg23.slice (Rect.unit (s := S2) ![0] S1.size inb_S2_S1_0)
  let v13 : DmaSems sig S_ := v12.squeeze S_ squeezes_S1_S_
  let c0_i32_14 : BitVec 32 := 0#32
  let c0_i32_15 : BitVec 32 := 0#32
  let v14 : Memref sig .tc .hbm S256x2048 .bf16 := arg3.slice (Rect.unit (s := S16384x2048) ![0, 0] S256x2048.size inb_S16384x2048_S256x2048_0_0) (fun _ => rfl)
  Prog.lift (.waitDma2 v13.sem v14 arg11 (harg3.wordExact_slice rfl _ wordsbf16_S16384x2048_S256x2048_0_0) harg11.wordExact)
  let c1_i32_16 : BitVec 32 := 1#32
  let v15 : DmaSems sig S1 := arg23.slice (Rect.unit (s := S2) ![1] S1.size inb_S2_S1_1)
  let v16 : DmaSems sig S_ := v15.squeeze S_ squeezes_S1_S_
  let c256_i32 : BitVec 32 := 256#32
  let c0_i32_17 : BitVec 32 := 0#32
  let v17 : Memref sig .tc .hbm S256x2048 .bf16 := arg3.slice (Rect.unit (s := S16384x2048) ![256, 0] S256x2048.size inb_S16384x2048_S256x2048_256_0) (fun _ => rfl)
  Prog.lift (.enqueueDma v17 (.here arg12) (.dma v16.sem) (harg3.wordExact_slice rfl _ wordsbf16_S16384x2048_S256x2048_256_0) harg12.wordExact ⟨Or.inl rfl, trivial⟩)
  let c0 : Index := 0#32
  let c0_18 : Index := 0#32
  let v18 : Vec F S256x128 .bf16 ← Prog.lift (.load arg11 (Rect.unit (s := S256x2048) ![0, 0] S256x128.size inb_S256x2048_S256x128_0_0).toLoadRect (View.loadsAt_vmem h_S256x128))
  have v19 : FVec F S256x128 .f32 := extf .f32 v18 bitsLt_bf16_f32
  let c0_19 : Index := 0#32
  let c0_20 : Index := 0#32
  let v20 : Vec F S1x128 .i32 ← Prog.lift (.load arg1 (Rect.unit (s := S1x128) ![0, 0] S1x128.size inb_S1x128_S1x128_0_0).toLoadRect (View.loadsAt_vmem h_S1x128))
  have v21 : IVec S1x128 32 := shapeCast S1x128 v20 shapeCasts_S1x128_S1x128
  let c128_i32 : BitVec 32 := 128#32
  have v22 : IVec S1x128 32 := broadcast S1x128 c128_i32
  have v23 : IVec S1x128 32 := divsi v21 v22
  pure ⟨v0, v19, v21, c128_i32, v23⟩

/-- A loop inside three binds taken out of them. -/
theorem root_assoc {α β γ : Type} (p L : Pg F PUnit) (m : Pg F α) (k : α → Pg F β) (r : β → Pg F γ) :
    (((p >>= fun _ => (L >>= fun _ => m)) >>= k) >>= r) = p >>= fun _ => L >>= fun _ => ((m >>= k) >>= r) := by
  simp only [Prog.bind_assoc]

/-- The printed program from the first loop's end, up to the second part's. -/
def m163 (arg0 : Memref sig .tc .vmem S15x128 .i32) (harg0 : arg0.IsWhole) (arg1 : Memref sig .tc .vmem S1x128 .i32) (harg1 : arg1.IsWhole) (arg2 : Memref sig .tc .smem S15x64 .f32) (harg2 : arg2.IsWhole) (arg3 : Memref sig .tc .hbm S16384x2048 .bf16) (harg3 : arg3.IsWhole) (arg4 : Memref sig .tc .hbm S128x8192 .bf16) (harg4 : arg4.IsWhole) (arg5 : Memref sig .tc .hbm S1920x8192 .fp8e4m3) (harg5 : arg5.IsWhole) (arg6 : Memref sig .tc .hbm S16384x8192 .bf16) (harg6 : arg6.IsWhole) (arg7 : Memref sig .tc .hbm S16384x1920 .fp8e4m3) (harg7 : arg7.IsWhole) (arg8 : Memref sig .tc .hbm S16384x15 .f32) (harg8 : arg8.IsWhole) (arg9 : Memref sig .tc .vmem S2048x8192 .bf16) (harg9 : arg9.IsWhole) (arg10 : Memref sig .tc .vmem S2x128x8192 .fp8e4m3) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x1920 .fp8e4m3) (harg15 : arg15.IsWhole) (arg16 : Memref sig .tc .vmem S256x1920 .fp8e4m3) (harg16 : arg16.IsWhole) (arg17 : Memref sig .tc .vmem S256x15 .f32) (harg17 : arg17.IsWhole) (arg18 : Memref sig .tc .vmem S256x15 .f32) (harg18 : arg18.IsWhole) (arg19 : Memref sig .tc .vmem S256x8192 .bf16) (harg19 : arg19.IsWhole) (arg20 : Memref sig .tc .vmem S256x8192 .bf16) (harg20 : arg20.IsWhole) (arg21 : DmaSems sig S2) (arg22 : DmaSems sig S_) (arg23 : DmaSems sig S2) (arg24 : DmaSems sig S2) (arg25 : DmaSems sig S2) (arg26 : DmaSems sig S2) : Pg F ((Σ' (v0 : FVec F S256x128 .f32) (v19 : FVec F S256x128 .f32) (v21 : IVec S1x128 32) (c128_i32 : BitVec 32), IVec S1x128 32)) := do
  have cst : F .f32 := Scalar.ofBits .f32 0x00000000#32
  have v0 : FVec F S256x128 .f32 := broadcast S256x128 cst
  let c15_i32_10 : BitVec 32 := 15#32
  let c1920_i32_11 : BitVec 32 := 1920#32
  let c0_i32_12 : BitVec 32 := 0#32
  let v11 : Memref sig .tc .vmem S128x8192 .bf16 := arg9.slice (Rect.unit (s := S2048x8192) ![1920, 0] S128x8192.size inb_S2048x8192_S128x8192_1920_0) (fun _ => rfl)
  Prog.lift (.waitDma2 arg22.sem arg4 v11 harg4.wordExact (harg9.wordExact_slice rfl _ wordsbf16_S2048x8192_S128x8192_1920_0))
  let c0_i32_13 : BitVec 32 := 0#32
  let v12 : DmaSems sig S1 := arg23.slice (Rect.unit (s := S2) ![0] S1.size inb_S2_S1_0)
  let v13 : DmaSems sig S_ := v12.squeeze S_ squeezes_S1_S_
  let c0_i32_14 : BitVec 32 := 0#32
  let c0_i32_15 : BitVec 32 := 0#32
  let v14 : Memref sig .tc .hbm S256x2048 .bf16 := arg3.slice (Rect.unit (s := S16384x2048) ![0, 0] S256x2048.size inb_S16384x2048_S256x2048_0_0) (fun _ => rfl)
  Prog.lift (.waitDma2 v13.sem v14 arg11 (harg3.wordExact_slice rfl _ wordsbf16_S16384x2048_S256x2048_0_0) harg11.wordExact)
  let c1_i32_16 : BitVec 32 := 1#32
  let v15 : DmaSems sig S1 := arg23.slice (Rect.unit (s := S2) ![1] S1.size inb_S2_S1_1)
  let v16 : DmaSems sig S_ := v15.squeeze S_ squeezes_S1_S_
  let c256_i32 : BitVec 32 := 256#32
  let c0_i32_17 : BitVec 32 := 0#32
  let v17 : Memref sig .tc .hbm S256x2048 .bf16 := arg3.slice (Rect.unit (s := S16384x2048) ![256, 0] S256x2048.size inb_S16384x2048_S256x2048_256_0) (fun _ => rfl)
  Prog.lift (.enqueueDma v17 (.here arg12) (.dma v16.sem) (harg3.wordExact_slice rfl _ wordsbf16_S16384x2048_S256x2048_256_0) harg12.wordExact ⟨Or.inl rfl, trivial⟩)
  let c0 : Index := 0#32
  let c0_18 : Index := 0#32
  let v18 : Vec F S256x128 .bf16 ← Prog.lift (.load arg11 (Rect.unit (s := S256x2048) ![0, 0] S256x128.size inb_S256x2048_S256x128_0_0).toLoadRect (View.loadsAt_vmem h_S256x128))
  have v19 : FVec F S256x128 .f32 := extf .f32 v18 bitsLt_bf16_f32
  let c0_19 : Index := 0#32
  let c0_20 : Index := 0#32
  let v20 : Vec F S1x128 .i32 ← Prog.lift (.load arg1 (Rect.unit (s := S1x128) ![0, 0] S1x128.size inb_S1x128_S1x128_0_0).toLoadRect (View.loadsAt_vmem h_S1x128))
  have v21 : IVec S1x128 32 := shapeCast S1x128 v20 shapeCasts_S1x128_S1x128
  let c128_i32 : BitVec 32 := 128#32
  have v22 : IVec S1x128 32 := broadcast S1x128 c128_i32
  have v23 : IVec S1x128 32 := divsi v21 v22
  pure ⟨v0, v19, v21, c128_i32, v23⟩

/-- The printed program's next part. -/
def k229 (arg0 : Memref sig .tc .vmem S15x128 .i32) (harg0 : arg0.IsWhole) (arg1 : Memref sig .tc .vmem S1x128 .i32) (harg1 : arg1.IsWhole) (arg2 : Memref sig .tc .smem S15x64 .f32) (harg2 : arg2.IsWhole) (arg3 : Memref sig .tc .hbm S16384x2048 .bf16) (harg3 : arg3.IsWhole) (arg4 : Memref sig .tc .hbm S128x8192 .bf16) (harg4 : arg4.IsWhole) (arg5 : Memref sig .tc .hbm S1920x8192 .fp8e4m3) (harg5 : arg5.IsWhole) (arg6 : Memref sig .tc .hbm S16384x8192 .bf16) (harg6 : arg6.IsWhole) (arg7 : Memref sig .tc .hbm S16384x1920 .fp8e4m3) (harg7 : arg7.IsWhole) (arg8 : Memref sig .tc .hbm S16384x15 .f32) (harg8 : arg8.IsWhole) (arg9 : Memref sig .tc .vmem S2048x8192 .bf16) (harg9 : arg9.IsWhole) (arg10 : Memref sig .tc .vmem S2x128x8192 .fp8e4m3) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x1920 .fp8e4m3) (harg15 : arg15.IsWhole) (arg16 : Memref sig .tc .vmem S256x1920 .fp8e4m3) (harg16 : arg16.IsWhole) (arg17 : Memref sig .tc .vmem S256x15 .f32) (harg17 : arg17.IsWhole) (arg18 : Memref sig .tc .vmem S256x15 .f32) (harg18 : arg18.IsWhole) (arg19 : Memref sig .tc .vmem S256x8192 .bf16) (harg19 : arg19.IsWhole) (arg20 : Memref sig .tc .vmem S256x8192 .bf16) (harg20 : arg20.IsWhole) (arg21 : DmaSems sig S2) (arg22 : DmaSems sig S_) (arg23 : DmaSems sig S2) (arg24 : DmaSems sig S2) (arg25 : DmaSems sig S2) (arg26 : DmaSems sig S2) (r : (Σ' (v0 : FVec F S256x128 .f32) (v19 : FVec F S256x128 .f32) (v21 : IVec S1x128 32) (c128_i32 : BitVec 32), IVec S1x128 32)) : Pg F ((Σ' (v0 : FVec F S256x128 .f32) (v2481 : FVec F S256x128 .f32) (v2609 : FVec F S256x128 .f32) (v2611 : IVec S1x128 32) (c128_i32_875 : BitVec 32) (v2613 : IVec S1x128 32) (v2620 : IVec S1x128 32), BitVec 32)) := do
  let ⟨v0, v19, v21, c128_i32, v23⟩ := r
  let ⟨v49, v67, v69⟩ : Σ' (v49 : IVec S256x128 1) (v67 : IVec S256x128 32), IVec S256x128 1 ← k0_part164 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v21 c128_i32 v23
  let ⟨v76, v96, v98, v112, v114, c0_i32_49⟩ : Σ' (v76 : FVec F S256x128 .f32) (v96 : IVec S256x128 32) (v98 : IVec S1x128 32) (v112 : IVec S1x128 1) (v114 : IVec S1x128 32), BitVec 32 ← k0_part165 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v0 v19 v49 v67 v69
  let ⟨v144, v150, v160⟩ : Σ' (v144 : FVec F S256x128 .bf16) (v150 : FVec F S256x1 .f32), IVec S256 32 ← k0_part166 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v19 v96 v98 v112 v114 c0_i32_49
  let v202 : FVec F S256x128 .bf16 ← k0_part167 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v144 v150 v160
  let ⟨v204, v234, v236, v238, v240, v242, v243⟩ : Σ' (v204 : FVec F S256x128 .f32) (v234 : IVec S256x128 1) (v236 : BitVec 32) (v238 : IVec S1x128 32) (v240 : IVec S1x128 1) (v242 : IVec S1x128 1), BitVec 1 ← k0_part168 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v202
  let ⟨v261, v263, v281, c128_i32_104, v283, v290⟩ : Σ' (v261 : FVec F S256x128 .f32) (v263 : IVec S1x128 32) (v281 : IVec S256x128 32) (c128_i32_104 : BitVec 32) (v283 : IVec S1x128 32), IVec S1x128 32 ← k0_part169 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v76 v204 v234 v236 v238 v240 v242 v243
  let ⟨v329, v335, v336, c23_i32_119⟩ : Σ' (v329 : FVec F S256x128 .bf16) (v335 : FVec F S256x1 .f32) (v336 : IVec S256x256 32), BitVec 32 ← k0_part170 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v204 v263 v281 c128_i32_104 v283 v290
  let ⟨v357, v374, v378⟩ : Σ' (v357 : FVec F S256x1 .f32) (v374 : FVec F S256x128 .fp8e4m3), Vec F S256x1 .f32 ← k0_part171 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v329 v335 v336 c23_i32_119
  let ⟨v389, v391, v419, c128_i32_150, v420⟩ : Σ' (v389 : FVec F S256x128 .f32) (v391 : IVec S1x128 32) (v419 : IVec S256x128 1) (c128_i32_150 : BitVec 32), BitVec 1 ← k0_part172 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v357 v374 v378
  let ⟨v446, v448, v466⟩ : Σ' (v446 : FVec F S256x128 .f32) (v448 : IVec S1x128 32), IVec S256x128 32 ← k0_part173 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v261 v389 v391 v419 c128_i32_150 v420
  let ⟨v494, v502, v512⟩ : Σ' (v494 : IVec S256x128 1) (v502 : FVec F S256x128 .f32), FVec F S256x128 .f32 ← k0_part174 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v389 v448 v466
  let ⟨v542, v555, v556⟩ : Σ' (v542 : FVec F S256x1 .f32) (v555 : FVec F S256x128 .bf16), F .bf16 ← k0_part175 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v494 v502 v512
  let ⟨v574, v576, v578, v597⟩ : Σ' (v574 : FVec F S256x128 .f32) (v576 : IVec S1x128 32) (v578 : IVec S1x128 32), IVec S1x128 1 ← k0_part176 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v542 v555 v556
  let ⟨v631, v633, v635, v637, v639, v640⟩ : Σ' (v631 : FVec F S256x128 .f32) (v633 : IVec S1x128 32) (v635 : BitVec 32) (v637 : IVec S1x128 32) (v639 : IVec S1x128 1), IVec S1x128 32 ← k0_part177 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v446 v574 v576 v578 v597
  let ⟨v651, v679, v687⟩ : Σ' (v651 : IVec S256x128 32) (v679 : IVec S256x128 1), FVec F S256x128 .f32 ← k0_part178 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v574 v633 v635 v637 v639 v640
  let ⟨v699, v727, v731, c23_i32_252⟩ : Σ' (v699 : FVec F S256x128 .bf16) (v727 : FVec F S256x1 .f32) (v731 : IVec S256x1 32), BitVec 32 ← k0_part179 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v651 v679 v687
  let ⟨v759, v761, c128_i32_265, v763, v770, v772⟩ : Σ' (v759 : FVec F S256x128 .f32) (v761 : IVec S1x128 32) (c128_i32_265 : BitVec 32) (v763 : IVec S1x128 32) (v770 : IVec S1x128 32), BitVec 32 ← k0_part180 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v699 v727 v731 c23_i32_252
  let ⟨v816, v818⟩ : Σ' (v816 : FVec F S256x128 .f32), IVec S1x128 32 ← k0_part181 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v631 v759 v761 c128_i32_265 v763 v770 v772
  let ⟨v836, v864⟩ : Σ' (v836 : IVec S256x128 32), IVec S256x128 1 ← k0_part182 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v818
  let ⟨v884, v907, v908⟩ : Σ' (v884 : FVec F S256x128 .bf16) (v907 : IVec S256x1 32), IVec S256x1 32 ← k0_part183 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v759 v836 v864
  let ⟨v944, v946, c128_i32_326, v948⟩ : Σ' (v944 : FVec F S256x128 .f32) (v946 : IVec S1x128 32) (c128_i32_326 : BitVec 32), IVec S1x128 32 ← k0_part184 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v884 v907 v908
  let ⟨v974, v992, v994⟩ : Σ' (v974 : IVec S256x128 1) (v992 : IVec S256x128 32), IVec S256x128 1 ← k0_part185 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v946 c128_i32_326 v948
  let ⟨v1001, v1021, v1023, v1037, v1039, c0_i32_353⟩ : Σ' (v1001 : FVec F S256x128 .f32) (v1021 : IVec S256x128 32) (v1023 : IVec S1x128 32) (v1037 : IVec S1x128 1) (v1039 : IVec S1x128 32), BitVec 32 ← k0_part186 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v816 v944 v974 v992 v994
  let ⟨v1069, v1075, v1085⟩ : Σ' (v1069 : FVec F S256x128 .bf16) (v1075 : FVec F S256x1 .f32), IVec S256 32 ← k0_part187 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v944 v1021 v1023 v1037 v1039 c0_i32_353
  let v1127 : FVec F S256x128 .bf16 ← k0_part188 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v1069 v1075 v1085
  let ⟨v1129, v1159, v1161, v1163, v1165, v1167, v1168⟩ : Σ' (v1129 : FVec F S256x128 .f32) (v1159 : IVec S256x128 1) (v1161 : BitVec 32) (v1163 : IVec S1x128 32) (v1165 : IVec S1x128 1) (v1167 : IVec S1x128 1), BitVec 1 ← k0_part189 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v1127
  let ⟨v1186, v1188, v1206, c128_i32_409, v1208, v1215⟩ : Σ' (v1186 : FVec F S256x128 .f32) (v1188 : IVec S1x128 32) (v1206 : IVec S256x128 32) (c128_i32_409 : BitVec 32) (v1208 : IVec S1x128 32), IVec S1x128 32 ← k0_part190 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v1001 v1129 v1159 v1161 v1163 v1165 v1167 v1168
  let ⟨v1254, v1260, v1261, c23_i32_424⟩ : Σ' (v1254 : FVec F S256x128 .bf16) (v1260 : FVec F S256x1 .f32) (v1261 : IVec S256x256 32), BitVec 32 ← k0_part191 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v1129 v1188 v1206 c128_i32_409 v1208 v1215
  let ⟨v1282, v1299, v1303⟩ : Σ' (v1282 : FVec F S256x1 .f32) (v1299 : FVec F S256x128 .fp8e4m3), Vec F S256x1 .f32 ← k0_part192 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v1254 v1260 v1261 c23_i32_424
  let ⟨v1314, v1316, v1344, c128_i32_455, v1345⟩ : Σ' (v1314 : FVec F S256x128 .f32) (v1316 : IVec S1x128 32) (v1344 : IVec S256x128 1) (c128_i32_455 : BitVec 32), BitVec 1 ← k0_part193 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v1282 v1299 v1303
  let ⟨v1371, v1373, v1391⟩ : Σ' (v1371 : FVec F S256x128 .f32) (v1373 : IVec S1x128 32), IVec S256x128 32 ← k0_part194 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v1186 v1314 v1316 v1344 c128_i32_455 v1345
  let ⟨v1419, v1427, v1437⟩ : Σ' (v1419 : IVec S256x128 1) (v1427 : FVec F S256x128 .f32), FVec F S256x128 .f32 ← k0_part195 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v1314 v1373 v1391
  let ⟨v1467, v1480, v1481⟩ : Σ' (v1467 : FVec F S256x1 .f32) (v1480 : FVec F S256x128 .bf16), F .bf16 ← k0_part196 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v1419 v1427 v1437
  let ⟨v1499, v1501, v1503, v1522⟩ : Σ' (v1499 : FVec F S256x128 .f32) (v1501 : IVec S1x128 32) (v1503 : IVec S1x128 32), IVec S1x128 1 ← k0_part197 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v1467 v1480 v1481
  let ⟨v1556, v1558, v1560, v1562, v1564, v1565⟩ : Σ' (v1556 : FVec F S256x128 .f32) (v1558 : IVec S1x128 32) (v1560 : BitVec 32) (v1562 : IVec S1x128 32) (v1564 : IVec S1x128 1), IVec S1x128 32 ← k0_part198 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v1371 v1499 v1501 v1503 v1522
  let ⟨v1576, v1604, v1612⟩ : Σ' (v1576 : IVec S256x128 32) (v1604 : IVec S256x128 1), FVec F S256x128 .f32 ← k0_part199 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v1499 v1558 v1560 v1562 v1564 v1565
  let ⟨v1624, v1652, v1656, c23_i32_557⟩ : Σ' (v1624 : FVec F S256x128 .bf16) (v1652 : FVec F S256x1 .f32) (v1656 : IVec S256x1 32), BitVec 32 ← k0_part200 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v1576 v1604 v1612
  let ⟨v1684, v1686, c128_i32_570, v1688, v1695, v1697⟩ : Σ' (v1684 : FVec F S256x128 .f32) (v1686 : IVec S1x128 32) (c128_i32_570 : BitVec 32) (v1688 : IVec S1x128 32) (v1695 : IVec S1x128 32), BitVec 32 ← k0_part201 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v1624 v1652 v1656 c23_i32_557
  let ⟨v1741, v1743⟩ : Σ' (v1741 : FVec F S256x128 .f32), IVec S1x128 32 ← k0_part202 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v1556 v1684 v1686 c128_i32_570 v1688 v1695 v1697
  let ⟨v1761, v1789⟩ : Σ' (v1761 : IVec S256x128 32), IVec S256x128 1 ← k0_part203 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v1743
  let ⟨v1809, v1832, v1833⟩ : Σ' (v1809 : FVec F S256x128 .bf16) (v1832 : IVec S256x1 32), IVec S256x1 32 ← k0_part204 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v1684 v1761 v1789
  let ⟨v1869, v1871, c128_i32_631, v1873⟩ : Σ' (v1869 : FVec F S256x128 .f32) (v1871 : IVec S1x128 32) (c128_i32_631 : BitVec 32), IVec S1x128 32 ← k0_part205 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v1809 v1832 v1833
  let ⟨v1899, v1917, v1919⟩ : Σ' (v1899 : IVec S256x128 1) (v1917 : IVec S256x128 32), IVec S256x128 1 ← k0_part206 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v1871 c128_i32_631 v1873
  let ⟨v1926, v1946, v1948, v1962, v1964, c0_i32_658⟩ : Σ' (v1926 : FVec F S256x128 .f32) (v1946 : IVec S256x128 32) (v1948 : IVec S1x128 32) (v1962 : IVec S1x128 1) (v1964 : IVec S1x128 32), BitVec 32 ← k0_part207 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v1741 v1869 v1899 v1917 v1919
  let ⟨v1994, v2000, v2010⟩ : Σ' (v1994 : FVec F S256x128 .bf16) (v2000 : FVec F S256x1 .f32), IVec S256 32 ← k0_part208 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v1869 v1946 v1948 v1962 v1964 c0_i32_658
  let v2052 : FVec F S256x128 .bf16 ← k0_part209 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v1994 v2000 v2010
  let ⟨v2054, v2084, v2086, v2088, v2090, v2092, v2093⟩ : Σ' (v2054 : FVec F S256x128 .f32) (v2084 : IVec S256x128 1) (v2086 : BitVec 32) (v2088 : IVec S1x128 32) (v2090 : IVec S1x128 1) (v2092 : IVec S1x128 1), BitVec 1 ← k0_part210 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v2052
  let ⟨v2111, v2113, v2131, c128_i32_714, v2133, v2140⟩ : Σ' (v2111 : FVec F S256x128 .f32) (v2113 : IVec S1x128 32) (v2131 : IVec S256x128 32) (c128_i32_714 : BitVec 32) (v2133 : IVec S1x128 32), IVec S1x128 32 ← k0_part211 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v1926 v2054 v2084 v2086 v2088 v2090 v2092 v2093
  let ⟨v2179, v2185, v2186, c23_i32_729⟩ : Σ' (v2179 : FVec F S256x128 .bf16) (v2185 : FVec F S256x1 .f32) (v2186 : IVec S256x256 32), BitVec 32 ← k0_part212 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v2054 v2113 v2131 c128_i32_714 v2133 v2140
  let ⟨v2207, v2224, v2228⟩ : Σ' (v2207 : FVec F S256x1 .f32) (v2224 : FVec F S256x128 .fp8e4m3), Vec F S256x1 .f32 ← k0_part213 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v2179 v2185 v2186 c23_i32_729
  let ⟨v2239, v2241, v2269, c128_i32_760, v2270⟩ : Σ' (v2239 : FVec F S256x128 .f32) (v2241 : IVec S1x128 32) (v2269 : IVec S256x128 1) (c128_i32_760 : BitVec 32), BitVec 1 ← k0_part214 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v2207 v2224 v2228
  let ⟨v2296, v2298, v2316⟩ : Σ' (v2296 : FVec F S256x128 .f32) (v2298 : IVec S1x128 32), IVec S256x128 32 ← k0_part215 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v2111 v2239 v2241 v2269 c128_i32_760 v2270
  let ⟨v2344, v2352, v2362⟩ : Σ' (v2344 : IVec S256x128 1) (v2352 : FVec F S256x128 .f32), FVec F S256x128 .f32 ← k0_part216 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v2239 v2298 v2316
  let ⟨v2392, v2405, v2406⟩ : Σ' (v2392 : FVec F S256x1 .f32) (v2405 : FVec F S256x128 .bf16), F .bf16 ← k0_part217 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v2344 v2352 v2362
  let ⟨v2424, v2426, v2428, v2447⟩ : Σ' (v2424 : FVec F S256x128 .f32) (v2426 : IVec S1x128 32) (v2428 : IVec S1x128 32), IVec S1x128 1 ← k0_part218 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v2392 v2405 v2406
  let ⟨v2481, v2483, v2485, v2487, v2489, v2490⟩ : Σ' (v2481 : FVec F S256x128 .f32) (v2483 : IVec S1x128 32) (v2485 : BitVec 32) (v2487 : IVec S1x128 32) (v2489 : IVec S1x128 1), IVec S1x128 32 ← k0_part219 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v2296 v2424 v2426 v2428 v2447
  let ⟨v2501, v2529, v2537⟩ : Σ' (v2501 : IVec S256x128 32) (v2529 : IVec S256x128 1), FVec F S256x128 .f32 ← k0_part220 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v2424 v2483 v2485 v2487 v2489 v2490
  let ⟨v2549, v2577, v2581, c23_i32_862⟩ : Σ' (v2549 : FVec F S256x128 .bf16) (v2577 : FVec F S256x1 .f32) (v2581 : IVec S256x1 32), BitVec 32 ← k0_part221 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v2501 v2529 v2537
  let ⟨v2609, v2611, c128_i32_875, v2613, v2620, v2622⟩ : Σ' (v2609 : FVec F S256x128 .f32) (v2611 : IVec S1x128 32) (c128_i32_875 : BitVec 32) (v2613 : IVec S1x128 32) (v2620 : IVec S1x128 32), BitVec 32 ← k0_part222 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v2549 v2577 v2581 c23_i32_862
  pure ⟨v0, v2481, v2609, v2611, c128_i32_875, v2613, v2620, v2622⟩

/-- The rest of the printed program, around the second loop `L2`. -/
def kR (arg0 : Memref sig .tc .vmem S15x128 .i32) (harg0 : arg0.IsWhole) (arg1 : Memref sig .tc .vmem S1x128 .i32) (harg1 : arg1.IsWhole) (arg2 : Memref sig .tc .smem S15x64 .f32) (harg2 : arg2.IsWhole) (arg3 : Memref sig .tc .hbm S16384x2048 .bf16) (harg3 : arg3.IsWhole) (arg4 : Memref sig .tc .hbm S128x8192 .bf16) (harg4 : arg4.IsWhole) (arg5 : Memref sig .tc .hbm S1920x8192 .fp8e4m3) (harg5 : arg5.IsWhole) (arg6 : Memref sig .tc .hbm S16384x8192 .bf16) (harg6 : arg6.IsWhole) (arg7 : Memref sig .tc .hbm S16384x1920 .fp8e4m3) (harg7 : arg7.IsWhole) (arg8 : Memref sig .tc .hbm S16384x15 .f32) (harg8 : arg8.IsWhole) (arg9 : Memref sig .tc .vmem S2048x8192 .bf16) (harg9 : arg9.IsWhole) (arg10 : Memref sig .tc .vmem S2x128x8192 .fp8e4m3) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x1920 .fp8e4m3) (harg15 : arg15.IsWhole) (arg16 : Memref sig .tc .vmem S256x1920 .fp8e4m3) (harg16 : arg16.IsWhole) (arg17 : Memref sig .tc .vmem S256x15 .f32) (harg17 : arg17.IsWhole) (arg18 : Memref sig .tc .vmem S256x15 .f32) (harg18 : arg18.IsWhole) (arg19 : Memref sig .tc .vmem S256x8192 .bf16) (harg19 : arg19.IsWhole) (arg20 : Memref sig .tc .vmem S256x8192 .bf16) (harg20 : arg20.IsWhole) (arg21 : DmaSems sig S2) (arg22 : DmaSems sig S_) (arg23 : DmaSems sig S2) (arg24 : DmaSems sig S2) (arg25 : DmaSems sig S2) (arg26 : DmaSems sig S2) (L2 : FVec F S256x128 .f32 → Pg F PUnit) (r : (Σ' (v0 : FVec F S256x128 .f32) (v2481 : FVec F S256x128 .f32) (v2609 : FVec F S256x128 .f32) (v2611 : IVec S1x128 32) (c128_i32_875 : BitVec 32) (v2613 : IVec S1x128 32) (v2620 : IVec S1x128 32), BitVec 32)) : Pg F PUnit := do
  let ⟨v0, v2481, v2609, v2611, c128_i32_875, v2613, v2620, v2622⟩ := r
  let ⟨v2666, v2668⟩ : Σ' (v2666 : FVec F S256x128 .f32), IVec S1x128 32 ← k0_part223 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v2481 v2609 v2611 c128_i32_875 v2613 v2620 v2622
  let ⟨v2686, v2714⟩ : Σ' (v2686 : IVec S256x128 32), IVec S256x128 1 ← k0_part224 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v2668
  let ⟨v2734, v2757, v2758⟩ : Σ' (v2734 : FVec F S256x128 .bf16) (v2757 : IVec S256x1 32), IVec S256x1 32 ← k0_part225 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v2609 v2686 v2714
  let ⟨v2794, v2796, c128_i32_936, v2798⟩ : Σ' (v2794 : FVec F S256x128 .f32) (v2796 : IVec S1x128 32) (c128_i32_936 : BitVec 32), IVec S1x128 32 ← k0_part226 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v2734 v2757 v2758
  let ⟨v2824, v2842, v2844⟩ : Σ' (v2824 : IVec S256x128 1) (v2842 : IVec S256x128 32), IVec S256x128 1 ← k0_part227 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v2796 c128_i32_936 v2798
  (do
    let c128_i32_951 : BitVec 32 := 128#32
    have v2845 : IVec S256x128 32 := broadcast S256x128 c128_i32_951
    have v2846 : IVec S256x128 32 := addi v2842 v2845
    have v2847 : IVec S256x128 32 := select v2844 v2846 v2842
    have v2848 : IVec S256x128x1 32 := shapeCast S256x128x1 v2847 shapeCasts_S256x128_S256x128x1
    have v2849 : IVec S256x128 32 := shapeCast S256x128 v2848 shapeCasts_S256x128x1_S256x128
    have v2850 : FVec F S256x128 .f32 := dynamicGather 1 v2794 v2849
    have v2851 : FVec F S256x128 .f32 := select v2824 v2850 v2666
    have v2852 : FVec F S256x128 .bf16 := truncf .bf16 v2851 bitsLt_bf16_f32
    let c0_952 : Index := 0#32
    let c1920_953 : Index := 1920#32
    let v2853 : Vec F S256x128 .bf16 ← Prog.lift (.load arg13 (Rect.unit (s := S256x2048) ![0, 1920] S256x128.size inb_S256x2048_S256x128_0_1920).toLoadRect (View.loadsAt_vmem h_S256x128))
    have v2854 : FVec F S256x128 .bf16 := shapeCast S256x128 v2853 shapeCasts_S256x128_S256x128
    have v2855 : FVec F S256x128 .bf16 := shapeCast S256x128 v2852 shapeCasts_S256x128_S256x128
    Prog.lift (.store arg13 (Rect.unit (s := S256x2048) ![0, 1920] S256x128.size inb_S256x2048_S256x128_0_1920) v2855 Finset.univ (View.stores_vmem h_S256x128 (harg13.storeExact_slice rfl _ packedbf16_S256x2048_S256x128_0_1920) (fun _ => rfl)) (.inl rfl))
    let c0_i32_954 : BitVec 32 := 0#32
    let v2856 : DmaSems sig S1 := arg24.slice (Rect.unit (s := S2) ![0] S1.size inb_S2_S1_0)
    let v2857 : DmaSems sig S_ := v2856.squeeze S_ squeezes_S1_S_
    let c0_i32_955 : BitVec 32 := 0#32
    let c0_i32_956 : BitVec 32 := 0#32
    let v2858 : Memref sig .tc .hbm S256x1920 .fp8e4m3 := arg7.slice (Rect.unit (s := S16384x1920) ![0, 0] S256x1920.size inb_S16384x1920_S256x1920_0_0) (fun _ => rfl)
    Prog.lift (.enqueueDma arg15 (.here v2858) (.dma v2857.sem) harg15.wordExact (harg7.wordExact_slice rfl _ wordsfp8e4m3_S16384x1920_S256x1920_0_0) ⟨Or.inl rfl, trivial⟩)
    let c0_i32_957 : BitVec 32 := 0#32
    let v2859 : DmaSems sig S1 := arg25.slice (Rect.unit (s := S2) ![0] S1.size inb_S2_S1_0)
    let v2860 : DmaSems sig S_ := v2859.squeeze S_ squeezes_S1_S_
    let c0_i32_958 : BitVec 32 := 0#32
    let c0_i32_959 : BitVec 32 := 0#32
    let v2861 : Memref sig .tc .hbm S256x15 .f32 := arg8.slice (Rect.unit (s := S16384x15) ![0, 0] S256x15.size inb_S16384x15_S256x15_0_0) (fun _ => rfl)
    Prog.lift (.enqueueDma arg17 (.here v2861) (.dma v2860.sem) harg17.wordExact (View.wordExact_bits rfl) ⟨Or.inl rfl, trivial⟩)
    let c0_i32_960 : BitVec 32 := 0#32
    let c32_i32 : BitVec 32 := 32#32
    let v2862 : BitVec 32 := Scalar.addi c0_i32_960 c32_i32
    let c1_i32_961 : BitVec 32 := 1#32
    L2 v0
    let c32_i32_962 : BitVec 32 := 32#32
    let c1_i32_963 : BitVec 32 := 1#32
    let v2863 : DmaSems sig S1 := arg24.slice (Rect.unit (s := S2) ![1] S1.size inb_S2_S1_1)
    let v2864 : DmaSems sig S_ := v2863.squeeze S_ squeezes_S1_S_
    let c0_i32_964 : BitVec 32 := 0#32
    let c0_i32_965 : BitVec 32 := 0#32
    let v2865 : Memref sig .tc .hbm S256x1920 .fp8e4m3 := arg7.slice (Rect.unit (s := S16384x1920) ![0, 0] S256x1920.size inb_S16384x1920_S256x1920_0_0) (fun _ => rfl)
    Prog.lift (.waitDma2 v2864.sem arg16 v2865 harg16.wordExact (harg7.wordExact_slice rfl _ wordsfp8e4m3_S16384x1920_S256x1920_0_0))
    let c1_i32_966 : BitVec 32 := 1#32
    let v2866 : DmaSems sig S1 := arg25.slice (Rect.unit (s := S2) ![1] S1.size inb_S2_S1_1)
    let v2867 : DmaSems sig S_ := v2866.squeeze S_ squeezes_S1_S_
    let c0_i32_967 : BitVec 32 := 0#32
    let c0_i32_968 : BitVec 32 := 0#32
    let v2868 : Memref sig .tc .hbm S256x15 .f32 := arg8.slice (Rect.unit (s := S16384x15) ![0, 0] S256x15.size inb_S16384x15_S256x15_0_0) (fun _ => rfl)
    Prog.lift (.waitDma2 v2867.sem arg18 v2868 harg18.wordExact (View.wordExact_bits rfl))
    let c0_i32_969 : BitVec 32 := 0#32
    let v2869 : DmaSems sig S1 := arg26.slice (Rect.unit (s := S2) ![0] S1.size inb_S2_S1_0)
    let v2870 : DmaSems sig S_ := v2869.squeeze S_ squeezes_S1_S_
    let c0_i32_970 : BitVec 32 := 0#32
    let c0_i32_971 : BitVec 32 := 0#32
    let v2871 : Memref sig .tc .hbm S256x8192 .bf16 := arg6.slice (Rect.unit (s := S16384x8192) ![0, 0] S256x8192.size inb_S16384x8192_S256x8192_0_0) (fun _ => rfl)
    Prog.lift (.waitDma2 v2870.sem arg19 v2871 harg19.wordExact (harg6.wordExact_slice rfl _ wordsbf16_S16384x8192_S256x8192_0_0))
    let c1_i32_972 : BitVec 32 := 1#32
    let v2872 : DmaSems sig S1 := arg26.slice (Rect.unit (s := S2) ![1] S1.size inb_S2_S1_1)
    let v2873 : DmaSems sig S_ := v2872.squeeze S_ squeezes_S1_S_
    let c0_i32_973 : BitVec 32 := 0#32
    pure ⟨⟩ : Pg F PUnit)
  let c0_i32_974 : BitVec 32 := 0#32
  let v2874 : Memref sig .tc .hbm S256x8192 .bf16 := arg6.slice (Rect.unit (s := S16384x8192) ![0, 0] S256x8192.size inb_S16384x8192_S256x8192_0_0) (fun _ => rfl)
  let v2872 : DmaSems sig S1 := arg26.slice (Rect.unit (s := S2) ![1] S1.size inb_S2_S1_1)
  let v2873 : DmaSems sig S_ := v2872.squeeze S_ squeezes_S1_S_
  Prog.lift (.waitDma2 v2873.sem arg20 v2874 harg20.wordExact (harg6.wordExact_slice rfl _ wordsbf16_S16384x8192_S256x8192_0_0))
  pure ⟨⟩

variable (arg0 : Memref sig .tc .vmem S15x128 .i32) (harg0 : arg0.IsWhole) (arg1 : Memref sig .tc .vmem S1x128 .i32) (harg1 : arg1.IsWhole) (arg2 : Memref sig .tc .smem S15x64 .f32) (harg2 : arg2.IsWhole) (arg3 : Memref sig .tc .hbm S16384x2048 .bf16) (harg3 : arg3.IsWhole) (arg4 : Memref sig .tc .hbm S128x8192 .bf16) (harg4 : arg4.IsWhole) (arg5 : Memref sig .tc .hbm S1920x8192 .fp8e4m3) (harg5 : arg5.IsWhole) (arg6 : Memref sig .tc .hbm S16384x8192 .bf16) (harg6 : arg6.IsWhole) (arg7 : Memref sig .tc .hbm S16384x1920 .fp8e4m3) (harg7 : arg7.IsWhole) (arg8 : Memref sig .tc .hbm S16384x15 .f32) (harg8 : arg8.IsWhole) (arg9 : Memref sig .tc .vmem S2048x8192 .bf16) (harg9 : arg9.IsWhole) (arg10 : Memref sig .tc .vmem S2x128x8192 .fp8e4m3) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x1920 .fp8e4m3) (harg15 : arg15.IsWhole) (arg16 : Memref sig .tc .vmem S256x1920 .fp8e4m3) (harg16 : arg16.IsWhole) (arg17 : Memref sig .tc .vmem S256x15 .f32) (harg17 : arg17.IsWhole) (arg18 : Memref sig .tc .vmem S256x15 .f32) (harg18 : arg18.IsWhole) (arg19 : Memref sig .tc .vmem S256x8192 .bf16) (harg19 : arg19.IsWhole) (arg20 : Memref sig .tc .vmem S256x8192 .bf16) (harg20 : arg20.IsWhole) (arg21 : DmaSems sig S2) (arg22 : DmaSems sig S_) (arg23 : DmaSems sig S2) (arg24 : DmaSems sig S2) (arg25 : DmaSems sig S2) (arg26 : DmaSems sig S2)

/-- The printed program around its first loop. -/
theorem root_eq₁  : cc0_outlier_split_linear (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 = k0_part229 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 >>= kR arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 (fun v0 => (Scf.Loop.for k0_t2_loop k0_t2_ok ⟨⟩ fun t _ => body2 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v0 t)) := by
  sl_kernel_rfl

/-- Part 229 of the printed program is part 163, then its own rest. -/
theorem part229_eq  : k0_part229 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 = k0_part163 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 >>= k229 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 := by
  sl_kernel_rfl

/-- Part 163 of the printed program is `p163` with its loop. -/
theorem part163_eq  : k0_part163 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 = p163 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 (Scf.Loop.for k0_t1_loop k0_t1_ok ⟨⟩ fun t _ => body1 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 t) := by
  sl_kernel_rfl

/-- `p163` is the opening, the loop `L1` and the rest of its part. -/
theorem p163_eq  (L1 : Pg F PUnit) : p163 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 L1 = preC (globOf arg0 arg1 arg2 arg3 harg3 arg4 harg4 arg5 harg5 arg6 harg6 arg7 harg7 arg8 harg8 arg9 harg9 arg10 harg10 arg22) (slotOf0 arg11 harg11 arg13 harg13 arg15 harg15 arg17 harg17 arg19 harg19 arg21 arg23 arg24 arg25 arg26) >>= fun _ => (L1 >>= fun _ => m163 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26) := by
  sl_kernel_rfl

/-- Its rest around the second loop. -/
theorem root_eq₂  (L2 : FVec F S256x128 .f32 → Pg F PUnit) : ((m163 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 >>= k229 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26) >>= kR arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 L2 : Pg F PUnit)
    = midC (globOf arg0 arg1 arg2 arg3 harg3 arg4 harg4 arg5 harg5 arg6 harg6 arg7 harg7 arg8 harg8 arg9 harg9 arg10 harg10 arg22) (slotOf0 arg11 harg11 arg13 harg13 arg15 harg15 arg17 harg17 arg19 harg19 arg21 arg23 arg24 arg25 arg26) (slotOf1 arg12 harg12 arg14 harg14 arg16 harg16 arg18 harg18 arg20 harg20 arg21 arg23 arg24 arg25 arg26) >>= fun _ => (L2 xo0 >>= fun _ => finC (globOf arg0 arg1 arg2 arg3 harg3 arg4 harg4 arg5 harg5 arg6 harg6 arg7 harg7 arg8 harg8 arg9 harg9 arg10 harg10 arg22) (slotOf0 arg11 harg11 arg13 harg13 arg15 harg15 arg17 harg17 arg19 harg19 arg21 arg23 arg24 arg25 arg26) (slotOf1 arg12 harg12 arg14 harg14 arg16 harg16 arg18 harg18 arg20 harg20 arg21 arg23 arg24 arg25 arg26)) >>= fun _ => endC (globOf arg0 arg1 arg2 arg3 harg3 arg4 harg4 arg5 harg5 arg6 harg6 arg7 harg7 arg8 harg8 arg9 harg9 arg10 harg10 arg22) (slotOf1 arg12 harg12 arg14 harg14 arg16 harg16 arg18 harg18 arg20 harg20 arg21 arg23 arg24 arg25 arg26) := by
  sl_kernel_rfl

/-- The printed program is its opening, the loop over weight tiles, the first tile's quantisation, the loop over tiles and
    the last waits. -/
theorem root_eq  : cc0_outlier_split_linear (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26
    = preC (globOf arg0 arg1 arg2 arg3 harg3 arg4 harg4 arg5 harg5 arg6 harg6 arg7 harg7 arg8 harg8 arg9 harg9 arg10 harg10 arg22) (slotOf0 arg11 harg11 arg13 harg13 arg15 harg15 arg17 harg17 arg19 harg19 arg21 arg23 arg24 arg25 arg26) >>= fun _ => (Scf.Loop.for k0_t1_loop k0_t1_ok ⟨⟩ fun t _ => body1 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 t) >>= fun _ => midC (globOf arg0 arg1 arg2 arg3 harg3 arg4 harg4 arg5 harg5 arg6 harg6 arg7 harg7 arg8 harg8 arg9 harg9 arg10 harg10 arg22) (slotOf0 arg11 harg11 arg13 harg13 arg15 harg15 arg17 harg17 arg19 harg19 arg21 arg23 arg24 arg25 arg26) (slotOf1 arg12 harg12 arg14 harg14 arg16 harg16 arg18 harg18 arg20 harg20 arg21 arg23 arg24 arg25 arg26) >>= fun _ => (Scf.Loop.for k0_t2_loop k0_t2_ok ⟨⟩ fun t _ => body2 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 xo0 t) >>= fun _ =>
        finC (globOf arg0 arg1 arg2 arg3 harg3 arg4 harg4 arg5 harg5 arg6 harg6 arg7 harg7 arg8 harg8 arg9 harg9 arg10 harg10 arg22) (slotOf0 arg11 harg11 arg13 harg13 arg15 harg15 arg17 harg17 arg19 harg19 arg21 arg23 arg24 arg25 arg26) (slotOf1 arg12 harg12 arg14 harg14 arg16 harg16 arg18 harg18 arg20 harg20 arg21 arg23 arg24 arg25 arg26) >>= fun _ => endC (globOf arg0 arg1 arg2 arg3 harg3 arg4 harg4 arg5 harg5 arg6 harg6 arg7 harg7 arg8 harg8 arg9 harg9 arg10 harg10 arg22) (slotOf1 arg12 harg12 arg14 harg14 arg16 harg16 arg18 harg18 arg20 harg20 arg21 arg23 arg24 arg25 arg26) := by
  rw [root_eq₁, part229_eq, part163_eq, p163_eq]
  have h := root_eq₂ (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 (fun v0 => (Scf.Loop.for k0_t2_loop k0_t2_ok ⟨⟩ fun t _ => body2 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 v0 t))
  refine (root_assoc (F := F) _ (Scf.Loop.for k0_t1_loop k0_t1_ok ⟨⟩ fun t _ => body1 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 arg26 t) _ _ _).trans ?_
  rw [h]
  refine congrArg _ (funext fun _ => congrArg _ (funext fun _ => congrArg _ (funext fun _ => ?_)))
  exact Prog.bind_assoc _ _ _

end Cert.KernelIdeal.Own
-- ==== Proof.Launch.lean ====
module

public import proofs.«01_k».proof.Proof.Whole
public import proofs.«01_k».proof.Proof.Root
public import proofs.«01_k».proof.Proof.Gen.KernelIdeal.Frame
public import Idealize.ShloMosaic.Lib.Pipeline.FrameValue

/-! The kernel's run from the launch: it ends, its arguments as they were, every semaphore at zero and its results named. -/

@[expose] public section

set_option maxRecDepth 10000

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-- The point's arrays and weight buffers. -/
abbrev G0 (t : Fin cfg0.N) : Glob := globOf (win0_0.stage (cfg0.slots t 0)) (win0_1.stage (cfg0.slots t 1)) (win0_2.stage (cfg0.slots t 2)) (Memref.whole main_v2) (Memref.isWhole_whole _) (Memref.whole main_arg3) (Memref.isWhole_whole _) (Memref.whole main_arg4) (Memref.isWhole_whole _) (Memref.whole main_v3_0) (Memref.isWhole_whole _) (Memref.whole main_v3_1) (Memref.isWhole_whole _) (Memref.whole main_v3_2) (Memref.isWhole_whole _) (Memref.whole cc0_scratch0) (Memref.isWhole_whole _) (Memref.whole cc0_scratch1) (Memref.isWhole_whole _) cc0_scratch13
/-- The first slot. -/
abbrev A0 : Slot := slotOf0 (Memref.whole cc0_scratch2) (Memref.isWhole_whole _) (Memref.whole cc0_scratch4) (Memref.isWhole_whole _) (Memref.whole cc0_scratch6) (Memref.isWhole_whole _) (Memref.whole cc0_scratch8) (Memref.isWhole_whole _) (Memref.whole cc0_scratch10) (Memref.isWhole_whole _) cc0_scratch12 cc0_scratch14 cc0_scratch15 cc0_scratch16 cc0_scratch17
/-- The second slot. -/
abbrev B0 : Slot := slotOf1 (Memref.whole cc0_scratch3) (Memref.isWhole_whole _) (Memref.whole cc0_scratch5) (Memref.isWhole_whole _) (Memref.whole cc0_scratch7) (Memref.isWhole_whole _) (Memref.whole cc0_scratch9) (Memref.isWhole_whole _) (Memref.whole cc0_scratch11) (Memref.isWhole_whole _) cc0_scratch12 cc0_scratch14 cc0_scratch15 cc0_scratch16 cc0_scratch17

/-- The kernel at the point. -/
theorem body_eq (t : Fin cfg0.N) : bodyAt0 (F := F) t = preC (G0 t) A0 >>= fun _ => (Scf.Loop.for k0_t1_loop k0_t1_ok ⟨⟩ fun u _ => body1 (win0_0.stage (cfg0.slots t 0)) (hstage0_0 0) (win0_1.stage (cfg0.slots t 1)) (hstage0_1 0) (win0_2.stage (cfg0.slots t 2)) (hstage0_2 0) (Memref.whole main_v2) (Memref.isWhole_whole _) (Memref.whole main_arg3) (Memref.isWhole_whole _) (Memref.whole main_arg4) (Memref.isWhole_whole _) (Memref.whole main_v3_0) (Memref.isWhole_whole _) (Memref.whole main_v3_1) (Memref.isWhole_whole _) (Memref.whole main_v3_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 u) >>= fun _ => midC (G0 t) A0 B0 >>= fun _ => (Scf.Loop.for k0_t2_loop k0_t2_ok ⟨⟩ fun u _ => body2 (win0_0.stage (cfg0.slots t 0)) (hstage0_0 0) (win0_1.stage (cfg0.slots t 1)) (hstage0_1 0) (win0_2.stage (cfg0.slots t 2)) (hstage0_2 0) (Memref.whole main_v2) (Memref.isWhole_whole _) (Memref.whole main_arg3) (Memref.isWhole_whole _) (Memref.whole main_arg4) (Memref.isWhole_whole _) (Memref.whole main_v3_0) (Memref.isWhole_whole _) (Memref.whole main_v3_1) (Memref.isWhole_whole _) (Memref.whole main_v3_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 xo0 u) >>= fun _ => finC (G0 t) A0 B0 >>= fun _ => endC (G0 t) B0 := root_eq (win0_0.stage (cfg0.slots t 0)) (hstage0_0 0) (win0_1.stage (cfg0.slots t 1)) (hstage0_1 0) (win0_2.stage (cfg0.slots t 2)) (hstage0_2 0) (Memref.whole main_v2) (Memref.isWhole_whole _) (Memref.whole main_arg3) (Memref.isWhole_whole _) (Memref.whole main_arg4) (Memref.isWhole_whole _) (Memref.whole main_v3_0) (Memref.isWhole_whole _) (Memref.whole main_v3_1) (Memref.isWhole_whole _) (Memref.whole main_v3_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17

section
variable (c : Dev nD)

/-- The body's run: from every buffer and cell not in use to the results in place. -/
theorem wp_body (t : Fin cfg0.N) (K : Ctx F) (WS : S15x64.Idx → Elt F .f32) (WC : S1920x8192.Idx → Elt F .fp8e4m3) (WO : S128x8192.Idx → Elt F .bf16) (hW : K.W = wT WS WC WO) {Q : PUnit → sProp 𝕄} :
    iprop(globSt c (G0 t) K WS WC WO K.Y K.C K.S ∗ slotSt c A0 ∗ slotSt c B0 ∗ quit c)
      ⊢ iprop((iprop(globSt c (G0 t) K WS WC WO (asm rTy tlY hrY K.yt) (asm rTc tlC hrC K.ct) (asm rTs tlS hrS K.st) ∗ slotSt c A0 ∗ slotSt c B0 ∗ quit c) -∗ Q ⟨⟩) -∗ wpC c (bodyAt0 t) Q) := by
  rw [body_eq]
  exact wp_whole c (G0 t) A0 B0 K WS WC WO hW _ (fun u => body1_eq (win0_0.stage (cfg0.slots t 0)) (hstage0_0 0) (win0_1.stage (cfg0.slots t 1)) (hstage0_1 0) (win0_2.stage (cfg0.slots t 2)) (hstage0_2 0) (Memref.whole main_v2) (Memref.isWhole_whole _) (Memref.whole main_arg3) (Memref.isWhole_whole _) (Memref.whole main_arg4) (Memref.isWhole_whole _) (Memref.whole main_v3_0) (Memref.isWhole_whole _) (Memref.whole main_v3_1) (Memref.isWhole_whole _) (Memref.whole main_v3_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 u) _ (fun u => body2_eq (win0_0.stage (cfg0.slots t 0)) (hstage0_0 0) (win0_1.stage (cfg0.slots t 1)) (hstage0_1 0) (win0_2.stage (cfg0.slots t 2)) (hstage0_2 0) (Memref.whole main_v2) (Memref.isWhole_whole _) (Memref.whole main_arg3) (Memref.isWhole_whole _) (Memref.whole main_arg4) (Memref.isWhole_whole _) (Memref.whole main_v3_0) (Memref.isWhole_whole _) (Memref.whole main_v3_1) (Memref.isWhole_whole _) (Memref.whole main_v3_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 u)

/-- Buffer `b` whole at contents `f`. -/
abbrev held (b : Ref sig .tc) (f : b.ty.Contents (Elt F)) : sProp 𝕄 := ((c : Thread nD τ).loc b) ↦{fullShare} f

/-- The arrays' state, buffer by buffer. -/
theorem glob_eq (t : Fin cfg0.N) (K : Ctx F) (WS : S15x64.Idx → Elt F .f32) (WC : S1920x8192.Idx → Elt F .fp8e4m3) (WO : S128x8192.Idx → Elt F .bf16) (Y : S16384x8192.Idx → Elt F .bf16) (C : S16384x1920.Idx → Elt F .fp8e4m3) (S : S16384x15.Idx → Elt F .f32) :
    globSt c (G0 t) K WS WC WO Y C S = iprop(owns (c : Thread nD τ) (st0_0 t) fullShare K.I ∗ owns (c : Thread nD τ) (st0_1 t) fullShare K.O ∗ owns (c : Thread nD τ) (st0_2 t) fullShare WS
      ∗ held c main_v2 K.X ∗ held c main_arg3 WO ∗ held c main_arg4 WC ∗ held c main_v3_0 Y ∗ held c main_v3_1 C ∗ held c main_v3_2 S
      ∗ (∃ f, held c cc0_scratch0 f) ∗ (∃ f, held c cc0_scratch1 f) ∗ semVal ((c : Thread nD τ), SemLoc.dma 5) 0) := by
  have e : globSt c (G0 t) K WS WC WO Y C S = iprop(owns (c : Thread nD τ) (st0_0 t) fullShare K.I ∗ owns (c : Thread nD τ) (st0_1 t) fullShare K.O ∗ owns (c : Thread nD τ) (st0_2 t) fullShare WS
      ∗ owns (c : Thread nD τ) (Memref.whole main_v2) fullShare K.X ∗ owns (c : Thread nD τ) (Memref.whole main_arg3) fullShare WO ∗ owns (c : Thread nD τ) (Memref.whole main_arg4) fullShare WC
      ∗ owns (c : Thread nD τ) (Memref.whole main_v3_0) fullShare Y ∗ owns (c : Thread nD τ) (Memref.whole main_v3_1) fullShare C ∗ owns (c : Thread nD τ) (Memref.whole main_v3_2) fullShare S
      ∗ (∃ f, owns (c : Thread nD τ) (Memref.whole cc0_scratch0) fullShare f) ∗ (∃ f, owns (c : Thread nD τ) (Memref.whole cc0_scratch1) fullShare f) ∗ semVal ((c : Thread nD τ), SemLoc.dma 5) 0) := rfl
  rw [e]
  simp only [owns_whole]

/-- The first slot's state, buffer by buffer. -/
theorem slotA_eq : slotSt (F := F) c A0 = iprop((∃ f, held c cc0_scratch2 f) ∗ (∃ f, held c cc0_scratch4 f) ∗ (∃ f, held c cc0_scratch6 f) ∗ (∃ f, held c cc0_scratch8 f) ∗ (∃ f, held c cc0_scratch10 f)
      ∗ semVal ((c : Thread nD τ), SemLoc.dma 6) 0 ∗ semVal ((c : Thread nD τ), SemLoc.dma 8) 0 ∗ semVal ((c : Thread nD τ), SemLoc.dma 10) 0 ∗ semVal ((c : Thread nD τ), SemLoc.dma 12) 0 ∗ semVal ((c : Thread nD τ), SemLoc.dma 3) 0) := by
  have e : slotSt (F := F) c A0 = iprop((∃ f, owns (c : Thread nD τ) (Memref.whole cc0_scratch2) fullShare f) ∗ (∃ f, owns (c : Thread nD τ) (Memref.whole cc0_scratch4) fullShare f) ∗ (∃ f, owns (c : Thread nD τ) (Memref.whole cc0_scratch6) fullShare f)
      ∗ (∃ f, owns (c : Thread nD τ) (Memref.whole cc0_scratch8) fullShare f) ∗ (∃ f, owns (c : Thread nD τ) (Memref.whole cc0_scratch10) fullShare f)
      ∗ semVal ((c : Thread nD τ), SemLoc.dma 6) 0 ∗ semVal ((c : Thread nD τ), SemLoc.dma 8) 0 ∗ semVal ((c : Thread nD τ), SemLoc.dma 10) 0 ∗ semVal ((c : Thread nD τ), SemLoc.dma 12) 0 ∗ semVal ((c : Thread nD τ), SemLoc.dma 3) 0) := rfl
  rw [e]
  simp only [owns_whole]

/-- The second slot's state, buffer by buffer. -/
theorem slotB_eq : slotSt (F := F) c B0 = iprop((∃ f, held c cc0_scratch3 f) ∗ (∃ f, held c cc0_scratch5 f) ∗ (∃ f, held c cc0_scratch7 f) ∗ (∃ f, held c cc0_scratch9 f) ∗ (∃ f, held c cc0_scratch11 f)
      ∗ semVal ((c : Thread nD τ), SemLoc.dma 7) 0 ∗ semVal ((c : Thread nD τ), SemLoc.dma 9) 0 ∗ semVal ((c : Thread nD τ), SemLoc.dma 11) 0 ∗ semVal ((c : Thread nD τ), SemLoc.dma 13) 0 ∗ semVal ((c : Thread nD τ), SemLoc.dma 4) 0) := by
  have e : slotSt (F := F) c B0 = iprop((∃ f, owns (c : Thread nD τ) (Memref.whole cc0_scratch3) fullShare f) ∗ (∃ f, owns (c : Thread nD τ) (Memref.whole cc0_scratch5) fullShare f) ∗ (∃ f, owns (c : Thread nD τ) (Memref.whole cc0_scratch7) fullShare f)
      ∗ (∃ f, owns (c : Thread nD τ) (Memref.whole cc0_scratch9) fullShare f) ∗ (∃ f, owns (c : Thread nD τ) (Memref.whole cc0_scratch11) fullShare f)
      ∗ semVal ((c : Thread nD τ), SemLoc.dma 7) 0 ∗ semVal ((c : Thread nD τ), SemLoc.dma 9) 0 ∗ semVal ((c : Thread nD τ), SemLoc.dma 11) 0 ∗ semVal ((c : Thread nD τ), SemLoc.dma 13) 0 ∗ semVal ((c : Thread nD τ), SemLoc.dma 4) 0) := rfl
  rw [e]
  simp only [owns_whole]
end

/-- The kernel's own DMA cells. -/
abbrev osem0 : Fin 11 → SemLoc sig := fun j => (![SemLoc.dma 3, SemLoc.dma 4, SemLoc.dma 5, SemLoc.dma 6, SemLoc.dma 7, SemLoc.dma 8, SemLoc.dma 9, SemLoc.dma 10, SemLoc.dma 11, SemLoc.dma 12, SemLoc.dma 13] : Fin 11 → SemLoc sig) j
/-- They are the kernel's alone. -/
theorem ownSemFacts0 : Pipeline.OwnSemFacts spec0 osem0 := by decide
/-- The cells at zero, one by one. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0
        ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0
        ∗ semVal ((c : Thread nD τ), SemLoc.dma 11) 0 ∗ semVal ((c : Thread nD τ), SemLoc.dma 12) 0 ∗ semVal ((c : Thread nD τ), SemLoc.dma 13) 0) := by
  rw [Pipeline.ownSems0_eq_of_list c osem0 [0, 1, 2, 3, 4, 5, 6, 7, 8, 9, 10] (by decide) (by decide)]; rfl

/-- The arrays the kernel's copies read. -/
def H0 : Finset (Ref sig .tc) := {main_v2, main_arg3, main_arg4}
/-- They are staged by no window. -/
theorem H0_sub : H0 ⊆ Pipeline.restRefs sig spec0 := by decide
/-- The results the kernel's copies write. -/
def R0 : Finset (Ref sig .tc) := {main_v3_0, main_v3_1, main_v3_2}
/-- They are staged by no window and read by no copy. -/
theorem R0_sub : R0 ⊆ Pipeline.restRefs sig spec0 \ H0 := by decide

/-- The state of the launch, buffer by buffer, the results at `W`. -/
theorem Phi_eq (V W : (c : Dev nD) → (b : Ref sig .tc) → Buf (Elt F) ((c : Thread nD τ).loc b)) (c : Dev nD) :
    (Pipeline.ΦDRG osem0 spec0 H0 R0 V W c : sProp 𝕄)
      = iprop(iprop((∃ f, held c cc0_scratch0 f) ∗ (∃ f, held c cc0_scratch1 f) ∗ (∃ f, held c cc0_scratch2 f) ∗ (∃ f, held c cc0_scratch3 f) ∗ (∃ f, held c cc0_scratch4 f) ∗ (∃ f, held c cc0_scratch5 f)
            ∗ (∃ f, held c cc0_scratch6 f) ∗ (∃ f, held c cc0_scratch7 f) ∗ (∃ f, held c cc0_scratch8 f) ∗ (∃ f, held c cc0_scratch9 f) ∗ (∃ f, held c cc0_scratch10 f) ∗ (∃ f, held c cc0_scratch11 f))
          ∗ (∃ r, prngReg c r)
          ∗ iprop(semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0
            ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0
            ∗ semVal ((c : Thread nD τ), SemLoc.dma 11) 0 ∗ semVal ((c : Thread nD τ), SemLoc.dma 12) 0 ∗ semVal ((c : Thread nD τ), SemLoc.dma 13) 0)
          ∗ iprop(held c main_v2 (V c main_v2) ∗ held c main_arg3 (V c main_arg3) ∗ held c main_arg4 (V c main_arg4))
          ∗ iprop(held c main_v3_0 (W c main_v3_0) ∗ held c main_v3_1 (W c main_v3_1) ∗ held c main_v3_2 (W c main_v3_2))) := by
  have h1 : (bigSep H0 (fun b => ((c : Thread nD τ).loc b) ↦{fullShare} V c b) : sProp 𝕄) = iprop(held c main_v2 (V c main_v2) ∗ held c main_arg3 (V c main_arg3) ∗ held c main_arg4 (V c main_arg4)) := by
    rw [BI.bigSep_eq_bigSepL_of_eq [main_v2, main_arg3, main_arg4] (by decide) (by decide)]; rfl
  have h2 : (Pipeline.routed R0 c (W c) : sProp 𝕄) = iprop(held c main_v3_0 (W c main_v3_0) ∗ held c main_v3_1 (W c main_v3_1) ∗ held c main_v3_2 (W c main_v3_2)) := by
    unfold Pipeline.routed; rw [BI.bigSep_eq_bigSepL_of_eq [main_v3_0, main_v3_1, main_v3_2] (by decide) (by decide)]; rfl
  rw [Pipeline.ΦDRG_eq, scopedRest0_eq, ownSems00_eq, h1, h2]

variable (m : (ℓ : Loc nD τ sig) → Buf (Elt F) ℓ) (ρ : Dev nD → PrngReg)

set_option maxHeartbeats 800000 in
/-- The program up to the kernel's launch. -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The launch's one point. -/
def t0 : Fin cfg0.N := ⟨0, by decide⟩

/-- The weight scales as launched. -/
abbrev WS0 (c : Dev nD) : S15x64.Idx → Elt F .f32 := iblk m c 2 t0
/-- What the tiles are computed from at the launch. -/
def K0 (c : Dev nD) : Ctx F where
  X := V m c main_v2
  I := iblk m c 0 t0
  O := iblk m c 1 t0
  W := wT (WS0 m c) (V m c main_arg4) (V m c main_arg3)
  Y := V m c main_v3_0
  C := V m c main_v3_1
  S := V m c main_v3_2

/-- The buffers after the kernel: the three results in place. -/
def Vout (c : Dev nD) : (b : Ref sig .tc) → Buf (Elt F) ((c : Thread nD τ).loc b) :=
  Function.update (Function.update (Function.update (V m c) main_v3_0 (asm rTy tlY hrY (K0 m c).yt)) main_v3_1 (asm rTc tlC hrC (K0 m c).ct)) main_v3_2 (asm rTs tlS hrS (K0 m c).st)

/-- The product after the kernel. -/
theorem Vout_0 (c : Dev nD) : Vout m c main_v3_0 = asm rTy tlY hrY (K0 m c).yt := by
  unfold Vout
  rw [Function.update_of_ne (by decide), Function.update_of_ne (by decide), Function.update_self]
/-- The codes after the kernel. -/
theorem Vout_1 (c : Dev nD) : Vout m c main_v3_1 = asm rTc tlC hrC (K0 m c).ct := by
  unfold Vout
  rw [Function.update_of_ne (by decide), Function.update_self]
/-- The scales after the kernel. -/
theorem Vout_2 (c : Dev nD) : Vout m c main_v3_2 = asm rTs tlS hrS (K0 m c).st := by
  unfold Vout
  rw [Function.update_self]

/-- The state before the point and after it. -/
def PhiAt (c : Dev nD) (n : ℕ) : sProp 𝕄 :=
  if n = 0 then Pipeline.ΦDRG osem0 spec0 H0 R0 (V m) (V m) c else Pipeline.ΦDRG osem0 spec0 H0 R0 (V m) (Vout m) c

/-- The proof data of the launch. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
  Φ t := PhiAt m c t.val
  q _ := fullShare
  owed _ := 0

/-- The arrays are as the launch finds them. -/
theorem A_eq (c : Dev nD) (w : Fin cfg0.W) : (dats m 0 c).A w = V m c (Pipeline.arrRef spec0 w) := by
  dsimp only [dats]

/-- Window 0 after the point. -/
theorem after_0 (c : Dev nD) (t : Fin cfg0.N) : (dats m 0 c).after 0 t = iblk m c 0 t := by dsimp only [dats]

/-- Window 1 after the point. -/
theorem after_1 (c : Dev nD) (t : Fin cfg0.N) : (dats m 0 c).after 1 t = iblk m c 1 t := by dsimp only [dats]

/-- Window 2 after the point. -/
theorem after_2 (c : Dev nD) (t : Fin cfg0.N) : (dats m 0 c).after 2 t = iblk m c 2 t := by dsimp only [dats]

/-- The staged indices. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans (by unfold Dat.fetched Dat.blockOf iblk; rw [A_eq]; try rfl)
/-- The staged outlier indices. -/
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans (by unfold Dat.fetched Dat.blockOf iblk; rw [A_eq]; try rfl)
/-- The staged weight scales. -/
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans (by unfold Dat.fetched Dat.blockOf iblk; rw [A_eq]; try rfl)

/-- What the point's body starts from. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)))
/-- What it ends at. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t))

/-- There is one point. -/
theorem only (t : Fin cfg0.N) : t = t0 := Fin.ext (by
  have h : t.val < 1 := t.isLt
  show t.val = 0
  omega)

/-- The point's body. -/
theorem sound_body (c : Dev nD) (t : Fin cfg0.N) :
    bodyPre m c t ⊢ wp frame (wpE (defs₀ (F := F)) Variants.none c none) Set.univ (bodyAt0 t) (fun _ => bodyPost m c t) := by
  obtain rfl := only t
  unfold bodyPre bodyPost
  rw [show (dats m 0 c).Φ t0.castSucc = Pipeline.ΦDRG osem0 spec0 H0 R0 (V m) (V m) c from rfl, show (dats m 0 c).Φ t0.succ = Pipeline.ΦDRG osem0 spec0 H0 R0 (V m) (Vout m) c from rfl, Phi_eq, Phi_eq, Vout_0, Vout_1, Vout_2]
  unfold Dat.owesAt Pipeline.owesWithin
  rw [show (dats m 0 c).owed t0.castSucc = 0 from rfl, show (dats m 0 c).owed t0.succ = 0 from rfl]
  simp only [before_0, before_1, before_2]
  rw [show (dats m 0 c).after 0 t0 = (K0 m c).I from after_0 m c t0, show (dats m 0 c).after 1 t0 = (K0 m c).O from after_1 m c t0, show (dats m 0 c).after 2 t0 = WS0 m c from after_2 m c t0, show iblk m c 0 t0 = (K0 m c).I from rfl, show iblk m c 1 t0 = (K0 m c).O from rfl]
  iintro ⟨⟨⟨S0, S1, S2, S3, S4, S5, S6, S7, S8, S9, S10, S11⟩, Hg, ⟨q3, q4, q5, q6, q7, q8, q9, q10, q11, q12, q13⟩, ⟨Hx, Hwo, Hwc⟩, ⟨Hy, Hc, Hs⟩⟩, ⟨%W, -, HW⟩, ⟨%d0, H0⟩, ⟨%d1, H1⟩, ⟨%d2, H2⟩⟩
  have h := fun Q => wp_body c t0 (K0 m c) (WS0 m c) (V m c main_arg4) (V m c main_arg3) rfl (Q := Q)
  rw [glob_eq, glob_eq, slotA_eq, slotB_eq] at h
  unfold wpC at h
  iapply (h _) $$ [S0 S1 S2 S3 S4 S5 S6 S7 S8 S9 S10 S11 q3 q4 q5 q6 q7 q8 q9 q10 q11 q12 q13 Hx Hwo Hwc Hy Hc Hs HW H0 H1 H2]
  · isplitl [H0 H1 H2 Hx Hwo Hwc Hy Hc Hs S0 S1 q5]
    · isplitl [H0]; · iexact H0
      isplitl [H1]; · iexact H1
      isplitl [H2]; · iexact H2
      isplitl [Hx]; · iexact Hx
      isplitl [Hwo]; · iexact Hwo
      isplitl [Hwc]; · iexact Hwc
      isplitl [Hy]; · iexact Hy
      isplitl [Hc]; · iexact Hc
      isplitl [Hs]; · iexact Hs
      isplitl [S0]; · iexact S0
      isplitl [S1]; · iexact S1
      iexact q5
    isplitl [S2 S4 S6 S8 S10 q3 q6 q8 q10 q12]
    · isplitl [S2]; · iexact S2
      isplitl [S4]; · iexact S4
      isplitl [S6]; · iexact S6
      isplitl [S8]; · iexact S8
      isplitl [S10]; · iexact S10
      isplitl [q6]; · iexact q6
      isplitl [q8]; · iexact q8
      isplitl [q10]; · iexact q10
      isplitl [q12]; · iexact q12
      iexact q3
    isplitl [S3 S5 S7 S9 S11 q4 q7 q9 q11 q13]
    · isplitl [S3]; · iexact S3
      isplitl [S5]; · iexact S5
      isplitl [S7]; · iexact S7
      isplitl [S9]; · iexact S9
      isplitl [S11]; · iexact S11
      isplitl [q7]; · iexact q7
      isplitl [q9]; · iexact q9
      isplitl [q11]; · iexact q11
      isplitl [q13]; · iexact q13
      iexact q4
    unfold quit
    iexists W; iexact HW
  unfold quit
  iintro ⟨⟨H0, H1, H2, Hx, Hwo, Hwc, Hy, Hc, Hs, S0, S1, q5⟩, ⟨S2, S4, S6, S8, S10, q6, q8, q10, q12, q3⟩, ⟨S3, S5, S7, S9, S11, q7, q9, q11, q13, q4⟩, ⟨%W', HW⟩⟩
  isplitr [HW H0 H1 H2]
  · isplitl [S0 S1 S2 S3 S4 S5 S6 S7 S8 S9 S10 S11]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      iexact S11
    isplitl [Hg]; · iexact Hg
    isplitl [q3 q4 q5 q6 q7 q8 q9 q10 q11 q12 q13]
    · isplitl [q3]; · iexact q3
      isplitl [q4]; · iexact q4
      isplitl [q5]; · iexact q5
      isplitl [q6]; · iexact q6
      isplitl [q7]; · iexact q7
      isplitl [q8]; · iexact q8
      isplitl [q9]; · iexact q9
      isplitl [q10]; · iexact q10
      isplitl [q11]; · iexact q11
      isplitl [q12]; · iexact q12
      iexact q13
    isplitl [Hx Hwo Hwc]
    · isplitl [Hx]; · iexact Hx
      isplitl [Hwo]; · iexact Hwo
      iexact Hwc
    isplitl [Hy]; · iexact Hy
    isplitl [Hc]; · iexact Hc
    iexact Hs
  isplitl [HW]
  · iexists W'; isplitr; · ipureintro; exact fun _ _ => Or.inl trivial
    iexact HW
  isplitl [H0]; · iexact H0
  isplitl [H1]; · iexact H1
  iexact H2

/-- The pipeline calls the kernel with its operands. -/
theorem defs₀_row (t : Fin cfg0.N) :
    defs₀ (F := F) .tc cfg0.body (cfg0.bodyArgs t (cfg0.slots t)) = bodyAt0 t := by
  unfold defs₀; rw [Defs.onTc_tc]

/-- The obligation of the point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run from the launch. -/
theorem run_main : θ_run defs (onTc (τ := τ) (main (F := F))) (s₀ m ρ) (fun r => Pipeline.FramePostRG cfgs (dats m) 0 R0 (V m) (Vout m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmainD m Variants.none) (hA := A_eq m) (G := Vout m)
    (hin := fun _ => .rfl) (hout := fun _ => .rfl)

/-- The run with the arguments as launched, the results at their values and every semaphore at zero. -/
theorem run_values : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.mem ((c.tc : Thread nD τ).loc main_v3_0) = asm rTy tlY hrY (K0 m c).yt
      ∧ r.2.mem ((c.tc : Thread nD τ).loc main_v3_1) = asm rTc tlC hrC (K0 m c).ct
      ∧ r.2.mem ((c.tc : Thread nD τ).loc main_v3_2) = asm rTs tlS hrS (K0 m c).st)
      ∧ r.2.sem = fun _ => 0) :=
  (θ_run defs _ _).mono (fun _ h => ⟨fun c => ⟨⟨((h.1.1 c).2 main_arg0 (Finset.mem_sdiff.mpr ⟨Pipeline.mem_restRefs_of main_arg0 (by decide) (by decide), by decide⟩)).trans (V_main_arg0 m c),
      ((h.1.1 c).2 main_arg1 (Finset.mem_sdiff.mpr ⟨Pipeline.mem_restRefs_of main_arg1 (by decide) (by decide), by decide⟩)).trans (V_main_arg1 m c),
      ((h.1.1 c).2 main_arg2 (Finset.mem_sdiff.mpr ⟨Pipeline.mem_restRefs_of main_arg2 (by decide) (by decide), by decide⟩)).trans (V_main_arg2 m c),
      ((h.1.1 c).2 main_arg3 (Finset.mem_sdiff.mpr ⟨Pipeline.mem_restRefs_of main_arg3 (by decide) (by decide), by decide⟩)).trans (V_main_arg3 m c),
      ((h.1.1 c).2 main_arg4 (Finset.mem_sdiff.mpr ⟨Pipeline.mem_restRefs_of main_arg4 (by decide) (by decide), by decide⟩)).trans (V_main_arg4 m c),
      ((h.1.1 c).1 2).trans (((dats m 0 c).arrAt_in 2 rfl _).trans ((A_eq m c 2).trans (V_main_arg5 m c)))⟩,
      (h.1.2 c main_v3_0 (by decide)).trans (Vout_0 m c), (h.1.2 c main_v3_1 (by decide)).trans (Vout_1 m c), (h.1.2 c main_v3_2 (by decide)).trans (Vout_2 m c)⟩, h.2⟩) (run_main m ρ)

/-- The frame: the run ends, the arguments as launched, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).1, h.2⟩) (run_values m ρ)

end Cert.KernelIdeal.Own
-- ==== Proof.Frames.lean ====
module

public import proofs.«01_k».proof.Defs
public import proofs.«01_k».proof.Proof.Launch
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame

/-! The frames of the three programs. The kernel as printed and its idealized form are one text, so the frame proved of the second at every reading of the floats is the first's at the bits. -/

@[expose] public section

set_option maxRecDepth 100000

noncomputable section

namespace Cert.Proof

open Idealize.ShloMosaic Idealize.SL.Sem

/-- The frame of the idealized program, stated at any reading of the floats. -/
def FrameAt (F : FTy → Type) [FloatOps F] : Prop := ∀ (m : (ℓ : Loc Cert.KernelIdeal.nD Cert.KernelIdeal.τ Cert.KernelIdeal.sig) → Buf (Elt F) ℓ) (g : Dev Cert.KernelIdeal.nD → PrngReg), True →
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

/-- The printed program's frame is the idealized one's, read at the bits. -/
theorem frame_same : @Cert.quiescent_Kernel Cert.Kernel.Gen.facts = FrameAt Bits := by sl_kernel_rfl

/-- The frame of the idealized program at any reading of the floats. -/
theorem frameAt (F : FTy → Type) [FloatOps F] : FrameAt F := fun m ρ _ => Cert.KernelIdeal.Own.frame m ρ

/-- The kernel's frame. -/
theorem frame_kernel : @Cert.quiescent_Kernel Cert.Kernel.Gen.facts := frame_same ▸ frameAt Bits

/-- The idealized kernel's frame. -/
theorem frame_kernelIdeal : @Cert.quiescent_KernelIdeal Cert.KernelIdeal.Gen.facts := fun m ρ _ => Cert.KernelIdeal.Own.frame m ρ

/-- The reference's frame. -/
theorem frame_referenceIdeal : @Cert.quiescent_ReferenceIdeal Cert.ReferenceIdeal.Gen.facts := fun m ρ _ => Cert.ReferenceIdeal.Gen.frame m ρ

end Cert.Proof
-- ==== Proof.Num.lean ====
module

public import Idealize.ShloMosaic.Lib.IdealHost
public import Idealize.ShloMosaic.Lib.ValueIdx
public import Idealize.ShloMosaic.Lib.WordSum

/-! The numbers of the quantiser: powers of two read from their bit patterns, and the scale both programs compute. -/

@[expose] public section

set_option maxRecDepth 10000

noncomputable section

namespace Cert.Num

open Idealize.ShloMosaic

/-- The number whose pattern has the exponent field `k` and nothing else. -/
def pw (k : ℕ) : EReal := Ideal.ofBits .f32 (IntOp.shli .vector (BitVec.ofNat 32 k) 23#32)

/-- The fields of the pattern `k << 23`. -/
theorem pw_fields : ∀ k : Fin 256, ((IntOp.shli .vector (BitVec.ofNat 32 k.val) 23#32).extractLsb' 31 1 = 0#1)
    ∧ (((IntOp.shli .vector (BitVec.ofNat 32 k.val) 23#32).extractLsb' 23 8).toNat = k.val)
    ∧ (((IntOp.shli .vector (BitVec.ofNat 32 k.val) 23#32).extractLsb' 0 23).toNat = 0) := by decide +kernel

/-- The pattern of exponent field 0 is zero. -/
theorem pw_zero : pw 0 = 0 := by
  have h := pw_fields 0
  simp only [pw, Ideal.ofBits, Ideal.ieee]
  obtain ⟨h1, h2, h3⟩ := h
  simp only [Fin.val_zero] at h1 h2 h3
  simp [h1, h2, h3]

/-- The pattern of exponent field 255 is infinity. -/
theorem pw_top : pw 255 = ⊤ := by
  have h := pw_fields 255
  simp only [pw, Ideal.ofBits, Ideal.ieee]
  obtain ⟨h1, h2, h3⟩ := h
  simp only [show ((255 : Fin 256).val) = 255 from rfl] at h1 h2 h3
  simp [h1, h2, h3]

/-- The pattern of an exponent field between 1 and 254 is a power of two. -/
theorem pw_mid (k : ℕ) (h0 : 1 ≤ k) (h1 : k ≤ 254) : pw k = (((2 : ℝ) ^ ((k : ℤ) - 127) : ℝ) : EReal) := by
  obtain ⟨a, b, c⟩ := pw_fields ⟨k, by omega⟩
  simp only at a b c
  simp only [pw, Ideal.ofBits, Ideal.ieee]
  rw [a, b, c, if_neg (by omega), if_neg (by omega)]
  refine congrArg Real.toEReal ?_
  have e : ((k : ℤ) - (2 ^ (8 - 1) - 1) - ((23 : ℕ) : ℤ)) = ((k : ℤ) - 127) + (-23) := by norm_num; ring
  rw [e, zpow_add₀ (by norm_num)]
  generalize (2 : ℝ) ^ ((k : ℤ) - 127) = z
  norm_num
  ring

/-- Larger exponent fields read as larger numbers. -/
theorem pw_mono (i j : ℕ) (hij : i ≤ j) (hj : j ≤ 255) : pw i ≤ pw j := by
  rcases Nat.eq_or_lt_of_le hj with rfl | hj'
  · rw [pw_top]; exact le_top
  · rcases Nat.eq_zero_or_pos i with rfl | hi
    · rw [pw_zero]
      rcases Nat.eq_zero_or_pos j with rfl | hj0
      · rw [pw_zero]
      · rw [pw_mid j hj0 (by omega)]
        exact EReal.coe_nonneg.mpr (by positivity)
    · rw [pw_mid i hi (by omega), pw_mid j (by omega) (by omega)]
      exact EReal.coe_le_coe_iff.mpr (zpow_le_zpow_right₀ (by norm_num) (by omega))

/-- How many patterns `k << 23` are at most `v`. -/
def cnt (v : EReal) : ℕ := ∑ k : Fin 256, if pw k.val ≤ v then 1 else 0

/-- The smallest of the powers `2 ^ (-126)` to `2 ^ 127` above `v`. -/
def above (v : EReal) : EReal :=
  (Finset.univ : Finset (Fin 254)).fold min ⊤ fun j => if v < (((2 : ℝ) ^ ((j.val : ℤ) - 126) : ℝ) : EReal) then (((2 : ℝ) ^ ((j.val : ℤ) - 126) : ℝ) : EReal) else ⊤

/-- The count of the powers up to a positive number gives the exponent of the next. -/
theorem cnt_above (v : EReal) (h0 : 0 < v) (h1 : v < pw 253) : 1 ≤ cnt v ∧ cnt v ≤ 253 ∧ above v = pw (cnt v) := by
  classical
  have hex : ∃ k, v < pw k := ⟨253, h1⟩
  set n := Nat.find hex with hn
  have hs : v < pw n := Nat.find_spec hex
  have hle : n ≤ 253 := Nat.find_min' hex h1
  have hpos : 1 ≤ n := by
    rcases Nat.eq_zero_or_pos n with h | h
    · rw [h, pw_zero] at hs; exact absurd hs (not_lt.mpr h0.le)
    · exact h
  have key : ∀ k : ℕ, k ≤ 255 → (pw k ≤ v ↔ k < n) := by
    intro k hk
    constructor
    · intro h
      by_contra hc
      exact absurd (lt_of_lt_of_le hs (pw_mono n k (by omega) hk)) (not_lt.mpr h)
    · intro h; exact not_lt.mp (Nat.find_min hex h)
  have hc : cnt v = n := by
    unfold cnt
    rw [Finset.sum_congr rfl (fun k _ => if_congr (key k.val (by omega)) rfl rfl)]
    rw [Fin.sum_univ_eq_sum_range (fun k => if k < n then 1 else 0) 256, ← Finset.sum_filter, Finset.sum_const, smul_eq_mul, mul_one]
    rw [show (Finset.range 256).filter (fun k => k < n) = Finset.range n from by ext k; simp; omega, Finset.card_range]
  rw [hc]
  refine ⟨hpos, hle, ?_⟩
  have hp : ∀ j : Fin 254, (((2 : ℝ) ^ ((j.val : ℤ) - 126) : ℝ) : EReal) = pw (j.val + 1) := by
    intro j
    rw [pw_mid (j.val + 1) (by omega) (by omega), show (((j.val + 1 : ℕ) : ℤ) - 127) = (j.val : ℤ) - 126 from by push_cast; ring]
  apply le_antisymm
  · unfold above
    rw [Finset.fold_min_le]
    right
    refine ⟨⟨n - 1, by omega⟩, Finset.mem_univ _, ?_⟩
    rw [hp, show (⟨n - 1, by omega⟩ : Fin 254).val + 1 = n from by simp; omega, if_pos hs]
  · unfold above
    rw [Finset.le_fold_min]
    refine ⟨le_top, fun j _ => ?_⟩
    rw [hp]
    split_ifs with h
    · refine pw_mono _ _ ?_ (by omega)
      by_contra hc'
      exact absurd h (not_lt.mpr ((key (j.val + 1) (by omega)).mpr (by omega)))
    · exact le_top

/-- The factor between a block's largest magnitude and the number whose next power is the scale. -/
def fac : EReal := Ideal.ofBits .f32 0x3B124925#32

/-- That factor is a positive real below `2 ^ (-8)`. -/
theorem fac_spec : ∃ q : ℝ, fac = (q : EReal) ∧ 0 < q ∧ q < 1 / 256 := by
  refine ⟨_, rfl, ?_, ?_⟩
  all_goals norm_num [show (0x3B124925#32).extractLsb' 0 23 = 1198373#23 from rfl, show (0x3B124925#32).extractLsb' 23 8 = 118#8 from rfl, show (0x3B124925#32).extractLsb' 31 1 = 0#1 from rfl]

/-- A magnitude. -/
def mag (x : EReal) : EReal := max x (-x)

/-- The largest magnitude of a block. -/
def amax (f : Fin 128 → EReal) : EReal := (Finset.univ : Finset (Fin 128)).fold max ⊥ fun l => mag (f l)

/-- The largest finite input. -/
def big : EReal := Ideal.ofBits .bf16 0x7F7F#16

/-- The largest finite input is a real below `2 ^ 128`. -/
theorem big_spec : ∃ q : ℝ, big = (q : EReal) ∧ q < 2 ^ 128 := by
  refine ⟨_, rfl, ?_⟩
  norm_num [show (0x7F7F#16).extractLsb' 0 7 = 127#7 from rfl, show (0x7F7F#16).extractLsb' 7 8 = 254#8 from rfl, show (0x7F7F#16).extractLsb' 15 1 = 0#1 from rfl]

/-- A magnitude is not negative. -/
theorem mag_nonneg (x : EReal) : 0 ≤ mag x := by
  unfold mag
  rcases le_total 0 x with h | h
  · exact le_max_of_le_left h
  · exact le_max_of_le_right (EReal.neg_nonneg.mpr h)

/-- A block's largest magnitude is not negative and no larger than the largest input. -/
theorem amax_bounds (f : Fin 128 → EReal) (hf : ∀ l, mag (f l) ≤ big) : 0 ≤ amax f ∧ amax f ≤ big := by
  constructor
  · unfold amax
    rw [Finset.le_fold_max]
    exact Or.inr ⟨0, Finset.mem_univ _, mag_nonneg _⟩
  · unfold amax
    rw [Finset.fold_max_le]
    exact ⟨bot_le, fun l _ => hf l⟩

/-- The number whose next power of two is the scale is zero when the block is, and otherwise positive and small. -/
theorem amax_fac (f : Fin 128 → EReal) (hf : ∀ l, mag (f l) ≤ big) :
    (amax f * fac = 0 ↔ amax f = 0) ∧ (amax f ≠ 0 → 0 < amax f * fac ∧ amax f * fac < pw 253) := by
  obtain ⟨h0, h1⟩ := amax_bounds f hf
  obtain ⟨q, hq, hq0, hq1⟩ := fac_spec
  obtain ⟨B, hB, hB1⟩ := big_spec
  rw [hB] at h1
  obtain ⟨a, ha⟩ : ∃ a : ℝ, amax f = (a : EReal) := by
    refine ⟨(amax f).toReal, (EReal.coe_toReal ?_ ?_).symm⟩
    · intro h; rw [h] at h1; exact absurd h1 (not_le.mpr (EReal.coe_lt_top B))
    · intro h; rw [h] at h0; exact absurd h0 (by simp)
  rw [ha] at h0 h1 ⊢
  rw [hq, ← EReal.coe_mul, pw_mid 253 (by norm_num) (by norm_num)]
  have h0' : 0 ≤ a := EReal.coe_nonneg.mp h0
  have h1' : a ≤ B := EReal.coe_le_coe_iff.mp h1
  refine ⟨?_, fun hne => ⟨?_, ?_⟩⟩
  · rw [EReal.coe_eq_zero, EReal.coe_eq_zero, mul_eq_zero]
    exact ⟨fun h => h.resolve_right hq0.ne', Or.inl⟩
  · have : a ≠ 0 := fun h => hne (by rw [h]; rfl)
    exact EReal.coe_pos.mpr (mul_pos (lt_of_le_of_ne h0' (Ne.symm this)) hq0)
  · refine EReal.coe_lt_coe_iff.mpr ?_
    calc a * q ≤ 2 ^ 128 * (1 / 256) := mul_le_mul (by linarith) hq1.le hq0.le (by positivity)
      _ < 2 ^ (((253 : ℕ) : ℤ) - 127) := by norm_num

/-- A block's scale. -/
def scF (f : Fin 128 → EReal) : EReal := if amax f = 0 then 1 else above (amax f * fac)

/-- The largest code. -/
def top8 : EReal := Ideal.ofBits .f32 0x43E00000#32
/-- The smallest code. -/
def bot8 : EReal := Ideal.ofBits .f32 0xC3E00000#32

/-- The code of an element of a block. -/
def cdF (f : Fin 128 → EReal) (x : EReal) : EReal := min top8 (max bot8 (Ideal.div x (scF f)))

/-- The exponent word computed from a count. -/
def expW (v : EReal) : BitVec 32 := if v = 0 then 0#32 else BitVec.ofNat 32 (cnt v) - 127#32

/-- Adding the bias back gives the count. -/
theorem word_up : ∀ n : Fin 255, IntOp.addi (BitVec.ofNat 32 n.val - 127#32) 127#32 = BitVec.ofNat 32 n.val := by decide +kernel
/-- The negated exponent's field. -/
theorem word_down : ∀ n : Fin 255, IntOp.addi (IntOp.subi 0#32 (BitVec.ofNat 32 n.val - 127#32)) 127#32 = BitVec.ofNat 32 (254 - n.val) := by decide +kernel

/-- The scale read from the exponent word is the smallest power of two above. -/
theorem scale_eq (f : Fin 128 → EReal) (hf : ∀ l, mag (f l) ≤ big) :
    Ideal.ofBits .f32 (IntOp.shli .vector (IntOp.addi (expW (amax f * fac)) 127#32) 23#32) = scF f := by
  obtain ⟨hz, hp⟩ := amax_fac f hf
  unfold scF expW
  by_cases h : amax f = 0
  · rw [if_pos (hz.mpr h), if_pos h]
    show pw 127 = 1
    rw [pw_mid 127 (by norm_num) (by norm_num)]
    norm_num
  · rw [if_neg (fun e => h (hz.mp e)), if_neg h]
    obtain ⟨h1, h2, h3⟩ := cnt_above _ (hp h).1 (hp h).2
    rw [word_up ⟨cnt (amax f * fac), by omega⟩, h3]
    rfl

/-- Multiplying by the power of the negated exponent is dividing by the scale. -/
theorem code_eq (f : Fin 128 → EReal) (hf : ∀ l, mag (f l) ≤ big) (x : EReal) :
    x * Ideal.ofBits .f32 (IntOp.shli .vector (IntOp.addi (IntOp.subi 0#32 (expW (amax f * fac))) 127#32) 23#32) = Ideal.div x (scF f) := by
  obtain ⟨hz, hp⟩ := amax_fac f hf
  unfold scF expW
  by_cases h : amax f = 0
  · rw [if_pos (hz.mpr h), if_pos h]
    show x * pw 127 = _
    rw [pw_mid 127 (by norm_num) (by norm_num), show (1 : EReal) = ((1 : ℝ) : EReal) from rfl, Ideal.div_coe one_ne_zero]
    norm_num
  · rw [if_neg (fun e => h (hz.mp e)), if_neg h]
    obtain ⟨h1, h2, h3⟩ := cnt_above _ (hp h).1 (hp h).2
    rw [word_down ⟨cnt (amax f * fac), by omega⟩, h3]
    show x * pw (254 - cnt (amax f * fac)) = _
    generalize cnt (amax f * fac) = n at h1 h2
    rw [pw_mid (254 - n) (by omega) (by omega), pw_mid n h1 (by omega), Ideal.div_coe (by positivity)]
    congr 2
    rw [one_div, ← zpow_neg]
    congr 1
    omega

end Cert.Num
-- ==== Proof.Block.lean ====
module

public import proofs.«01_k».proof.Proof.Whole
public import proofs.«01_k».proof.Proof.Num
public import Idealize.ShloMosaic.Lib.Pipeline.Value

/-! One block's values at a place: the gathered columns, the scale, the codes. -/

@[expose] public section

set_option maxRecDepth 10000

noncomputable section

namespace Cert.KernelIdeal.Own

open Cert.KernelIdeal Cert.KernelIdeal.Gen
open Idealize.ShloMosaic Idealize.ShloMosaic.ValueIdx
open Cert.Num

/-! ## Index words -/

/-- An index word's block, as the kernel divides. -/
def fdivW (w : BitVec 32) : BitVec 32 :=
  Scalar.select (IntOp.andi (IntOp.cmpi .ne (IntOp.subi ((IntOp.cmpi .sgt w 0#32).setWidth 32) ((IntOp.cmpi .slt w 0#32).setWidth 32)) (Scalar.subi (Scalar.extui (Scalar.cmpi .sgt 128#32 0#32)) (Scalar.extui (Scalar.cmpi .slt 128#32 0#32)))) (IntOp.cmpi .ne (IntOp.remsi .vector w 128#32) 0#32)) (IntOp.subi (IntOp.divsi .vector w 128#32) 1#32) (IntOp.divsi .vector w 128#32)

/-- An index word's place in its block, as the kernel takes the remainder. -/
def fmodW (w : BitVec 32) : BitVec 32 :=
  Scalar.select (IntOp.andi (IntOp.xori (IntOp.cmpi .slt (IntOp.remsi .vector w (Scalar.select (Scalar.cmpi .eq 128#32 0#32) 1#32 128#32)) 0#32) (Scalar.cmpi .slt (Scalar.select (Scalar.cmpi .eq 128#32 0#32) 1#32 128#32) 0#32)) (IntOp.cmpi .ne (IntOp.remsi .vector w (Scalar.select (Scalar.cmpi .eq 128#32 0#32) 1#32 128#32)) 0#32)) (IntOp.addi (IntOp.remsi .vector w (Scalar.select (Scalar.cmpi .eq 128#32 0#32) 1#32 128#32)) (Scalar.select (Scalar.cmpi .eq 128#32 0#32) 1#32 128#32)) (IntOp.remsi .vector w (Scalar.select (Scalar.cmpi .eq 128#32 0#32) 1#32 128#32))

/-- A negative place counted from the block's end. -/
def wrapW (m : BitVec 32) : BitVec 32 := Scalar.select (IntOp.cmpi .slt m 0#32) (IntOp.addi m 128#32) m

/-- On indices of columns the kernel's words are quotient and remainder. -/
theorem words_eq : ∀ n : Fin 2048, fdivW (BitVec.ofNat 32 n.val) = BitVec.ofNat 32 (n.val / 128) ∧ (wrapW (fmodW (BitVec.ofNat 32 n.val))).toNat % 128 = n.val % 128 := by
  decide +kernel

/-- Equal block words are equal blocks. -/
theorem block_eq (n b : ℕ) (hn : n < 16) (hb : b < 16) : IntOp.cmpi .eq (BitVec.ofNat 32 n) (BitVec.ofNat 32 b) = if n = b then 1#1 else 0#1 := by
  have h : ∀ n b : Fin 16, IntOp.cmpi .eq (BitVec.ofNat 32 n.val) (BitVec.ofNat 32 b.val) = if n.val = b.val then 1#1 else 0#1 := by decide +kernel
  exact h ⟨n, hn⟩ ⟨b, hb⟩

/-! ## Reading vectors -/

/-- A row of indices laid over every row. -/
theorem row_apply {α : Type} (x : S1x128.Idx → α) (r : Fin 256) (l : Fin 128) : broadcastTo S256x128 x broadcasts_S1x128_S256x128 (ix2 r l) = x (ix2 0 l) := by
  refine broadcastTo_apply _ _ _ _ fun a => ?_
  match a with
  | ⟨0, _⟩ => rfl
  | ⟨1, _⟩ => rfl

/-- A row of indices laid over itself. -/
theorem self_apply {α : Type} (x : S1x128.Idx → α) (l : Fin 128) : broadcastTo S1x128 x broadcasts_S1x128_S1x128 (ix2 0 l) = x (ix2 0 l) := by
  refine broadcastTo_apply _ _ _ _ fun a => ?_
  match a with
  | ⟨0, _⟩ => rfl
  | ⟨1, _⟩ => rfl

/-- A column laid over every column. -/
theorem col_apply {α : Type} (x : S256x1.Idx → α) (r : Fin 256) (l : Fin 128) : broadcastTo S256x128 x broadcasts_S256x1_S256x128 (ix2 r l) = x (ix2 r 0) := by
  refine broadcastTo_apply _ _ _ _ fun a => ?_
  match a with
  | ⟨0, _⟩ => rfl
  | ⟨1, _⟩ => rfl

/-- A column laid over every column. -/
theorem col_apply' {α : Type} (x : S256x1.Idx → α) (r : Fin 256) (l : Fin 256) : broadcastTo S256x256 x broadcasts_S256x1_S256x256 (ix2 r l) = x (ix2 r 0) := by
  refine broadcastTo_apply _ _ _ _ fun a => ?_
  match a with
  | ⟨0, _⟩ => rfl
  | ⟨1, _⟩ => rfl

/-- A gather along a row. -/
theorem gather_apply {α : Type} (x : S256x128.Idx → α) (idx : IVec S256x128 32) (r : Fin 256) (l : Fin 128) :
    dynamicGather 1 x idx (ix2 r l) = x (ix2 r ⟨(idx (ix2 r l)).toNat % 128, Nat.mod_lt _ (by decide)⟩) := by
  unfold dynamicGather
  refine congrArg x (funext fun b => ?_)
  match b with
  | ⟨0, _⟩ => rfl
  | ⟨1, _⟩ => rfl

/-- A vector made a column. -/
theorem cast_col {α : Type} (x : S256.Idx → α) (r : Fin 256) (z : Fin 1) : shapeCast S256x1 x shapeCasts_S256_S256x1 (ix2 r z) = x (ix1 r) := by
  refine shapeCast_apply _ _ _ _ ?_
  rw [Shape.rowMajor_val_one, Shape.rowMajor_val_two]
  have := z.isLt
  show r.val = r.val * 1 + z.val
  omega

/-- The outlier columns at a place after a block. -/
theorem outSel_apply (bv : BitVec 32) (xb : Vec Ideal S256x128 .bf16) (ov : Vec Ideal S1x128 .i32) (xo : FVec Ideal S256x128 .f32) (r : Fin 256) (l : Fin 128) :
    outSel bv xb ov xo (ix2 r l) = Scalar.select (IntOp.cmpi .eq (fdivW (ov (ix2 0 l))) bv) (xb (ix2 r ⟨(wrapW (fmodW (ov (ix2 0 l)))).toNat % 128, Nat.mod_lt _ (by decide)⟩)) (xo (ix2 r l)) := by
  unfold outSel
  simp only [shapeCast_self, shapeCast_shapeCast, select, cmpi, addi, andi, xori, remsi, divsi, subi, extui, broadcast, self_apply, row_apply, gather_apply]
  rfl

/-- The gathered inlier columns at a place. -/
theorem gath_apply (bv : BitVec 32) (xb xb2 : Vec Ideal S256x128 .bf16) (iv : Vec Ideal S1x128 .i32) (r : Fin 256) (l : Fin 128) :
    gath bv xb xb2 iv (ix2 r l) = Scalar.select (IntOp.cmpi .eq (fdivW (iv (ix2 0 l))) bv) (xb (ix2 r ⟨(wrapW (fmodW (iv (ix2 0 l)))).toNat % 128, Nat.mod_lt _ (by decide)⟩)) (xb2 (ix2 r ⟨(wrapW (fmodW (iv (ix2 0 l)))).toNat % 128, Nat.mod_lt _ (by decide)⟩)) := by
  unfold gath
  simp only [shapeCast_self, shapeCast_shapeCast, truncf, select, cmpi, addi, andi, xori, remsi, divsi, subi, extui, broadcast, self_apply, row_apply, gather_apply]
  rfl

/-! ## The scale and the codes of a block -/

/-- The row of a block. -/
def rowF (g : FVec Ideal S256x128 .bf16) (r : Fin 256) : Fin 128 → EReal := fun l => g (ix2 r l)

/-- The largest magnitude of a row of a block. -/
theorem max_apply (g : FVec Ideal S256x128 .bf16) (r : Fin 256) :
    multiReduction .maximumf [1] S256 (absf g) 0xFF80#16 reduces_S256x128_S256 (.inr rfl) rfl (ix1 r) = amax (rowF g r) := by
  refine (Ideal.multiReduction_maximumf_single (absf g) 0xFF80#16 reduces_S256x128_S256 (.inr rfl) rfl (ix1 r)).trans ?_
  have hb : (FloatOps.ofBits (F := Ideal) .bf16 0xFF80#16 : EReal) = ⊥ := by
    show Ideal.ofBits .bf16 0xFF80#16 = ⊥
    simp [Ideal.ofBits, Ideal.ieee]
  unfold amax
  refine congrArg₂ (fun b f => Finset.fold max b f Finset.univ) hb (funext fun l => ?_)
  have e : reduces_S256x128_S256.lift (ix1 r) l = ix2 r l := by
    funext a
    match a with
    | ⟨0, _⟩ => rfl
    | ⟨1, _⟩ => rfl
  show absf g (reduces_S256x128_S256.lift (ix1 r) l) = _
  rw [e]
  rfl

/-- The count of the powers up to each row's number. -/
theorem count_apply (v : FVec Ideal S256x1 .f32) (r : Fin 256) :
    multiReductionI .add [1] S256 (select (cmpf .oge (broadcastTo S256x256 v broadcasts_S256x1_S256x256) (bitcastToFloat .f32 (shli (iota .tc S256x256 32 [1] iota_S256x256_d1_w32) (broadcast S256x256 23#32)))) (broadcast S256x256 1#32) (broadcast S256x256 0#32)) 0#32 reduces_S256x256_S256 rfl (ix1 r)
      = BitVec.ofNat 32 (cnt (v (ix2 r 0))) := by
  have e : ∀ k : Fin 256, reduces_S256x256_S256.lift (ix1 r) k = ix2 r k := by
    intro k
    funext a
    match a with
    | ⟨0, _⟩ => rfl
    | ⟨1, _⟩ => rfl
  have hs : ∀ k : Fin 256, (select (cmpf .oge (broadcastTo S256x256 v broadcasts_S256x1_S256x256) (bitcastToFloat (F := Ideal) .f32 (shli (iota .tc S256x256 32 [1] iota_S256x256_d1_w32) (broadcast S256x256 23#32)))) (broadcast S256x256 1#32) (broadcast S256x256 0#32) (ix2 r k)).toNat = if pw k.val ≤ v (ix2 r 0) then 1 else 0 := by
    intro k
    show (Scalar.select (Ideal.cmp .oge (broadcastTo S256x256 v broadcasts_S256x1_S256x256 (ix2 r k)) (Ideal.ofBits .f32 (IntOp.shli .vector (BitVec.ofNat 32 (0 * 256 + k.val)) 23#32))) 1#32 0#32).toNat = _
    rw [col_apply', Nat.zero_mul, Nat.zero_add]
    show (Scalar.select (BitVec.ofBool (decide (pw k.val ≤ v (ix2 r 0)))) 1#32 0#32).toNat = _
    by_cases h : pw k.val ≤ v (ix2 r 0)
    · rw [if_pos h, decide_eq_true h]; rfl
    · rw [if_neg h, decide_eq_false h]; rfl
  have hsum : ∑ i ∈ Finset.univ.filter (fun i => reduces_S256x256_S256.drop i = ix1 r), (select (cmpf .oge (broadcastTo S256x256 v broadcasts_S256x1_S256x256) (bitcastToFloat (F := Ideal) .f32 (shli (iota .tc S256x256 32 [1] iota_S256x256_d1_w32) (broadcast S256x256 23#32)))) (broadcast S256x256 1#32) (broadcast S256x256 0#32) i).toNat = cnt (v (ix2 r 0)) := by
    rw [Shape.Reduces.sum_filter_drop_single]
    unfold cnt
    refine Finset.sum_congr rfl fun k _ => ?_
    exact (congrArg (fun i => BitVec.toNat (select _ _ _ i)) (e k)).trans (hs k)
  have hlt : cnt (v (ix2 r 0)) < 2 ^ 32 := by
    refine lt_of_le_of_lt (Finset.sum_le_card_nsmul Finset.univ _ 1 fun k _ => ?_) (by simp)
    split_ifs <;> omega
  apply BitVec.eq_of_toNat_eq
  rw [WordSum.toNat_multiReductionI_add _ _ rfl _ (by rw [hsum]; exact hlt), hsum, BitVec.toNat_ofNat, Nat.mod_eq_of_lt hlt]

/-- The rows' numbers: each row's largest magnitude times the factor. -/
def numV (g : FVec Ideal S256x128 .bf16) : FVec Ideal S256x1 .f32 :=
  mulf (extf .f32 (shapeCast S256x1 (multiReduction .maximumf [1] S256 (absf g) 0xFF80#16 reduces_S256x128_S256 (.inr rfl) rfl) shapeCasts_S256_S256x1) bitsLt_bf16_f32) (broadcast S256x1 (Scalar.ofBits (F := Ideal) .f32 0x3B124925#32))

/-- A row's number. -/
theorem numV_apply (g : FVec Ideal S256x128 .bf16) (r : Fin 256) (z : Fin 1) : numV g (ix2 r z) = amax (rowF g r) * fac  := by
  have h1 := (cast_col (multiReduction .maximumf [1] S256 (absf g) 0xFF80#16 reduces_S256x128_S256 (.inr rfl) rfl) r z).trans (max_apply g r)
  unfold numV
  rw [mulf_apply, extf_apply, h1, broadcast_apply]
  unfold fac
  rfl

/-- The counts of the powers up to the rows' numbers. -/
def cntV (v : FVec Ideal S256x1 .f32) : IVec S256 32 :=
  multiReductionI .add [1] S256 (select (cmpf .oge (broadcastTo S256x256 v broadcasts_S256x1_S256x256) (bitcastToFloat .f32 (shli (iota .tc S256x256 32 [1] iota_S256x256_d1_w32) (broadcast S256x256 23#32)))) (broadcast S256x256 1#32) (broadcast S256x256 0#32)) 0#32 reduces_S256x256_S256 rfl

/-- The exponent words of a block, in terms of its rows' numbers. -/
theorem expV_def (g : FVec Ideal S256x128 .bf16) :
    expV g = select (cmpf .oeq (numV g) (broadcast S256x1 (Scalar.ofBits (F := Ideal) .f32 0x00000000#32))) (broadcast S256x1 0#32) (subi (shapeCast S256x1 (cntV (numV g)) shapeCasts_S256_S256x1) (broadcast S256x1 127#32)) := rfl

/-- The exponent word of a row of a block. -/
theorem expV_apply (g : FVec Ideal S256x128 .bf16) (r : Fin 256) : expV g (ix2 r 0) = expW (amax (rowF g r) * fac) := by
  rw [expV_def, ← numV_apply g r 0]
  generalize numV g = v
  have h1 : shapeCast S256x1 (cntV v) shapeCasts_S256_S256x1 (ix2 r 0) = BitVec.ofNat 32 (cnt (v (ix2 r 0))) := (cast_col _ r 0).trans (count_apply v r)
  have h2 : (Scalar.ofBits (F := Ideal) .f32 0x00000000#32 : EReal) = 0 := Ideal.ofBits_zero_f32
  unfold select cmpf broadcast subi
  rw [h1, h2]
  unfold expW
  show Scalar.select (BitVec.ofBool (decide ((v (ix2 r 0) : EReal) = 0))) 0#32 _ = _
  by_cases h : (v (ix2 r 0) : EReal) = 0
  · rw [if_pos h, decide_eq_true h]; rfl
  · rw [if_neg h, decide_eq_false h]; rfl

/-- The scale of a row of a block. -/
theorem scaleV_apply (g : FVec Ideal S256x128 .bf16) (r : Fin 256) (hg : ∀ l, mag (g (ix2 r l)) ≤ big) : scaleV g (ix2 r 0) = scF (rowF g r) := by
  rw [← scale_eq (rowF g r) hg, ← expV_apply]
  rfl

/-- The code at a place of a block. -/
theorem codesV_apply (g : FVec Ideal S256x128 .bf16) (r : Fin 256) (l : Fin 128) (hg : ∀ l, mag (g (ix2 r l)) ≤ big) : codesV g (ix2 r l) = cdF (rowF g r) (g (ix2 r l)) := by
  unfold cdF
  rw [← code_eq (rowF g r) hg, ← expV_apply]
  unfold codesV
  show min top8 (max bot8 ((g (ix2 r l) : EReal) * (broadcastTo S256x128 _ broadcasts_S256x1_S256x128 (ix2 r l) : EReal))) = _
  rw [col_apply]
  rfl

/-- The dequantised value at a place of a block. -/
theorem xdV_apply (g : FVec Ideal S256x128 .bf16) (r : Fin 256) (l : Fin 128) (hg : ∀ l, mag (g (ix2 r l)) ≤ big) : xdV g (ix2 r l) = cdF (rowF g r) (g (ix2 r l)) * scF (rowF g r) := by
  rw [← codesV_apply g r l hg, ← scaleV_apply g r hg]
  unfold xdV
  show (codesV g (ix2 r l) : EReal) * (broadcastTo S256x128 _ broadcasts_S256x1_S256x128 (ix2 r l) : EReal) = _
  rw [col_apply]
  rfl

end Cert.KernelIdeal.Own
-- ==== Proof.TileValue.lean ====
module

public import proofs.«01_k».proof.Proof.Block

/-! A tile's values at a place: codes, scales, the dequantised tile, the weights and the product. -/

@[expose] public section

set_option maxRecDepth 10000

noncomputable section

namespace Cert.KernelIdeal.Own

open Cert.KernelIdeal Cert.KernelIdeal.Gen
open Idealize.ShloMosaic Idealize.ShloMosaic.ValueIdx
open Cert.Num

/-! ## Overwritten blocks at a place -/

/-- Inside the block the overwritten array is the block. -/
theorem updR_at {s : Shape} {T : Type} (X : s.Idx → T) (off : Fin s.rank → ℕ) (sz : Fin s.rank → ℕ) (inb) (w : (Rect.unit (s := s) off sz inb).shape.Idx → T) (x : (Rect.unit (s := s) off sz inb).shape.Idx) (y : s.Idx)
    (h : ∀ a, off a + (x a : ℕ) = (y a : ℕ)) : updR X (Rect.unit (s := s) off sz inb) w y = w x := by
  have e : (Rect.unit (s := s) off sz inb).emb x = y := by
    funext a
    refine Fin.ext ?_
    show off a + 1 * (x a : ℕ) = _
    rw [Nat.one_mul]; exact h a
  rw [← e, updR_hit]

/-- Outside the block it is as it was. -/
theorem updR_off {s : Shape} {T : Type} (X : s.Idx → T) (off : Fin s.rank → ℕ) (sz : Fin s.rank → ℕ) (inb) (w : (Rect.unit (s := s) off sz inb).shape.Idx → T) (y : s.Idx) (a : Fin s.rank)
    (h : (y a : ℕ) < off a ∨ off a + sz a ≤ (y a : ℕ)) : updR X (Rect.unit (s := s) off sz inb) w y = X y := by
  refine updR_miss _ _ _ _ fun x e => ?_
  have e' := congrArg (fun z : s.Idx => (z a : ℕ)) e
  have e'' : off a + 1 * (x a : ℕ) = (y a : ℕ) := e'
  have hx : (x a : ℕ) < sz a := (x a).isLt
  omega

/-! ## The gathered columns -/

/-- The column an index word names. -/
def colW (w : BitVec 32) : Fin 2048 := ⟨w.toNat % 2048, Nat.mod_lt _ (by decide)⟩

/-- The elements of block `b` of row `i` of the gathered inlier columns. -/
def inF {m : ℕ} (X : (⟨2, ![m, 2048]⟩ : Shape).Idx → EReal) (I : Fin 15 → Fin 128 → BitVec 32) (i : Fin m) (b : Fin 15) : Fin 128 → EReal := fun l => X (ix2 i (colW (I b l)))

/-- The block of an inlier column. -/
abbrev bk (k : ℕ) (h : k < 1920) : Fin 15 := ⟨k / 128, by omega⟩
/-- The place in its block of an inlier column. -/
abbrev pl (k : ℕ) : Fin 128 := ⟨k % 128, Nat.mod_lt _ (by decide)⟩

variable (X : S256x2048.Idx → Elt Ideal .bf16) (I : S15x128.Idx → Elt Ideal .i32) (O : S1x128.Idx → Elt Ideal .i32)

/-- The index words of the inlier columns by block and place. -/
abbrev wI (I : S15x128.Idx → Elt Ideal .i32) : Fin 15 → Fin 128 → BitVec 32 := fun b l => I (ix2 b l)
/-- The index words of the outlier columns. -/
abbrev wO (O : S1x128.Idx → Elt Ideal .i32) : Fin 128 → BitVec 32 := fun o => O (ix2 0 o)

/-- A column block at a place. -/
theorem bX_apply (b : Fin 16) (r : Fin 256) (l : Fin 128) : bX X b (ix2 r l) = X (ix2 r ⟨128 * b.val + l.val, by omega⟩) := by
  refine congrArg X (funext fun a => Fin.ext ?_)
  match a with
  | ⟨0, _⟩ => show 0 + 1 * r.val = r.val; omega
  | ⟨1, _⟩ => show 128 * b.val + 1 * l.val = 128 * b.val + l.val; omega

/-- A block's indices at a place. -/
theorem bI_apply (b : Fin 15) (l : Fin 128) : bI I b (ix2 0 l) = I (ix2 b l) := by
  refine congrArg I (funext fun a => Fin.ext ?_)
  match a with
  | ⟨0, _⟩ => show b.val + 1 * 0 = b.val; omega
  | ⟨1, _⟩ => show 0 + 1 * l.val = l.val; omega

/-- The outlier indices at a place. -/
theorem bO_apply (l : Fin 128) : bO O (ix2 0 l) = O (ix2 0 l) := by
  refine congrArg O (funext fun a => Fin.ext ?_)
  match a with
  | ⟨0, _⟩ => rfl
  | ⟨1, _⟩ => show 0 + 1 * l.val = l.val; omega

/-- What the kernel reads off an index word of a column. -/
theorem word_read (w : BitVec 32) (hw : w.toNat < 2048) : fdivW w = BitVec.ofNat 32 (w.toNat / 128) ∧ (wrapW (fmodW w)).toNat % 128 = w.toNat % 128 := by
  have h := words_eq ⟨w.toNat, hw⟩
  simp only [BitVec.ofNat_toNat, BitVec.setWidth_eq] at h
  exact h

/-- A gathered block at a place: the column its index names. -/
theorem gB_apply (hI : ∀ b l, 128 * b.val ≤ (wI I b l).toNat ∧ (wI I b l).toNat < 128 * b.val + 256) (b : Fin 15) (r : Fin 256) (l : Fin 128) :
    gB X I b (ix2 r l) = X (ix2 r (colW (wI I b l))) := by
  obtain ⟨h1, h2⟩ := hI b l
  unfold gB
  rw [gath_apply, bI_apply, bX_apply, bX_apply]
  obtain ⟨w1, w2⟩ := word_read (wI I b l) (by omega)
  rw [w1, block_eq ((wI I b l).toNat / 128) b.val (by omega) (by omega)]
  by_cases h : (wI I b l).toNat / 128 = b.val
  · rw [if_pos h]
    show X _ = X _
    refine congrArg X (congrArg (ix2 r) (Fin.ext ?_))
    show 128 * b.val + (wrapW (fmodW (wI I b l))).toNat % 128 = (wI I b l).toNat % 2048
    rw [w2]; omega
  · rw [if_neg h]
    show X _ = X _
    refine congrArg X (congrArg (ix2 r) (Fin.ext ?_))
    show 128 * (b.val + 1) + (wrapW (fmodW (wI I b l))).toNat % 128 = (wI I b l).toNat % 2048
    rw [w2]; omega

/-- The outlier columns once their block has passed. -/
theorem xoI_apply (r : Fin 256) (l : Fin 128) (hO : (wO O l).toNat < 2048) : ∀ (n : ℕ) (h : n ≤ 16), (wO O l).toNat / 128 < n → xoI X O n h (ix2 r l) = X (ix2 r (colW (wO O l)))
  | 0, _, hn => absurd hn (Nat.not_lt_zero _)
  | n + 1, h, hn => by
    have ih := xoI_apply r l hO n (Nat.le_of_succ_le h)
    unfold xoI
    rw [outSel_apply, bO_apply, bX_apply]
    obtain ⟨w1, w2⟩ := word_read (wO O l) hO
    rw [w1, block_eq ((wO O l).toNat / 128) n (by omega) (by omega)]
    by_cases hb : (wO O l).toNat / 128 = n
    · rw [if_pos hb]
      show X _ = X _
      refine congrArg X (congrArg (ix2 r) (Fin.ext ?_))
      show 128 * n + (wrapW (fmodW (wO O l))).toNat % 128 = (wO O l).toNat % 2048
      rw [w2]; omega
    · rw [if_neg hb]
      exact ih (by omega)

section
variable (hI : ∀ b l, 128 * b.val ≤ (wI I b l).toNat ∧ (wI I b l).toNat < 128 * b.val + 256) (hX : ∀ i, mag (X i) ≤ big)
include hI hX

/-- The row of a gathered block. -/
theorem rowF_gB (b : Fin 15) (r : Fin 256) : rowF (gB X I b) r = inF X (wI I) r b := funext fun l => gB_apply X I hI b r l

/-- A gathered block's elements are bounded as the inputs are. -/
theorem gB_big (b : Fin 15) (r : Fin 256) (l : Fin 128) : mag (gB X I b (ix2 r l)) ≤ big := by
  rw [gB_apply X I hI]; exact hX _

/-- The codes' buffer on the blocks passed. -/
theorem cI_apply (Y) (r : Fin 256) (k : Fin 1920) : ∀ (n : ℕ) (h : n ≤ 15), k.val < 128 * n →
    cI X I Y n h (ix2 r k) = cdF (inF X (wI I) r (bk k k.isLt)) (inF X (wI I) r (bk k k.isLt) (pl k))
  | 0, _, hk => absurd hk (Nat.not_lt_zero _)
  | n + 1, h, hk => by
    unfold cI
    by_cases hb : k.val < 128 * n
    · rw [updR_off _ _ _ _ _ _ 1 (Or.inl hb)]
      exact cI_apply Y r k n _ hb
    · have e : bk k k.isLt = ⟨n, h⟩ := Fin.ext (show k.val / 128 = n by omega)
      rw [e]
      refine (updR_at _ _ _ _ _ (ix2 r (pl k) : S256x128.Idx) _ ?_).trans ?_
      · intro a
        match a with
        | ⟨0, _⟩ => show 0 + r.val = r.val; omega
        | ⟨1, _⟩ => show 128 * n + k.val % 128 = k.val; omega
      · rw [shapeCast_self, codesV_apply _ r _ (gB_big X I hI hX _ r), rowF_gB X I hI hX, gB_apply X I hI]
        rfl

/-- The scales' buffer on the blocks passed. -/
theorem sI_apply (Y) (r : Fin 256) (b : Fin 15) : ∀ (n : ℕ) (h : n ≤ 15), b.val < n → sI X I Y n h (ix2 r b) = scF (inF X (wI I) r b)
  | 0, _, hk => absurd hk (Nat.not_lt_zero _)
  | n + 1, h, hk => by
    unfold sI
    by_cases hb : b.val < n
    · rw [updR_off _ _ _ _ _ _ 1 (Or.inl hb)]
      exact sI_apply Y r b n _ hb
    · have e : b = ⟨n, h⟩ := Fin.ext (show b.val = n by omega)
      refine (updR_at _ _ _ _ _ (ix2 r 0 : S256x1.Idx) _ ?_).trans ?_
      · intro a
        match a with
        | ⟨0, _⟩ => show 0 + r.val = r.val; omega
        | ⟨1, _⟩ => show n + 0 = b.val; omega
      · rw [shapeCast_self, scaleV_apply _ r (gB_big X I hI hX _ r), rowF_gB X I hI hX, e]

/-- The dequantised tile on the blocks passed. -/
theorem dI_apply (Y) (r : Fin 256) (k : Fin 2048) (hk' : k.val < 1920) : ∀ (n : ℕ) (h : n ≤ 15), k.val < 128 * n →
    dI X I Y n h (ix2 r k) = cdF (inF X (wI I) r (bk k hk')) (inF X (wI I) r (bk k hk') (pl k)) * scF (inF X (wI I) r (bk k hk'))
  | 0, _, hk => absurd hk (Nat.not_lt_zero _)
  | n + 1, h, hk => by
    unfold dI
    by_cases hb : k.val < 128 * n
    · rw [updR_off _ _ _ _ _ _ 1 (Or.inl hb)]
      exact dI_apply Y r k hk' n _ hb
    · have e : bk k hk' = ⟨n, h⟩ := Fin.ext (show k.val / 128 = n by omega)
      rw [e]
      refine (updR_at _ _ _ _ _ (ix2 r (pl k) : S256x128.Idx) _ ?_).trans ?_
      · intro a
        match a with
        | ⟨0, _⟩ => show 0 + r.val = r.val; omega
        | ⟨1, _⟩ => show 128 * n + k.val % 128 = k.val; omega
      · rw [shapeCast_self, xdV_apply _ r _ (gB_big X I hI hX _ r), rowF_gB X I hI hX, gB_apply X I hI]
        rfl

/-- A tile's codes at a place. -/
theorem cT_apply (r : Fin 256) (k : Fin 1920) : cT X I (ix2 r k) = cdF (inF X (wI I) r (bk k k.isLt)) (inF X (wI I) r (bk k k.isLt) (pl k)) :=
  cI_apply X I hI hX _ r k 15 le_rfl k.isLt

/-- A tile's scales at a place. -/
theorem sT_apply (r : Fin 256) (b : Fin 15) : sT X I (ix2 r b) = scF (inF X (wI I) r b) :=
  sI_apply X I hI hX _ r b 15 le_rfl b.isLt

/-- The dequantised tile on the inlier columns. -/
theorem dT_in (r : Fin 256) (k : Fin 2048) (hk : k.val < 1920) : dT X I O (ix2 r k) = cdF (inF X (wI I) r (bk k hk)) (inF X (wI I) r (bk k hk) (pl k)) * scF (inF X (wI I) r (bk k hk)) := by
  unfold dT dL
  rw [updR_off _ _ _ _ _ _ 1 (Or.inl hk)]
  exact dI_apply X I hI hX _ r k hk 15 le_rfl hk

end

/-- The tile on the outlier columns. -/
theorem dT_out (hO : ∀ o, (wO O o).toNat < 2048) (r : Fin 256) (o : Fin 128) : dT X I O (ix2 r ⟨1920 + o.val, by omega⟩) = X (ix2 r (colW (wO O o))) := by
  unfold dT dL
  refine (updR_at _ _ _ _ _ (ix2 r o : S256x128.Idx) _ ?_).trans ?_
  · intro a
    match a with
    | ⟨0, _⟩ => show 0 + r.val = r.val; omega
    | ⟨1, _⟩ => rfl
  · rw [shapeCast_self, truncf_apply]
    exact xoI_apply X O r o (hO o) 16 le_rfl (by have := hO o; omega)

/-! ## The weights -/

variable (WS : S15x64.Idx → Elt Ideal .f32) (WC : S1920x8192.Idx → Elt Ideal .fp8e4m3) (WO : S128x8192.Idx → Elt Ideal .bf16)

/-- A staged column block at a place. -/
theorem stW_apply (p : Fin 2) (V : S128x8192.Idx → Elt Ideal .fp8e4m3) (j : Fin 64) (a b : Fin 128) :
    stW p V ((rSt p j).emb (ix3 0 a b : S1x128x128.Idx)) = V (ix2 a ⟨128 * j.val + b.val, by omega⟩) := by
  unfold stW
  refine (updR_at _ _ _ _ _ (ix3 0 a ⟨128 * j.val + b.val, by omega⟩ : S1x128x8192.Idx) _ ?_).trans ?_
  · intro d
    match d with
    | ⟨0, _⟩ => rfl
    | ⟨1, _⟩ => show 0 + a.val = 0 + 1 * a.val; omega
    | ⟨2, _⟩ => show 0 + (128 * j.val + b.val) = 128 * j.val + 1 * b.val; omega
  · refine congrArg V ?_
    rw [Equiv.symm_apply_eq]
    refine (Shape.reshapeEquiv_eq_of_rowMajor _ ?_).symm
    rw [Shape.rowMajor_val_two, Shape.rowMajor_val_three]
    show (0 * 128 + a.val) * 8192 + (128 * j.val + b.val) = a.val * 8192 + (128 * j.val + b.val)
    omega

/-- A weight block times its scale at a place. -/
theorem wV_apply (st : Vec Ideal S1x128x128 .fp8e4m3) (z : Ideal .f32) (a b : Fin 128) : wV st z (ix2 a b) = (st (ix3 0 a b) * z : EReal) := by
  have h1 : shapeCast S128x128 st shapeCasts_S1x128x128_S128x128 (ix2 a b) = st (ix3 0 a b) := by
    refine shapeCast_apply _ _ _ _ ?_
    rw [Shape.rowMajor_val_two, Shape.rowMajor_val_three]
    show (0 * 128 + a.val) * 128 + b.val = a.val * 128 + b.val
    omega
  unfold wV
  rw [mulf_apply, extf_apply, h1]
  rfl

/-- A dequantised weight block at a place. -/
theorem wB_apply (k : Fin 15) (p : Fin 2) (V : S128x8192.Idx → Elt Ideal .fp8e4m3) (j : Fin 64) (a b : Fin 128) :
    wB WS k p V j (ix2 a b) = (V (ix2 a ⟨128 * j.val + b.val, by omega⟩) * WS (ix2 k j) : EReal) := by
  have h2 : wsE WS k j = WS (ix2 k j) := by
    unfold wsE
    refine congrArg WS (funext fun d => Fin.ext ?_)
    match d with
    | ⟨0, _⟩ => exact Nat.add_zero _
    | ⟨1, _⟩ => exact Nat.add_zero _
  unfold wB
  refine (wV_apply _ _ a b).trans ?_
  rw [h2, stW_apply]

/-- The weights of a tile on the column blocks passed; the rows of other tiles are as they were. -/
theorem wJ_apply (k : Fin 15) (p : Fin 2) (V : S128x8192.Idx → Elt Ideal .fp8e4m3) (W : S2048x8192.Idx → Elt Ideal .bf16) (i : Fin 2048) (c : Fin 8192) : ∀ (n : ℕ) (h : n ≤ 64),
    (∀ hi : i.val / 128 = k.val, c.val < 128 * n → wJ WS k p V W n h (ix2 i c) = (V (ix2 (pl i) c) * WS (ix2 k ⟨c.val / 128, by omega⟩) : EReal))
      ∧ (i.val / 128 ≠ k.val → wJ WS k p V W n h (ix2 i c) = W (ix2 i c))
  | 0, _ => ⟨fun _ hk => absurd hk (Nat.not_lt_zero _), fun _ => rfl⟩
  | n + 1, h => by
    obtain ⟨ih1, ih2⟩ := wJ_apply k p V W i c n (Nat.le_of_succ_le h)
    unfold wJ
    constructor
    · intro hi hc
      by_cases hb : c.val < 128 * n
      · rw [updR_off _ _ _ _ _ _ 1 (Or.inl hb)]
        exact ih1 hi hb
      · refine (updR_at _ _ _ _ _ (ix2 (pl i) (pl c) : S128x128.Idx) _ ?_).trans ?_
        · intro a
          match a with
          | ⟨0, _⟩ => show 128 * k.val + i.val % 128 = i.val; omega
          | ⟨1, _⟩ => show 128 * n + c.val % 128 = c.val; omega
        · rw [shapeCast_self, wB_apply]
          have e1 : (⟨128 * (⟨n, h⟩ : Fin 64).val + (pl c.val).val, by have := (pl c.val).isLt; have : n < 64 := h; show 128 * n + _ < _; omega⟩ : Fin 8192) = c := Fin.ext (show 128 * n + c.val % 128 = c.val by omega)
          have e2 : (⟨n, h⟩ : Fin 64) = ⟨c.val / 128, by omega⟩ := Fin.ext (show n = c.val / 128 by omega)
          rw [e1, e2]
    · intro hi
      rw [updR_off _ _ _ _ _ _ 0 (by show i.val < 128 * k.val ∨ 128 * k.val + 128 ≤ i.val; omega)]
      exact ih2 hi

/-- The weights on the tiles passed. -/
theorem wK_apply (W : S2048x8192.Idx → Elt Ideal .bf16) (i : Fin 2048) (hi : i.val < 1920) (c : Fin 8192) : ∀ (n : ℕ) (h : n ≤ 15), i.val < 128 * n →
    wK WS WC W n h (ix2 i c) = (WC (ix2 ⟨i.val, hi⟩ c) * WS (ix2 (bk i hi) ⟨c.val / 128, by omega⟩) : EReal)
  | 0, _, hk => absurd hk (Nat.not_lt_zero _)
  | n + 1, h, hk => by
    unfold wK
    by_cases hb : i.val < 128 * n
    · rw [(wJ_apply WS _ _ _ _ i c 64 le_rfl).2 (by show i.val / 128 ≠ n; omega)]
      exact wK_apply W i hi c n _ hb
    · rw [(wJ_apply WS ⟨n, h⟩ _ _ _ i c 64 le_rfl).1 (by show i.val / 128 = n; omega) c.isLt]
      have e : (⟨n, h⟩ : Fin 15) = bk i hi := Fin.ext (show n = i.val / 128 by omega)
      have e' : wcT WC ⟨n, h⟩ (ix2 (pl i) c) = WC (ix2 ⟨i.val, hi⟩ c) := by
        refine congrArg WC (funext fun a => Fin.ext ?_)
        match a with
        | ⟨0, _⟩ => show 128 * n + 1 * (i.val % 128) = i.val; omega
        | ⟨1, _⟩ => show 0 + 1 * c.val = c.val; omega
      rw [e', e]

/-- The weights on the inlier rows. -/
theorem wT_apply_in (i : Fin 2048) (hi : i.val < 1920) (c : Fin 8192) : wT WS WC WO (ix2 i c) = (WC (ix2 ⟨i.val, hi⟩ c) * WS (ix2 (bk i hi) ⟨c.val / 128, by omega⟩) : EReal) := by
  unfold wT
  rw [updR_off _ _ _ _ _ _ 0 (Or.inl hi)]
  exact wK_apply WS WC _ i hi c 15 le_rfl hi

/-- The weights on the outlier rows. -/
theorem wT_apply_out (o : Fin 128) (c : Fin 8192) : wT WS WC WO (ix2 ⟨1920 + o.val, by omega⟩ c) = WO (ix2 o c) := by
  unfold wT
  refine (updR_at _ _ _ _ _ (ix2 o c : S128x8192.Idx) _ ?_).trans rfl
  intro a
  match a with
  | ⟨0, _⟩ => rfl
  | ⟨1, _⟩ => show 0 + c.val = c.val; omega

/-! ## The product -/

/-- A part of the product at a place. -/
theorem yV_apply (xd : Vec Ideal S256x2048 .bf16) (w : Vec Ideal S2048x512 .bf16) (r : Fin 256) (c : Fin 512) : yV xd w (ix2 r c) = (∑ k : Fin 2048, (xd (ix2 r k) * w (ix2 k c) : EReal) : EReal) := by
  unfold yV
  rw [truncf_apply]
  refine Eq.trans (b := (∑ q : dot_S256x2048_S2048x512_S256x512_1_0_0_1_n_n.contr.Idx, (xd (dot_S256x2048_S2048x512_S256x512_1_0_0_1_n_n.lhsIdx (ix2 r c) q) * w (dot_S256x2048_S2048x512_S256x512_1_0_0_1_n_n.rhsIdx (ix2 r c) q) : EReal) : EReal)) (Ideal.matmul_constant_zero_apply _ none xd w (ix2 r c)) ?_
  refine Fintype.sum_equiv (contrEquiv1 dot_S256x2048_S2048x512_S256x512_1_0_0_1_n_n 2048 rfl rfl) _ _ fun q => ?_
  refine congrArg₂ (fun a b : EReal => a * b) (congrArg xd (funext fun a => Fin.ext ?_)) (congrArg w (funext fun a => Fin.ext ?_))
  · match a with
    | ⟨0, _⟩ => rfl
    | ⟨1, _⟩ => rfl
  · match a with
    | ⟨0, _⟩ => rfl
    | ⟨1, _⟩ => rfl

/-- The product's buffer on the parts passed. -/
theorem yI_apply (D : S256x2048.Idx → Elt Ideal .bf16) (W : S2048x8192.Idx → Elt Ideal .bf16) (Y) (r : Fin 256) (c : Fin 8192) : ∀ (n : ℕ) (h : n ≤ 16), c.val < 512 * n →
    yI D W Y n h (ix2 r c) = (∑ k : Fin 2048, (D (ix2 r k) * W (ix2 k c) : EReal) : EReal)
  | 0, _, hk => absurd hk (Nat.not_lt_zero _)
  | n + 1, h, hk => by
    unfold yI
    by_cases hb : c.val < 512 * n
    · rw [updR_off _ _ _ _ _ _ 1 (Or.inl hb)]
      exact yI_apply D W Y r c n _ hb
    · refine (updR_at _ _ _ _ _ (ix2 r ⟨c.val % 512, Nat.mod_lt _ (by decide)⟩ : S256x512.Idx) _ ?_).trans ?_
      · intro a
        match a with
        | ⟨0, _⟩ => show 0 + r.val = r.val; omega
        | ⟨1, _⟩ => show 512 * n + c.val % 512 = c.val; omega
      · rw [shapeCast_self, yV_apply]
        refine Finset.sum_congr rfl fun k _ => congrArg₂ (fun a b : EReal => a * b) (congrArg D (funext fun a => Fin.ext ?_)) (congrArg W (funext fun a => Fin.ext ?_))
        · match a with
          | ⟨0, _⟩ => show 0 + 1 * r.val = r.val; omega
          | ⟨1, _⟩ => show 0 + 1 * k.val = k.val; omega
        · match a with
          | ⟨0, _⟩ => show 0 + 1 * k.val = k.val; omega
          | ⟨1, _⟩ => show 512 * n + 1 * (c.val % 512) = c.val; omega

/-- A tile's product at a place. -/
theorem yT_apply (D : S256x2048.Idx → Elt Ideal .bf16) (W : S2048x8192.Idx → Elt Ideal .bf16) (r : Fin 256) (c : Fin 8192) : yT D W (ix2 r c) = (∑ k : Fin 2048, (D (ix2 r k) * W (ix2 k c) : EReal) : EReal) :=
  yI_apply D W _ r c 16 le_rfl c.isLt

/-- The product of a row with a column of the weights: inlier part and outlier part. -/
def yF {m : ℕ} (X : (⟨2, ![m, 2048]⟩ : Shape).Idx → EReal) (I : Fin 15 → Fin 128 → BitVec 32) (O : Fin 128 → BitVec 32) (WS : S15x64.Idx → EReal) (WC : S1920x8192.Idx → EReal) (WO : S128x8192.Idx → EReal) (i : Fin m) (c : Fin 8192) : EReal :=
  (∑ k : Fin 1920, (cdF (inF X I i (bk k k.isLt)) (inF X I i (bk k k.isLt) (pl k)) * scF (inF X I i (bk k k.isLt))) * (WC (ix2 k c) * WS (ix2 (bk k k.isLt) ⟨c.val / 128, by omega⟩)))
    + ∑ o : Fin 128, X (ix2 i (colW (O o))) * WO (ix2 o c)

/-- A tile's product, its columns split into inlier and outlier columns. -/
theorem yT_split (hI : ∀ b l, 128 * b.val ≤ (wI I b l).toNat ∧ (wI I b l).toNat < 128 * b.val + 256) (hX : ∀ i, mag (X i) ≤ big) (hO : ∀ o, (wO O o).toNat < 2048) (r : Fin 256) (c : Fin 8192) :
    yT (dT X I O) (wT WS WC WO) (ix2 r c) = yF X (wI I) (wO O) WS WC WO r c := by
  rw [yT_apply]
  refine (Fin.sum_univ_add (M := EReal) (a := 1920) (b := 128) (fun k : Fin 2048 => (dT X I O (ix2 r k) * wT WS WC WO (ix2 k c) : EReal))).trans ?_
  unfold yF
  refine congrArg₂ (fun a b : EReal => a + b) (Finset.sum_congr rfl fun k _ => ?_) (Finset.sum_congr rfl fun o _ => ?_)
  · exact congrArg₂ (fun a b : EReal => a * b) (dT_in X I O hI hX r (Fin.castAdd 128 k) k.isLt) (wT_apply_in WS WC WO (Fin.castAdd 128 k) k.isLt c)
  · exact congrArg₂ (fun a b : EReal => a * b) (dT_out X I O hO r o) (wT_apply_out WS WC WO o c)

end Cert.KernelIdeal.Own
-- ==== Proof.KerValue.lean ====
module

public import proofs.«01_k».proof.Proof.Launch
public import proofs.«01_k».proof.Proof.TileValue
public import Idealize.ShloMosaic.Lib.Claim
public import Idealize.ShloMosaic.Lib.Pipeline.ValueKit
public import Idealize.ShloMosaic.Lib.StableHlo.ReadAt

/-! The kernel's results, read at an element. -/

@[expose] public section

set_option maxRecDepth 10000

noncomputable section

namespace Cert.KernelIdeal.Own

open Cert.KernelIdeal Cert.KernelIdeal.Gen Cert.Num
open Idealize.ShloMosaic hiding ix1 ix2 ix3 eq_ix2 mulf_apply
open Idealize.ShloMosaic.ValueIdx Idealize.ShloMosaic.TcCoe
open scoped BigOperators

/-- The tile of a row. -/
def tl (i : Fin 16384) : Fin 64 := ⟨i.val / 256, by omega⟩
/-- The row within its tile. -/
def rw' (i : Fin 16384) : Fin 256 := ⟨i.val % 256, by omega⟩

/-- A tile's inputs. -/
theorem xt_apply (K : Ctx Ideal) (i : Fin 16384) (j : Fin 2048) : K.xt (tl i) (ix2 (rw' i) j) = K.X (ix2 i j) := by
  unfold Ctx.xt
  refine congrArg K.X (funext fun a => Fin.ext ?_)
  match a with
  | ⟨0, _⟩ => show 256 * (i.val / 256) + 1 * (i.val % 256) = i.val; omega
  | ⟨1, _⟩ => show 0 + 1 * j.val = j.val; omega

/-- A tile's blocks. -/
theorem inF_xt (K : Ctx Ideal) (I : Fin 15 → Fin 128 → BitVec 32) (i : Fin 16384) (b : Fin 15) : inF (K.xt (tl i)) I (rw' i) b = inF K.X I i b :=
  funext fun _ => xt_apply K i _

/-- An element's place in the codes. -/
theorem place_c (i : Fin 16384) (k : Fin 1920) : (ix2 i k : S16384x1920.Idx) = (rTc (tl i)).emb (ix2 (rw' i) k) := by
  refine funext fun a => Fin.ext ?_
  match a with
  | ⟨0, _⟩ => show i.val = 256 * (i.val / 256) + 1 * (i.val % 256); omega
  | ⟨1, _⟩ => show k.val = 0 + 1 * k.val; omega
/-- An element's place in the scales. -/
theorem place_s (i : Fin 16384) (k : Fin 15) : (ix2 i k : S16384x15.Idx) = (rTs (tl i)).emb (ix2 (rw' i) k) := by
  refine funext fun a => Fin.ext ?_
  match a with
  | ⟨0, _⟩ => show i.val = 256 * (i.val / 256) + 1 * (i.val % 256); omega
  | ⟨1, _⟩ => show k.val = 0 + 1 * k.val; omega
/-- An element's place in the product. -/
theorem place_y (i : Fin 16384) (k : Fin 8192) : (ix2 i k : S16384x8192.Idx) = (rTy (tl i)).emb (ix2 (rw' i) k) := by
  refine funext fun a => Fin.ext ?_
  match a with
  | ⟨0, _⟩ => show i.val = 256 * (i.val / 256) + 1 * (i.val % 256); omega
  | ⟨1, _⟩ => show k.val = 0 + 1 * k.val; omega

section
variable (K : Ctx Ideal)
  (hI : ∀ b l, 128 * b.val ≤ (wI K.I b l).toNat ∧ (wI K.I b l).toNat < 128 * b.val + 256) (hX : ∀ i, mag (K.X i) ≤ big)
include hI hX

/-- The codes at an element. -/
theorem codes_apply (i : Fin 16384) (k : Fin 1920) :
    asm rTc tlC hrC K.ct (ix2 i k) = cdF (inF K.X (wI K.I) i (bk k k.isLt)) (inF K.X (wI K.I) i (bk k k.isLt) (pl k)) := by
  rw [place_c, asm_emb]
  unfold Ctx.ct
  rw [cT_apply (K.xt (tl i)) _ hI (fun x => hX _), inF_xt]

/-- The scales at an element. -/
theorem scales_apply (i : Fin 16384) (b : Fin 15) : asm rTs tlS hrS K.st (ix2 i b) = scF (inF K.X (wI K.I) i b) := by
  rw [place_s, asm_emb]
  unfold Ctx.st
  rw [sT_apply (K.xt (tl i)) _ hI (fun x => hX _), inF_xt]

/-- The product at an element. -/
theorem product_apply (WS : S15x64.Idx → Elt Ideal .f32) (WC : S1920x8192.Idx → Elt Ideal .fp8e4m3) (WO : S128x8192.Idx → Elt Ideal .bf16) (hW : K.W = wT WS WC WO)
    (hO : ∀ o, (wO K.O o).toNat < 2048) (i : Fin 16384) (c : Fin 8192) :
    asm rTy tlY hrY K.yt (ix2 i c) = yF K.X (wI K.I) (wO K.O) WS WC WO i c := by
  rw [place_y, asm_emb]
  unfold Ctx.yt Ctx.dt
  rw [hW, yT_split (K.xt (tl i)) K.I K.O WS WC WO hI (fun x => hX _) hO]
  unfold yF
  simp only [inF_xt, xt_apply]
end

section
variable (m : (l : Loc nD τ sig) → Buf (Elt Ideal) l) (c : Dev nD)

/-- The inputs as rows. -/
theorem V_v2 : V m c main_v2 = shapeCast S16384x2048 (m ((c.tc : Thread nD τ).loc main_arg0)) shapeCasts_S2x8192x2048_S16384x2048 := by
  simp only [V]
  after_reads_simp
  rfl
/-- The outlier indices as a row. -/
theorem V_v1 : V m c main_v1 = shapeCast S1x128 (m ((c.tc : Thread nD τ).loc main_arg1)) shapeCasts_S128_S1x128 := by
  simp only [V]
  after_reads_simp
  rfl
/-- The inlier indices as blocks. -/
theorem V_v0 : V m c main_v0 = shapeCast S15x128 (m ((c.tc : Thread nD τ).loc main_arg2)) shapeCasts_S1920_S15x128 := by
  simp only [V]
  after_reads_simp
  rfl

/-- Window 0 reads its whole array. -/
theorem rd_0 (f : S15x128.Idx → Elt Ideal .i32) : ((cfg0.win 0).blk t0).view.read (Elt Ideal) f = f := by
  funext j
  refine congrArg f (funext fun a => Fin.ext ?_)
  exact Pipeline.Window.rect_emb_val_of_index_zero (cfg0.win 0) t0 a (by fin_cases a <;> rfl) j
/-- Window 0's block is its array. -/
theorem blk_0 : iblk m c 0 t0 = V m c main_v0 := rd_0 _
/-- Window 1 reads its whole array. -/
theorem rd_1 (f : S1x128.Idx → Elt Ideal .i32) : ((cfg0.win 1).blk t0).view.read (Elt Ideal) f = f := by
  funext j
  refine congrArg f (funext fun a => Fin.ext ?_)
  exact Pipeline.Window.rect_emb_val_of_index_zero (cfg0.win 1) t0 a (by fin_cases a <;> rfl) j
/-- Window 1's block is its array. -/
theorem blk_1 : iblk m c 1 t0 = V m c main_v1 := rd_1 _
/-- Window 2 reads its whole array. -/
theorem rd_2 (f : S15x64.Idx → Elt Ideal .f32) : ((cfg0.win 2).blk t0).view.read (Elt Ideal) f = f := by
  funext j
  refine congrArg f (funext fun a => Fin.ext ?_)
  exact Pipeline.Window.rect_emb_val_of_index_zero (cfg0.win 2) t0 a (by fin_cases a <;> rfl) j
/-- Window 2's block is its array. -/
theorem blk_2 : iblk m c 2 t0 = V m c main_arg5 := rd_2 _

/-- The inlier index of a place. -/
theorem I_apply (b : Fin 15) (l : Fin 128) : wI (K0 m c).I b l = m ((c.tc : Thread nD τ).loc main_arg2) (ix1 (⟨128 * b.val + l.val, by omega⟩ : Fin 1920)) := by
  show iblk m c 0 t0 (ix2 b l) = _
  rw [blk_0, V_v0]
  refine shapeCast_apply (s := S1920) _ _ _ (ix1 (⟨128 * b.val + l.val, by omega⟩ : Fin 1920)) ?_
  rw [Shape.rowMajor_val_one, Shape.rowMajor_val_two]
  show 128 * b.val + l.val = b.val * 128 + l.val
  omega
/-- The outlier index of a place. -/
theorem O_apply (o : Fin 128) : wO (K0 m c).O o = m ((c.tc : Thread nD τ).loc main_arg1) (ix1 o) := by
  show iblk m c 1 t0 (ix2 0 o) = _
  rw [blk_1, V_v1]
  refine shapeCast_apply (s := S128) _ _ _ (ix1 o) ?_
  rw [Shape.rowMajor_val_one, Shape.rowMajor_val_two]
  show o.val = 0 * 128 + o.val
  omega
end

end Cert.KernelIdeal.Own
-- ==== Proof.RefHost.lean ====
module

public import proofs.«01_k».proof.Proof.Gen.ReferenceIdeal.Frame
public import proofs.«01_k».proof.Proof.Num
public import Idealize.ShloMosaic.Lib.Claim
public import Idealize.ShloMosaic.Lib.StableHlo.ReadAt

/-! The arrays the reference's host operations compute, named. -/

@[expose] public section

set_option maxRecDepth 10000

noncomputable section

namespace Cert.ReferenceIdeal.Own

open Cert.ReferenceIdeal Cert.ReferenceIdeal.Gen
open Idealize.ShloMosaic Idealize.ShloMosaic.TcCoe

/-- The inputs as rows. -/
def xR (x : FVec Ideal S2x8192x2048 .bf16) : FVec Ideal S16384x2048 .bf16 := shapeCast S16384x2048 x shapeCasts_S2x8192x2048_S16384x2048
/-- The outlier columns of the inputs. -/
def xO (x : FVec Ideal S16384x2048 .bf16) (i : IVec S128 32) : FVec Ideal S16384x128 .bf16 :=
  Host.gather gather_S16384x2048_S128x1_S16384x128_0_1_n_n_1_1_163841 x (broadcastInDim S128x1 ![0] bcast_S128_S128x1_0 i)
/-- The inlier columns of the inputs. -/
def xI (x : FVec Ideal S16384x2048 .bf16) (i : IVec S1920 32) : FVec Ideal S16384x1920 .bf16 :=
  Host.gather gather_S16384x2048_S1920x1_S16384x1920_0_1_n_n_1_1_163841 x (broadcastInDim S1920x1 ![0] bcast_S1920_S1920x1_0 i)
/-- The largest magnitude of each block of a row. -/
def aR (g : FVec Ideal S16384x1920 .f32) : FVec Ideal S16384x15 .f32 :=
  Host.reduce FloatOps.maximumf (Host.absf (shapeCast S16384x15x128 g shapeCasts_S16384x1920_S16384x15x128)) (constant S_ .f32 0xFF800000#32) reducesTo_S16384x15x128_S16384x15_d2 h_S_
/-- The number each block's scale is to exceed. -/
def vR (a : FVec Ideal S16384x15 .f32) : FVec Ideal S16384x15 .f32 :=
  mulf a (broadcastInDim S16384x15 ![] bcast_S_S16384x15 (constant S_ .f32 0x3B124925#32))
/-- The powers of two. -/
def pR : FVec Ideal S254 .f32 :=
  Host.powf (broadcastInDim S254 ![] bcast_S_S254 (constant S_ .f32 0x40000000#32)) (sitofp .f32 (addi (broadcastInDim S254 ![] bcast_S_S254 (constantI S_ 32 4294967170#32)) (iotaInDim S254 32 0)))
/-- The powers above each block's number, the others replaced by infinity. -/
def cR (v : FVec Ideal S16384x15 .f32) : FVec Ideal S16384x15x254 .f32 :=
  select (cmpf .ogt (broadcastInDim S16384x15x254 ![0, 1, 2] bcast_S1x1x254_S16384x15x254_0_1_2 (broadcastInDim S1x1x254 ![2] bcast_S254_S1x1x254_2 pR)) (broadcastInDim S16384x15x254 ![0, 1, 2] bcast_S16384x15x1_S16384x15x254_0_1_2 (broadcastInDim S16384x15x1 ![0, 1] bcast_S16384x15_S16384x15x1_0_1 v)))
    (broadcastInDim S16384x15x254 ![2] bcast_S254_S16384x15x254_2 pR) (broadcastInDim S16384x15x254 ![] bcast_S_S16384x15x254 (constant S_ .f32 0x7F800000#32))
/-- The smallest of those. -/
def bR (v : FVec Ideal S16384x15 .f32) : FVec Ideal S16384x15 .f32 :=
  Host.reduce FloatOps.minimumf (cR v) (constant S_ .f32 0x7F800000#32) reducesTo_S16384x15x254_S16384x15_d2 h_S_
/-- The scales. -/
def sR (a : FVec Ideal S16384x15 .f32) : FVec Ideal S16384x15 .f32 :=
  select (cmpf .oeq a (broadcastInDim S16384x15 ![] bcast_S_S16384x15 (constant S_ .f32 0x00000000#32))) (broadcastInDim S16384x15 ![] bcast_S_S16384x15 (constant S_ .f32 0x3F800000#32)) (bR (vR a))
/-- Each scale repeated over its block. -/
def sW (s : FVec Ideal S16384x15 .f32) : FVec Ideal S16384x1920 .f32 :=
  shapeCast S16384x1920 (broadcastInDim S16384x15x128 ![0, 1] bcast_S16384x15_S16384x15x128_0_1 s) shapeCasts_S16384x15x128_S16384x1920
/-- Each weight scale repeated over its block. -/
def wW (w : FVec Ideal S15x64 .f32) : FVec Ideal S1920x8192 .f32 :=
  shapeCast S1920x8192 (broadcastInDim S1920x64x128 ![0, 1] bcast_S1920x64_S1920x64x128_0_1 (shapeCast S1920x64 (broadcastInDim S15x128x64 ![0, 2] bcast_S15x64_S15x128x64_0_2 w) shapeCasts_S15x128x64_S1920x64)) shapeCasts_S1920x64x128_S1920x8192

variable (m : (l : Loc nD τ sig) → Buf (Elt Ideal) l) (c : Dev nD)

/-- The first argument at launch. -/
abbrev a0 : FVec Ideal S2x8192x2048 .bf16 := m ((c.tc : Thread nD τ).loc main_arg0)
/-- The second argument at launch. -/
abbrev a1 : IVec S128 32 := m ((c.tc : Thread nD τ).loc main_arg1)
/-- The third argument at launch. -/
abbrev a2 : IVec S1920 32 := m ((c.tc : Thread nD τ).loc main_arg2)
/-- The sixth argument at launch. -/
abbrev a5 : FVec Ideal S15x64 .f32 := m ((c.tc : Thread nD τ).loc main_arg5)

/-- The outlier columns. -/
theorem V_v1 : V m c main_v1 = xO (xR (a0 m c)) (a1 m c) := by
  simp only [V, List.flatten_cons, List.flatten_nil, List.append_nil]
  after_reads_simp
  try simp -implicitDefEqProofs only [StableHlo.TRef.toBuf, StableHlo.TRef.ofBuf, cast_cast, cast_eq, id_eq]
  rfl
/-- The inlier columns. -/
theorem V_v3 : V m c main_v3 = extf .f32 (xI (xR (a0 m c)) (a2 m c)) bitsLt_bf16_f32 := by
  simp only [V, List.flatten_cons, List.flatten_nil, List.append_nil]
  after_reads_simp
  try simp -implicitDefEqProofs only [StableHlo.TRef.toBuf, StableHlo.TRef.ofBuf, cast_cast, cast_eq, id_eq]
  rfl
/-- The largest magnitudes. -/
theorem V_v6 : V m c main_v6 = aR (extf .f32 (xI (xR (a0 m c)) (a2 m c)) bitsLt_bf16_f32) := by
  simp only [V, List.flatten_cons, List.flatten_nil, List.append_nil]
  after_reads_simp
  try simp -implicitDefEqProofs only [StableHlo.TRef.toBuf, StableHlo.TRef.ofBuf, cast_cast, cast_eq, id_eq]
  rfl
/-- The powers of two. -/
theorem V_v14 : V m c main_v14 = pR := by
  simp only [V, List.flatten_cons, List.flatten_nil, List.append_nil]
  after_reads_simp
  try simp -implicitDefEqProofs only [StableHlo.TRef.toBuf, StableHlo.TRef.ofBuf, cast_cast, cast_eq, id_eq]
  rfl
/-- The scales. -/
theorem V_v24 : V m c main_v24 = sR (aR (extf .f32 (xI (xR (a0 m c)) (a2 m c)) bitsLt_bf16_f32)) := by
  simp only [V, List.flatten_cons, List.flatten_nil, List.append_nil]
  after_reads_simp
  try simp -implicitDefEqProofs only [StableHlo.TRef.toBuf, StableHlo.TRef.ofBuf, cast_cast, cast_eq, id_eq]
  rfl
/-- The scales repeated. -/
theorem V_v26 : V m c main_v26 = sW (sR (aR (extf .f32 (xI (xR (a0 m c)) (a2 m c)) bitsLt_bf16_f32))) := by
  simp only [V, List.flatten_cons, List.flatten_nil, List.append_nil]
  after_reads_simp
  try simp -implicitDefEqProofs only [StableHlo.TRef.toBuf, StableHlo.TRef.ofBuf, cast_cast, cast_eq, id_eq]
  rfl
/-- The weight scales repeated. -/
theorem V_v30 : V m c main_v30 = wW (a5 m c) := by
  simp only [V, List.flatten_cons, List.flatten_nil, List.append_nil]
  after_reads_simp
  try simp -implicitDefEqProofs only [StableHlo.TRef.toBuf, StableHlo.TRef.ofBuf, cast_cast, cast_eq, id_eq]
  rfl

end Cert.ReferenceIdeal.Own
-- ==== Proof.RefScale.lean ====
module

public import proofs.«01_k».proof.Proof.RefHost
public import proofs.«01_k».proof.Proof.TileValue

/-! The reference's host arrays, read at an index. -/

@[expose] public section

set_option maxRecDepth 10000

noncomputable section

namespace Cert.ReferenceIdeal.Own

open Cert.ReferenceIdeal Cert.ReferenceIdeal.Gen Cert.Num
open Cert.KernelIdeal.Own (colW inF yF bk pl)
open Idealize.ShloMosaic hiding ix1 ix2 ix3 eq_ix2 mulf_apply
open Idealize.ShloMosaic.ValueIdx Idealize.ShloMosaic.TcCoe
open scoped BigOperators

/-- The dimension numbers of a gather of columns. -/
abbrev colDims (N C B : Nat) (wf : GatherDims.WF ⟨2, ![N, C]⟩ ⟨2, ![B, 1]⟩ ⟨2, ![N, B]⟩ [0] [1] [] [1] [] 1 ![N, 1]) :
    GatherDims ⟨2, ![N, C]⟩ ⟨2, ![B, 1]⟩ ⟨2, ![N, B]⟩ where
  offsetDims := [0]
  collapsedSliceDims := [1]
  operandBatchingDims := []
  startIndicesBatchingDims := []
  startIndexMap := [1]
  indexVectorDim := 1
  sliceSizes := ![N, 1]
  wf := wf

/-- A gather of columns reads, in row `i` of column `j`, the operand's row `i` at the start index of `j`, clamped. -/
theorem gather_cols_apply {α : Type} {N C B w : Nat} (hC : 0 < C)
    (wf : GatherDims.WF ⟨2, ![N, C]⟩ ⟨2, ![B, 1]⟩ ⟨2, ![N, B]⟩ [0] [1] [] [1] [] 1 ![N, 1])
    (x : (⟨2, ![N, C]⟩ : Shape).Idx → α) (idx : IVec ⟨2, ![B, 1]⟩ w) (i : Fin N) (j : Fin B) :
    Host.gather (colDims N C B wf) x idx (ix2 i j)
      = x (ix2 i ⟨min (idx (ix2 j 0)).toInt.toNat (C - 1), by omega⟩) := by
  unfold Host.gather
  congr 1
  funext a
  refine Fin.ext ?_
  show (colDims N C B wf).start (ix2 i j) idx a + (colDims N C B wf).batchCoord (ix2 i j) a
      + (colDims N C B wf).offCoord (ix2 i j) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ (fun h => by simp at h)]
    unfold GatherDims.start
    rw [dif_neg (fun h => by simp at h)]
    simp only [Nat.zero_add]
    unfold GatherDims.offCoord
    rw [dif_pos ((GatherDims.mem_sKept _ _).mpr ⟨fun h => by simp at h, fun h => by simp at h⟩)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims N C B wf).startIndexMap from List.mem_singleton.mpr rfl)]
    have hsi : (colDims N C B wf).siIdx (ix2 i j) ⟨List.idxOf (1 : Fin 2) (colDims N C B wf).startIndexMap,
        List.idxOf_lt_length_iff.2 (List.mem_singleton.mpr rfl)⟩ = ix2 j 0 := by
      funext b; refine Fin.ext ?_
      match b with
      | ⟨0, _⟩ => rfl
      | ⟨1, _⟩ => rfl
    rw [hsi]
    rfl

/-- A word below 2048 read signed and clamped is the column it names. -/
theorem clamp_col (w : BitVec 32) (hw : w.toNat < 2048) : min w.toInt.toNat 2047 = w.toNat % 2048 := by
  rw [BitVec.toInt_eq_toNat_of_lt (by omega)]; simp; omega

/-- The outlier columns read the inputs at the indices. -/
theorem xO_apply (x : FVec Ideal S16384x2048 .bf16) (idx : IVec S128 32) (i : Fin 16384) (j : Fin 128) (hw : (idx (ix1 j)).toNat < 2048) :
    xO x idx (ix2 i j) = x (ix2 i (colW (idx (ix1 j)))) := by
  unfold xO
  refine (gather_cols_apply (by decide) _ x _ i j).trans ?_
  have h : broadcastInDim S128x1 ![0] bcast_S128_S128x1_0 idx (ix2 j 0) = idx (ix1 j) :=
    broadcastInDim_apply _ _ _ _ _ (fun a => by fin_cases a; rfl)
  refine congrArg (fun q => x (ix2 i q)) (Fin.ext ?_)
  show min _ 2047 = _
  rw [h]; exact clamp_col _ hw

/-- The inlier columns read the inputs at the indices. -/
theorem xI_apply (x : FVec Ideal S16384x2048 .bf16) (idx : IVec S1920 32) (i : Fin 16384) (j : Fin 1920) (hw : (idx (ix1 j)).toNat < 2048) :
    xI x idx (ix2 i j) = x (ix2 i (colW (idx (ix1 j)))) := by
  unfold xI
  refine (gather_cols_apply (by decide) _ x _ i j).trans ?_
  have h : broadcastInDim S1920x1 ![0] bcast_S1920_S1920x1_0 idx (ix2 j 0) = idx (ix1 j) :=
    broadcastInDim_apply _ _ _ _ _ (fun a => by fin_cases a; rfl)
  refine congrArg (fun q => x (ix2 i q)) (Fin.ext ?_)
  show min _ 2047 = _
  rw [h]; exact clamp_col _ hw

/-- The column of place `l` of block `b`. -/
def col (b : Fin 15) (l : Fin 128) : Fin 1920 := ⟨128 * b.val + l.val, by omega⟩

/-- Block `b` of row `i`. -/
def blkF (g : S16384x1920.Idx → EReal) (i : Fin 16384) (b : Fin 15) : Fin 128 → EReal := fun l => g (ix2 i (col b l))

/-- A row seen as blocks. -/
theorem blocks_apply (g : FVec Ideal S16384x1920 .f32) (i : Fin 16384) (b : Fin 15) (l : Fin 128) :
    shapeCast S16384x15x128 g shapeCasts_S16384x1920_S16384x15x128 (ix3 i b l) = g (ix2 i (col b l)) := by
  refine shapeCast_apply g _ _ _ ?_
  rw [Shape.rowMajor_val_two, Shape.rowMajor_val_three]
  show i.val * 1920 + (128 * b.val + l.val) = (i.val * 15 + b.val) * 128 + l.val
  omega

/-- The largest magnitudes. -/
theorem aR_apply (g : FVec Ideal S16384x1920 .f32) (i : Fin 16384) (b : Fin 15) : aR g (ix2 i b) = amax (blkF g i b) := by
  unfold aR
  refine (Host.reduce_eq_fold_single FloatOps.maximumf _ _ _ (show S16384x15x128.Reduces [2] S16384x15 by decide) _ _).trans ?_
  unfold amax
  have h0 : (constant S_ .f32 0xFF800000#32 : FVec Ideal S_ .f32) (Shape.Idx.first h_S_) = (⊥ : EReal) := by
    show Ideal.ofBits .f32 0xFF800000#32 = ⊥
    simp [Ideal.ofBits, Ideal.ieee]
  rw [h0]
  refine congrArg (fun f => Finset.fold max (⊥ : EReal) f Finset.univ) (funext fun l => ?_)
  show FloatOps.absf (shapeCast S16384x15x128 g _ _) = _
  have hl : (show S16384x15x128.Reduces [2] S16384x15 by decide).lift (ix2 i b) l = ix3 i b l := by
    funext a; fin_cases a <;> rfl
  rw [hl]
  exact congrArg mag (blocks_apply g i b l)

/-- The powers of two. -/
theorem pR_apply (j : Fin 254) : pR (ix1 j) = (((2 : ℝ) ^ ((j.val : ℤ) - 126) : ℝ) : EReal) := by
  have hw : ∀ j : Fin 254, (IntOp.addi 4294967170#32 (BitVec.ofNat 32 j.val)).toInt = (j.val : ℤ) - 126 := by decide +kernel
  have h2 : Ideal.ofBits .f32 0x40000000#32 = ((2 : ℝ) : EReal) := by
    have h := pw_mid 128 (by omega) (by omega)
    rw [show ((128 : ℕ) : ℤ) - 127 = 1 from rfl, zpow_one] at h
    exact h
  show FloatOps.powf (Ideal.ofBits .f32 0x40000000#32) (FloatOps.sitofp .f32 (IntOp.addi 4294967170#32 (BitVec.ofNat 32 j.val)) : Ideal .f32) = _
  rw [h2]
  show Ideal.pow ((2 : ℝ) : EReal) (((IntOp.addi 4294967170#32 (BitVec.ofNat 32 j.val)).toInt : ℝ) : EReal) = _
  rw [hw j]
  exact congrArg Real.toEReal (Real.rpow_intCast 2 _)

/-- The powers above each block's number. -/
theorem cR_apply (v : FVec Ideal S16384x15 .f32) (i : Fin 16384) (b : Fin 15) (j : Fin 254) :
    cR v (ix3 i b j) = (if v (ix2 i b) < (((2 : ℝ) ^ ((j.val : ℤ) - 126) : ℝ) : EReal) then (((2 : ℝ) ^ ((j.val : ℤ) - 126) : ℝ) : EReal) else ⊤) := by
  have h1 : broadcastInDim S16384x15x254 ![0, 1, 2] bcast_S1x1x254_S16384x15x254_0_1_2 (broadcastInDim S1x1x254 ![2] bcast_S254_S1x1x254_2 pR) (ix3 i b j) = pR (ix1 j) :=
    (broadcastInDim_apply _ _ _ _ (ix3 0 0 j) (fun a => by fin_cases a <;> rfl)).trans (broadcastInDim_apply _ _ _ _ (ix1 j) (fun a => by fin_cases a; rfl))
  have h2 : broadcastInDim S16384x15x254 ![0, 1, 2] bcast_S16384x15x1_S16384x15x254_0_1_2 (broadcastInDim S16384x15x1 ![0, 1] bcast_S16384x15_S16384x15x1_0_1 v) (ix3 i b j) = v (ix2 i b) :=
    (broadcastInDim_apply _ _ _ _ (ix3 i b 0) (fun a => by fin_cases a <;> rfl)).trans (broadcastInDim_apply _ _ _ _ (ix2 i b) (fun a => by fin_cases a <;> rfl))
  have h3 : broadcastInDim S16384x15x254 ![2] bcast_S254_S16384x15x254_2 pR (ix3 i b j) = pR (ix1 j) :=
    broadcastInDim_apply _ _ _ _ (ix1 j) (fun a => by fin_cases a; rfl)
  have h4 : broadcastInDim S16384x15x254 ![] bcast_S_S16384x15x254 (constant S_ .f32 0x7F800000#32 : FVec Ideal S_ .f32) (ix3 i b j) = (⊤ : EReal) := by
    show Ideal.ofBits .f32 0x7F800000#32 = ⊤
    simp [Ideal.ofBits, Ideal.ieee]
  unfold cR
  rw [select_apply, cmpf_apply, h1, h2, h3, h4, pR_apply]
  generalize (((2 : ℝ) ^ ((j.val : ℤ) - 126) : ℝ) : EReal) = p
  show Scalar.select (BitVec.ofBool (decide (p > v (ix2 i b)))) _ _ = _
  by_cases h : v (ix2 i b) < p
  · rw [if_pos h, decide_eq_true (show p > v (ix2 i b) from h)]; rfl
  · rw [if_neg h, decide_eq_false (show ¬ p > v (ix2 i b) from h)]; rfl

/-- The smallest power above each block's number. -/
theorem bR_apply (v : FVec Ideal S16384x15 .f32) (i : Fin 16384) (b : Fin 15) : bR v (ix2 i b) = above (v (ix2 i b)) := by
  unfold bR
  refine (Host.reduce_eq_fold_single FloatOps.minimumf _ _ _ (show S16384x15x254.Reduces [2] S16384x15 by decide) _ _).trans ?_
  unfold above
  have h0 : (constant S_ .f32 0x7F800000#32 : FVec Ideal S_ .f32) (Shape.Idx.first h_S_) = (⊤ : EReal) := by
    show Ideal.ofBits .f32 0x7F800000#32 = ⊤
    simp [Ideal.ofBits, Ideal.ieee]
  rw [h0]
  refine congrArg (fun f => Finset.fold min (⊤ : EReal) f Finset.univ) (funext fun l => ?_)
  have hl : (show S16384x15x254.Reduces [2] S16384x15 by decide).lift (ix2 i b) l = ix3 i b l := by
    funext a; fin_cases a <;> rfl
  show cR v _ = _
  rw [hl]
  exact cR_apply v i b l

/-- The scales. -/
theorem sR_apply (g : FVec Ideal S16384x1920 .f32) (i : Fin 16384) (b : Fin 15) : sR (aR g) (ix2 i b) = scF (blkF g i b) := by
  have h0 : broadcastInDim S16384x15 ![] bcast_S_S16384x15 (constant S_ .f32 0x00000000#32 : FVec Ideal S_ .f32) (ix2 i b) = (0 : EReal) := by
    show Ideal.ofBits .f32 0x00000000#32 = 0
    simp [Ideal.ofBits, Ideal.ieee]
  have h1 : broadcastInDim S16384x15 ![] bcast_S_S16384x15 (constant S_ .f32 0x3F800000#32 : FVec Ideal S_ .f32) (ix2 i b) = (1 : EReal) := by
    show Ideal.ofBits .f32 0x3F800000#32 = 1
    exact Ideal.ofBits_one_f32
  have h2 : vR (aR g) (ix2 i b) = amax (blkF g i b) * fac := by
    unfold vR fac
    rw [mulf_apply, aR_apply]; rfl
  unfold sR
  rw [select_apply, cmpf_apply, h0, h1, bR_apply, h2, aR_apply]
  unfold scF
  show Scalar.select (BitVec.ofBool (decide (amax (blkF g i b) = 0))) _ _ = _
  by_cases h : amax (blkF g i b) = 0
  · rw [if_pos h, decide_eq_true h]; rfl
  · rw [if_neg h, decide_eq_false h]; rfl

/-- The scales repeated. -/
theorem sW_apply (s : FVec Ideal S16384x15 .f32) (i : Fin 16384) (k : Fin 1920) : sW s (ix2 i k) = s (ix2 i (bk k k.isLt)) := by
  unfold sW
  refine (shapeCast_apply _ _ _ (ix3 i (bk k k.isLt) (pl k)) ?_).trans (broadcastInDim_apply _ _ _ _ _ (fun a => by fin_cases a <;> rfl))
  rw [Shape.rowMajor_val_two, Shape.rowMajor_val_three]
  show (i.val * 15 + k.val / 128) * 128 + k.val % 128 = i.val * 1920 + k.val
  omega

/-- The weight scales repeated. -/
theorem wW_apply (w : FVec Ideal S15x64 .f32) (k : Fin 1920) (c : Fin 8192) : wW w (ix2 k c) = w (ix2 (bk k k.isLt) ⟨c.val / 128, by omega⟩) := by
  unfold wW
  refine (shapeCast_apply _ _ _ (ix3 k (⟨c.val / 128, by omega⟩ : Fin 64) (⟨c.val % 128, by omega⟩ : Fin 128)) ?_).trans ?_
  · rw [Shape.rowMajor_val_two, Shape.rowMajor_val_three]
    show (k.val * 64 + c.val / 128) * 128 + c.val % 128 = k.val * 8192 + c.val
    omega
  refine (broadcastInDim_apply _ _ _ _ (ix2 k (⟨c.val / 128, by omega⟩ : Fin 64)) (fun a => by fin_cases a <;> rfl)).trans ?_
  refine (shapeCast_apply _ _ _ (ix3 (bk k k.isLt) (pl k) (⟨c.val / 128, by omega⟩ : Fin 64)) ?_).trans ?_
  · rw [Shape.rowMajor_val_two, Shape.rowMajor_val_three]
    show (k.val / 128 * 128 + k.val % 128) * 64 + c.val / 128 = k.val * 64 + c.val / 128
    omega
  exact broadcastInDim_apply _ _ _ _ _ (fun a => by fin_cases a <;> rfl)

end Cert.ReferenceIdeal.Own
-- ==== Proof.RefKernel.lean ====
module

public import proofs.«01_k».proof.Proof.RefScale
public import Idealize.ShloMosaic.Lib.Pipeline.ValueKit

/-! The reference's product kernel: what it computes and what its run leaves. -/

@[expose] public section

set_option maxRecDepth 10000

noncomputable section

namespace Cert.ReferenceIdeal.Own

open Cert.ReferenceIdeal Cert.ReferenceIdeal.Gen Cert.Num
open Cert.KernelIdeal.Own (colW inF yF bk pl)
open Idealize.ShloMosaic hiding ix1 ix2 ix3 eq_ix2 mulf_apply
open Idealize.ShloMosaic.ValueIdx Idealize.ShloMosaic.TcCoe
open scoped BigOperators

/-- The codes at an element. -/
theorem pay2_apply (s x : Vec Ideal S16384x1920 .f32) (i : Fin 16384) (k : Fin 1920) :
    k0_pay2 s x (ix2 i k) = (min top8 (max bot8 (Ideal.div (x (ix2 i k)) (s (ix2 i k)))) : EReal) := by
  unfold k0_pay2 k0_pay1 top8 bot8
  rw [shapeCast_self, shapeCast_self]
  rfl

/-- The inliers' product at an element. -/
theorem dotI_apply (x : FVec Ideal S16384x1920 .bf16) (w : FVec Ideal S1920x8192 .bf16) (i : Fin 16384) (c : Fin 8192) :
    matmul dot_S16384x1920_S1920x8192_S16384x8192_1_0_0_1_n_n none x w (constant S16384x8192 .f32 0x00000000#32) (ix2 i c) = (∑ k : Fin 1920, (x (ix2 i k) * w (ix2 k c) : EReal) : EReal) := by
  refine Eq.trans (b := (∑ q : dot_S16384x1920_S1920x8192_S16384x8192_1_0_0_1_n_n.contr.Idx, (x (dot_S16384x1920_S1920x8192_S16384x8192_1_0_0_1_n_n.lhsIdx (ix2 i c) q) * w (dot_S16384x1920_S1920x8192_S16384x8192_1_0_0_1_n_n.rhsIdx (ix2 i c) q) : EReal) : EReal)) (Ideal.matmul_constant_zero_apply _ none x w (ix2 i c)) ?_
  refine Fintype.sum_equiv (contrEquiv1 dot_S16384x1920_S1920x8192_S16384x8192_1_0_0_1_n_n 1920 rfl rfl) _ _ fun q => ?_
  refine congrArg₂ (fun a b : EReal => a * b) (congrArg x (funext fun a => Fin.ext ?_)) (congrArg w (funext fun a => Fin.ext ?_))
  · match a with
    | ⟨0, _⟩ => rfl
    | ⟨1, _⟩ => rfl
  · match a with
    | ⟨0, _⟩ => rfl
    | ⟨1, _⟩ => rfl

/-- The outliers' product at an element. -/
theorem dotO_apply (x : FVec Ideal S16384x128 .bf16) (w : FVec Ideal S128x8192 .bf16) (i : Fin 16384) (c : Fin 8192) :
    matmul dot_S16384x128_S128x8192_S16384x8192_1_0_0_1_n_n none x w (constant S16384x8192 .f32 0x00000000#32) (ix2 i c) = (∑ k : Fin 128, (x (ix2 i k) * w (ix2 k c) : EReal) : EReal) := by
  refine Eq.trans (b := (∑ q : dot_S16384x128_S128x8192_S16384x8192_1_0_0_1_n_n.contr.Idx, (x (dot_S16384x128_S128x8192_S16384x8192_1_0_0_1_n_n.lhsIdx (ix2 i c) q) * w (dot_S16384x128_S128x8192_S16384x8192_1_0_0_1_n_n.rhsIdx (ix2 i c) q) : EReal) : EReal)) (Ideal.matmul_constant_zero_apply _ none x w (ix2 i c)) ?_
  refine Fintype.sum_equiv (contrEquiv1 dot_S16384x128_S128x8192_S16384x8192_1_0_0_1_n_n 128 rfl rfl) _ _ fun q => ?_
  refine congrArg₂ (fun a b : EReal => a * b) (congrArg x (funext fun a => Fin.ext ?_)) (congrArg w (funext fun a => Fin.ext ?_))
  · match a with
    | ⟨0, _⟩ => rfl
    | ⟨1, _⟩ => rfl
  · match a with
    | ⟨0, _⟩ => rfl
    | ⟨1, _⟩ => rfl

/-- The product at an element. -/
theorem pay3_apply (s x : Vec Ideal S16384x1920 .f32) (wc : Vec Ideal S1920x8192 .fp8e4m3) (ws : Vec Ideal S1920x8192 .f32) (xo : Vec Ideal S16384x128 .bf16) (wo : Vec Ideal S128x8192 .bf16) (i : Fin 16384) (c : Fin 8192) :
    k0_pay3 s x wc ws xo wo (ix2 i c) = ((∑ k : Fin 1920, ((min top8 (max bot8 (Ideal.div (x (ix2 i k)) (s (ix2 i k)))) * s (ix2 i k)) * (wc (ix2 k c) * ws (ix2 k c)) : EReal)) + ∑ o : Fin 128, (xo (ix2 i o) * wo (ix2 o c) : EReal) : EReal) := by
  unfold k0_pay3 k0_pay1
  simp only [shapeCast_self]
  rw [truncf_apply, addf_apply]
  refine congrArg₂ (fun a b : EReal => a + b) ?_ (dotO_apply _ _ i c)
  refine (dotI_apply _ _ i c).trans (Finset.sum_congr rfl fun k _ => ?_)
  rw [mulf_apply, mulf_apply]
  refine congrArg₂ (fun a b : EReal => a * b) (congrArg₂ (fun a b : EReal => a * b) (pay2_apply s x i k) rfl) rfl

/-- The one point. -/
def tR : Fin cfg0.N := ⟨0, by decide⟩

variable (m : (l : Loc nD τ sig) → Buf (Elt Ideal) l) (ρ : Dev nD → PrngReg) (c : Dev nD)

/-- Window 0 reads its whole array. -/
theorem rd_0 (f : S16384x128.Idx → Elt Ideal .bf16) : ((cfg0.win 0).blk tR).view.read (Elt Ideal) f = f := by
  funext j
  refine congrArg f (funext fun a => Fin.ext ?_)
  exact Pipeline.Window.rect_emb_val_of_index_zero (cfg0.win 0) tR a (by fin_cases a <;> rfl) j
/-- Window 0's block is its array. -/
theorem blk_0 : iblk m c 0 tR = V m c main_v1 := rd_0 _
/-- Window 1 reads its whole array. -/
theorem rd_1 (f : S16384x1920.Idx → Elt Ideal .f32) : ((cfg0.win 1).blk tR).view.read (Elt Ideal) f = f := by
  funext j
  refine congrArg f (funext fun a => Fin.ext ?_)
  exact Pipeline.Window.rect_emb_val_of_index_zero (cfg0.win 1) tR a (by fin_cases a <;> rfl) j
/-- Window 1's block is its array. -/
theorem blk_1 : iblk m c 1 tR = V m c main_v3 := rd_1 _
/-- Window 2 reads its whole array. -/
theorem rd_2 (f : S16384x1920.Idx → Elt Ideal .f32) : ((cfg0.win 2).blk tR).view.read (Elt Ideal) f = f := by
  funext j
  refine congrArg f (funext fun a => Fin.ext ?_)
  exact Pipeline.Window.rect_emb_val_of_index_zero (cfg0.win 2) tR a (by fin_cases a <;> rfl) j
/-- Window 2's block is its array. -/
theorem blk_2 : iblk m c 2 tR = V m c main_v26 := rd_2 _
/-- Window 3 reads its whole array. -/
theorem rd_3 (f : S128x8192.Idx → Elt Ideal .bf16) : ((cfg0.win 3).blk tR).view.read (Elt Ideal) f = f := by
  funext j
  refine congrArg f (funext fun a => Fin.ext ?_)
  exact Pipeline.Window.rect_emb_val_of_index_zero (cfg0.win 3) tR a (by fin_cases a <;> rfl) j
/-- Window 3's block is its array. -/
theorem blk_3 : iblk m c 3 tR = V m c main_arg3 := rd_3 _
/-- Window 4 reads its whole array. -/
theorem rd_4 (f : S1920x8192.Idx → Elt Ideal .fp8e4m3) : ((cfg0.win 4).blk tR).view.read (Elt Ideal) f = f := by
  funext j
  refine congrArg f (funext fun a => Fin.ext ?_)
  exact Pipeline.Window.rect_emb_val_of_index_zero (cfg0.win 4) tR a (by fin_cases a <;> rfl) j
/-- Window 4's block is its array. -/
theorem blk_4 : iblk m c 4 tR = V m c main_arg4 := rd_4 _
/-- Window 5 reads its whole array. -/
theorem rd_5 (f : S1920x8192.Idx → Elt Ideal .f32) : ((cfg0.win 5).blk tR).view.read (Elt Ideal) f = f := by
  funext j
  refine congrArg f (funext fun a => Fin.ext ?_)
  exact Pipeline.Window.rect_emb_val_of_index_zero (cfg0.win 5) tR a (by fin_cases a <;> rfl) j
/-- Window 5's block is its array. -/
theorem blk_5 : iblk m c 5 tR = V m c main_v30 := rd_5 _

/-- A whole load. -/
theorem two_zero : (![0, 0] : Fin 2 → ℕ) = fun _ => 0 := by funext a; fin_cases a <;> rfl

/-- The body's product, from its inputs. -/
theorem out_6 (x0 : Vec Ideal S16384x128 .bf16) (x1 x2 : Vec Ideal S16384x1920 .f32) (x3 : Vec Ideal S128x8192 .bf16) (x4 : Vec Ideal S1920x8192 .fp8e4m3) (x5 : Vec Ideal S1920x8192 .f32) :
    out0_6 x0 x1 x2 x3 x4 x5 = k0_pay3 x2 x1 x4 x5 x0 x3 := by
  unfold out0_6
  rw [View.canon_unit_zero two_zero, View.ld_unit_zero two_zero, View.ld_unit_zero two_zero, View.ld_unit_zero two_zero, View.ld_unit_zero two_zero, View.ld_unit_zero two_zero, View.ld_unit_zero two_zero]

/-- The body's codes, from its inputs. -/
theorem out_7 (x0 : Vec Ideal S16384x128 .bf16) (x1 x2 : Vec Ideal S16384x1920 .f32) (x3 : Vec Ideal S128x8192 .bf16) (x4 : Vec Ideal S1920x8192 .fp8e4m3) (x5 : Vec Ideal S1920x8192 .f32) :
    out0_7 x0 x1 x2 x3 x4 x5 = k0_pay2 x2 x1 := by
  unfold out0_7
  rw [View.canon_unit_zero two_zero, View.ld_unit_zero two_zero, View.ld_unit_zero two_zero]

/-- Window 6's array is what the one point leaves. -/
theorem last_6 (G : S16384x8192.Idx → Elt Ideal .bf16) (h : (dats m 0 c).after 6 tR = G) : (dats m 0 c).arrAt 6 cfg0.N = G := by
  refine (dats m 0 c).arrAt_eq_of_after_last 6 tR (by decide +kernel) G fun j => ?_
  rw [h]
  exact congrArg G (funext fun a => Fin.ext rfl)

/-- Window 7's array is what the one point leaves. -/
theorem last_7 (G : S16384x1920.Idx → Elt Ideal .fp8e4m3) (h : (dats m 0 c).after 7 tR = G) : (dats m 0 c).arrAt 7 cfg0.N = G := by
  refine (dats m 0 c).arrAt_eq_of_after_last 7 tR (by decide +kernel) G fun j => ?_
  rw [h]
  exact congrArg G (funext fun a => Fin.ext rfl)

/-- The product the run leaves. -/
theorem arr_6 : (dats m 0 c).arrAt 6 cfg0.N = k0_pay3 (V m c main_v26) (V m c main_v3) (V m c main_arg4) (V m c main_v30) (V m c main_v1) (V m c main_arg3) := by
  refine last_6 m c _ ((after0_6 m c tR).trans ((out_6 _ _ _ _ _ _).trans ?_))
  rw [blk_0, blk_1, blk_2, blk_3, blk_4, blk_5]

/-- The codes the run leaves. -/
theorem arr_7 : (dats m 0 c).arrAt 7 cfg0.N = k0_pay2 (V m c main_v26) (V m c main_v3) := by
  refine last_7 m c _ ((after0_7 m c tR).trans ((out_7 _ _ _ _ _ _).trans ?_))
  rw [blk_1, blk_2]

end Cert.ReferenceIdeal.Own
-- ==== Proof.RefValue.lean ====
module

public import proofs.«01_k».proof.Proof.RefKernel

/-! The reference's results, read at an element, and its run. -/

@[expose] public section

set_option maxRecDepth 10000

noncomputable section

namespace Cert.ReferenceIdeal.Own

open Cert.ReferenceIdeal Cert.ReferenceIdeal.Gen Cert.Num
open Cert.KernelIdeal.Own (colW inF yF bk pl)
open Idealize.ShloMosaic hiding ix1 ix2 ix3 eq_ix2 mulf_apply
open Idealize.ShloMosaic.ValueIdx Idealize.ShloMosaic.TcCoe
open Idealize.SL.Sem
open scoped BigOperators

/-- The inlier indices by block and place. -/
def byBlock (i : IVec S1920 32) : Fin 15 → Fin 128 → BitVec 32 := fun b l => i (ix1 (col b l))
/-- The outlier indices by place. -/
def byPlace (o : IVec S128 32) : Fin 128 → BitVec 32 := fun j => o (ix1 j)

/-- A column is its block's place. -/
theorem col_bk (k : Fin 1920) : col (bk k k.isLt) (pl k) = k := Fin.ext (by show 128 * (k.val / 128) + k.val % 128 = k.val; omega)

/-- The gathered inliers. -/
abbrev gR (X : FVec Ideal S16384x2048 .bf16) (i : IVec S1920 32) : FVec Ideal S16384x1920 .f32 := extf .f32 (xI X i) bitsLt_bf16_f32

section
variable (X : FVec Ideal S16384x2048 .bf16) (i : IVec S1920 32) (hi : ∀ j : Fin 1920, (i (ix1 j)).toNat < 2048)
include hi

/-- A row's block of gathered inliers. -/
theorem blk_gR (r : Fin 16384) (b : Fin 15) : blkF (gR X i) r b = inF X (byBlock i) r b :=
  funext fun l => xI_apply X i r (col b l) (hi _)

/-- A gathered inlier. -/
theorem gR_apply (r : Fin 16384) (k : Fin 1920) : gR X i (ix2 r k) = inF X (byBlock i) r (bk k k.isLt) (pl k) := by
  rw [← blk_gR X i hi]
  exact congrArg (fun q => gR X i (ix2 r q)) (col_bk k).symm

/-- The reference's scales. -/
theorem scales_at (r : Fin 16384) (b : Fin 15) : sR (aR (gR X i)) (ix2 r b) = scF (inF X (byBlock i) r b) := by
  rw [sR_apply, blk_gR X i hi]

/-- The scales repeated. -/
theorem wide_at (r : Fin 16384) (k : Fin 1920) : sW (sR (aR (gR X i))) (ix2 r k) = scF (inF X (byBlock i) r (bk k k.isLt)) := by
  rw [sW_apply, scales_at X i hi]

/-- The reference's codes. -/
theorem codes_at (r : Fin 16384) (k : Fin 1920) :
    k0_pay2 (F := Ideal) (sW (sR (aR (gR X i)))) (gR X i) (ix2 r k) = cdF (inF X (byBlock i) r (bk k k.isLt)) (inF X (byBlock i) r (bk k k.isLt) (pl k)) := by
  rw [pay2_apply, wide_at X i hi, gR_apply X i hi]
  rfl

/-- The reference's product. -/
theorem product_at (o : IVec S128 32) (ho : ∀ j : Fin 128, (o (ix1 j)).toNat < 2048) (wo : FVec Ideal S128x8192 .bf16) (wc : FVec Ideal S1920x8192 .fp8e4m3) (ws : FVec Ideal S15x64 .f32)
    (r : Fin 16384) (c : Fin 8192) :
    k0_pay3 (F := Ideal) (sW (sR (aR (gR X i)))) (gR X i) wc (wW ws) (xO X o) wo (ix2 r c) = yF X (byBlock i) (byPlace o) ws wc wo r c := by
  rw [pay3_apply]
  unfold yF
  refine congrArg₂ (fun a b : EReal => a + b) (Finset.sum_congr rfl fun k _ => ?_) (Finset.sum_congr rfl fun j _ => ?_)
  · rw [wide_at X i hi, gR_apply X i hi, wW_apply]
    rfl
  · rw [xO_apply X o r j (ho j)]
    rfl
end

variable (m : (l : Loc nD τ sig) → Buf (Elt Ideal) l) (ρ : Dev nD → PrngReg)

/-- The run with the arguments as launched and the results at their values. -/
theorem run_values : θ_run defs (onTc (τ := τ) (main (F := Ideal))) ⟨m, fun _ => 0, ρ⟩ (fun r => ∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.mem ((c.tc : Thread nD τ).loc main_v31_0) = k0_pay3 (V m c main_v26) (V m c main_v3) (V m c main_arg4) (V m c main_v30) (V m c main_v1) (V m c main_arg3)
      ∧ r.2.mem ((c.tc : Thread nD τ).loc main_v31_1) = k0_pay2 (V m c main_v26) (V m c main_v3)
      ∧ r.2.mem ((c.tc : Thread nD τ).loc main_v24) = V m c main_v24) :=
  (θ_run defs _ _).mono (fun _ h c => ⟨⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).1 3).trans (((dats m 0 c).arrAt_in 3 rfl _).trans ((A_eq m c 3).trans (V_main_arg3 m c))),
      ((h.1 c).1 4).trans (((dats m 0 c).arrAt_in 4 rfl _).trans ((A_eq m c 4).trans (V_main_arg4 m c))),
      ((h.1 c).2 main_arg5 (Pipeline.mem_restRefs_of main_arg5 (by decide) (by decide))).trans (V_main_arg5 m c)⟩,
      ((h.1 c).1 6).trans (arr_6 m c), ((h.1 c).1 7).trans (arr_7 m c),
      (h.1 c).2 main_v24 (Pipeline.mem_restRefs_of main_v24 (by decide) (by decide))⟩) (run_main_quiescent m ρ)

section
variable (c : Dev nD) (x : FVec Ideal S2x8192x2048 .bf16) (o : IVec S128 32) (i : IVec S1920 32) (wo : FVec Ideal S128x8192 .bf16) (wc : FVec Ideal S1920x8192 .fp8e4m3) (ws : FVec Ideal S15x64 .f32)
  (h0 : m ((c.tc : Thread nD τ).loc main_arg0) = x) (h1 : m ((c.tc : Thread nD τ).loc main_arg1) = o) (h2 : m ((c.tc : Thread nD τ).loc main_arg2) = i)
  (h3 : m ((c.tc : Thread nD τ).loc main_arg3) = wo) (h4 : m ((c.tc : Thread nD τ).loc main_arg4) = wc) (h5 : m ((c.tc : Thread nD τ).loc main_arg5) = ws)
  (hi : ∀ j : Fin 1920, (i (ix1 j)).toNat < 2048)
include h0 h2 hi

/-- The scales the run leaves. -/
theorem run_scales (r : Fin 16384) (b : Fin 15) : V m c main_v24 (ix2 r b) = scF (inF (xR x) (byBlock i) r b) := by
  subst h0 h2
  rw [V_v24]
  exact scales_at _ _ hi r b

/-- The codes the run leaves. -/
theorem run_codes (r : Fin 16384) (k : Fin 1920) : k0_pay2 (F := Ideal) (V m c main_v26) (V m c main_v3) (ix2 r k) = cdF (inF (xR x) (byBlock i) r (bk k k.isLt)) (inF (xR x) (byBlock i) r (bk k k.isLt) (pl k)) := by
  subst h0 h2
  rw [V_v26, V_v3]
  exact codes_at _ _ hi r k

include h1 h3 h4 h5 in
/-- The product the run leaves. -/
theorem run_product (ho : ∀ j : Fin 128, (o (ix1 j)).toNat < 2048) (r : Fin 16384) (k : Fin 8192) :
    k0_pay3 (F := Ideal) (V m c main_v26) (V m c main_v3) (V m c main_arg4) (V m c main_v30) (V m c main_v1) (V m c main_arg3) (ix2 r k) = yF (xR x) (byBlock i) (byPlace o) ws wc wo r k := by
  subst h0 h1 h2 h3 h4 h5
  rw [V_v26, V_v3, V_v30, V_v1, V_main_arg3, V_main_arg4]
  exact product_at _ _ hi _ ho _ _ _ r k
end

end Cert.ReferenceIdeal.Own
-- ==== Proof.Pre.lean ====
module

public import proofs.«01_k».proof.Pre_admissible
public import proofs.«01_k».proof.Proof.Num

/-! What an admissible input is. -/

@[expose] public section

set_option maxRecDepth 10000

noncomputable section

namespace Cert.Pre_admissible

open Cert.Num
open Idealize.ShloMosaic
open Idealize.ShloMosaic.ValueIdx

/-- The function's side conditions. -/
theorem facts : Facts where
  bcast_S_S1920 := by decide
  bcast_S_S2x8192x2048 := by decide
  bcast_S_S128 := by decide

/-- A bit made of a truth is one when it is true. -/
theorem ofBool_one (b : Bool) (h : BitVec.ofBool b = 1#1) : b = true := by
  cases b
  · exact absurd h (by decide)
  · rfl

/-- Two bits' conjunction is one when both are. -/
theorem and_one : ∀ a b : BitVec 1, IntOp.andi a b = 1#1 → a = 1#1 ∧ b = 1#1 := by decide

variable [Facts] (x : FVec Ideal S2x8192x2048 .bf16) (o : IVec S128 32) (i : IVec S1920 32) (w : FVec Ideal S128x8192 .bf16) (q : FVec Ideal S1920x8192 .fp8e4m3) (s : FVec Ideal S15x64 .f32)

/-- Every input is at most the largest finite one. -/
theorem input_le (j : S2x8192x2048.Idx) (h : (fn (F := Ideal) x o i w q s).1 j = 1#1) : mag (x j) ≤ big := by
  have h' : BitVec.ofBool (decide (mag (x j) ≤ big)) = 1#1 := h
  exact of_decide_eq_true (ofBool_one _ h')

/-- Every outlier index is a column. -/
theorem outlier_lt (j : Fin 128) (h : (fn (F := Ideal) x o i w q s).2.1 (ix1 j) = 1#1) : (o (ix1 j)).toNat < 2048 := by
  have h' : IntOp.andi (BitVec.ofBool ((0#32).sle (o (ix1 j)))) (BitVec.ofBool ((o (ix1 j)).slt 2048#32)) = 1#1 := h
  obtain ⟨h1, h2⟩ := and_one _ _ h'
  have h1 := ofBool_one _ h1
  have h2 := ofBool_one _ h2
  generalize o (ix1 j) = w at h1 h2 ⊢
  rw [BitVec.sle_iff_toInt_le] at h1
  rw [BitVec.slt_iff_toInt_lt] at h2
  have e1 : (0#32).toInt = 0 := by decide
  have e2 : (2048#32).toInt = 2048 := by decide
  rw [e1] at h1; rw [e2] at h2
  have := BitVec.toInt_eq_toNat_cond w
  split_ifs at this <;> omega

/-- A word's sign. -/
def sgn (w : BitVec 32) : BitVec 32 := if w = 0 then 0 else if w.msb then -1 else 1

/-- The first column of the block of place `w`. -/
def loW (w : BitVec 32) : BitVec 32 :=
  IntOp.muli (Scalar.select (IntOp.andi (BitVec.ofBool (sgn w != sgn 128#32)) (BitVec.ofBool (IntOp.remsi .host w 128#32 != 0#32))) (IntOp.subi (IntOp.divsi .host w 128#32) 1#32) (IntOp.divsi .host w 128#32)) 128#32

/-- Dividing by 128 meets no corner. -/
theorem div_plain (w : BitVec 32) : IntOp.divsi .host w 128#32 = w.sdiv 128#32 := by
  unfold IntOp.divsi
  rw [if_neg]
  rintro (h | h)
  · exact absurd h (by decide)
  · exact absurd h.2 (by decide)
/-- Nor does the remainder. -/
theorem rem_plain (w : BitVec 32) : IntOp.remsi .host w 128#32 = w.srem 128#32 := by
  unfold IntOp.remsi
  rw [if_neg]
  rintro (h | h)
  · exact absurd h (by decide)
  · exact absurd h.2 (by decide)

/-- That column as a number. -/
theorem loW_toInt (j : Fin 1920) : (loW (BitVec.ofNat 32 j.val)).toInt = 128 * (j.val / 128 : ℕ) ∧ (IntOp.addi (loW (BitVec.ofNat 32 j.val)) 256#32).toInt = 128 * (j.val / 128 : ℕ) + 256 := by
  unfold loW
  rw [div_plain, rem_plain]
  revert j
  decide +kernel

/-- Every inlier index is within two blocks from its place's. -/
theorem inlier_range (j : Fin 1920) (h : (fn (F := Ideal) x o i w q s).2.2 (ix1 j) = 1#1) :
    128 * (j.val / 128) ≤ (i (ix1 j)).toNat ∧ (i (ix1 j)).toNat < 128 * (j.val / 128) + 256 := by
  have h' : IntOp.andi (BitVec.ofBool ((loW (BitVec.ofNat 32 j.val)).sle (i (ix1 j)))) (BitVec.ofBool ((i (ix1 j)).slt (IntOp.addi (loW (BitVec.ofNat 32 j.val)) 256#32))) = 1#1 := h
  obtain ⟨h1, h2⟩ := and_one _ _ h'
  have h1 := ofBool_one _ h1
  have h2 := ofBool_one _ h2
  generalize i (ix1 j) = w at h1 h2 ⊢
  rw [BitVec.sle_iff_toInt_le, (loW_toInt j).1] at h1
  rw [BitVec.slt_iff_toInt_lt, (loW_toInt j).2] at h2
  have := BitVec.toInt_eq_toNat_cond w
  split_ifs at this <;> omega

end Cert.Pre_admissible
-- ==== Proof.Algebraic.lean ====
module

public import proofs.«01_k».proof.Defs
public import proofs.«01_k».proof.Proof.KerValue
public import proofs.«01_k».proof.Proof.RefValue
public import proofs.«01_k».proof.Proof.Pre

/-! The kernel's results are the reference's. -/

@[expose] public section

set_option maxRecDepth 10000

noncomputable section

namespace Cert.KernelIdeal.Own

open Cert.KernelIdeal Cert.KernelIdeal.Gen Cert.Num
open Cert.ReferenceIdeal.Own (byBlock byPlace xR col)
open Idealize.ShloMosaic hiding ix1 ix2 ix3 eq_ix2 mulf_apply
open Idealize.ShloMosaic.ValueIdx Idealize.ShloMosaic.TcCoe
open scoped BigOperators

variable (m : (l : Loc nD τ sig) → Buf (Elt Ideal) l) (c : Dev nD)
  (x : FVec Ideal S2x8192x2048 .bf16) (o : IVec S128 32) (i : IVec S1920 32) (wo : FVec Ideal S128x8192 .bf16) (wc : FVec Ideal S1920x8192 .fp8e4m3) (ws : FVec Ideal S15x64 .f32)
  (h0 : m ((c.tc : Thread nD τ).loc main_arg0) = x) (h1 : m ((c.tc : Thread nD τ).loc main_arg1) = o) (h2 : m ((c.tc : Thread nD τ).loc main_arg2) = i)
  (h3 : m ((c.tc : Thread nD τ).loc main_arg3) = wo) (h4 : m ((c.tc : Thread nD τ).loc main_arg4) = wc) (h5 : m ((c.tc : Thread nD τ).loc main_arg5) = ws)
  (hx : ∀ j, mag (x j) ≤ big)
  (hi : ∀ j : Fin 1920, 128 * (j.val / 128) ≤ (i (ix1 j)).toNat ∧ (i (ix1 j)).toNat < 128 * (j.val / 128) + 256)

section
include h0
/-- The kernel's rows. -/
theorem X_rows : (K0 m c).X = xR x := by
  subst h0
  exact V_v2 m c
end

section
include h2
/-- The kernel's inlier indices. -/
theorem I_blocks : wI (K0 m c).I = byBlock i := by
  subst h2
  exact funext fun b => funext fun l => I_apply m c b l
end

section
include h1
/-- The kernel's outlier indices. -/
theorem O_places : wO (K0 m c).O = byPlace o := by
  subst h1
  exact funext fun j => O_apply m c j
end

section
include hi
/-- The inlier indices lie in their blocks' windows. -/
theorem block_range (b : Fin 15) (l : Fin 128) : 128 * b.val ≤ (byBlock i b l).toNat ∧ (byBlock i b l).toNat < 128 * b.val + 256 := by
  have h := hi (col b l)
  have e : (col b l).val / 128 = b.val := by show (128 * b.val + l.val) / 128 = b.val; omega
  rw [e] at h
  exact h

/-- Every inlier index is a column. -/
theorem inlier_lt (j : Fin 1920) : (i (ix1 j)).toNat < 2048 := by have := hi j; omega
end

section
include h0 h2 hx hi

/-- The hypothesis on indices, of the kernel. -/
theorem K_I (b : Fin 15) (l : Fin 128) : 128 * b.val ≤ (wI (K0 m c).I b l).toNat ∧ (wI (K0 m c).I b l).toNat < 128 * b.val + 256 := by
  rw [I_blocks m c i h2]
  exact block_range i hi b l

/-- The hypothesis on inputs, of the kernel. -/
theorem K_X (j : S16384x2048.Idx) : mag ((K0 m c).X j) ≤ big := by
  rw [X_rows m c x h0]
  exact hx _

/-- The kernel's scales. -/
theorem ker_scales (r : Fin 16384) (b : Fin 15) : asm rTs tlS hrS (K0 m c).st (ix2 r b) = scF (inF (xR x) (byBlock i) r b) := by
  rw [scales_apply (K0 m c) (K_I m c x i h0 h2 hx hi) (K_X m c x i h0 h2 hx hi), X_rows m c x h0, I_blocks m c i h2]

/-- The kernel's codes. -/
theorem ker_codes (r : Fin 16384) (k : Fin 1920) : asm rTc tlC hrC (K0 m c).ct (ix2 r k) = cdF (inF (xR x) (byBlock i) r (bk k k.isLt)) (inF (xR x) (byBlock i) r (bk k k.isLt) (pl k)) := by
  rw [codes_apply (K0 m c) (K_I m c x i h0 h2 hx hi) (K_X m c x i h0 h2 hx hi), X_rows m c x h0, I_blocks m c i h2]

include h1 h3 h4 h5 in
/-- The kernel's product. -/
theorem ker_product (ho : ∀ j : Fin 128, (o (ix1 j)).toNat < 2048) (r : Fin 16384) (k : Fin 8192) :
    asm rTy tlY hrY (K0 m c).yt (ix2 r k) = yF (xR x) (byBlock i) (byPlace o) ws wc wo r k := by
  have hW : (K0 m c).W = wT ws wc wo := by
    show wT (iblk m c 2 t0) (V m c main_arg4) (V m c main_arg3) = _
    rw [blk_2, V_main_arg3, V_main_arg4, V_main_arg5, h3, h4, h5]
  rw [product_apply (K0 m c) (K_I m c x i h0 h2 hx hi) (K_X m c x i h0 h2 hx hi) ws wc wo hW (fun j => by rw [O_places m c o h1]; exact ho j), X_rows m c x h0, I_blocks m c i h2, O_places m c o h1]
end

end Cert.KernelIdeal.Own

namespace Cert.Proof

open Idealize.ShloMosaic hiding ix1 ix2 ix3 eq_ix2 mulf_apply
open Idealize.ShloMosaic.ValueIdx Idealize.ShloMosaic.TcCoe
open Idealize.SL.Sem Cert.Num

/-- A function of two indices is known from its elements. -/
theorem ext2 {n k : ℕ} {α : Type} (f g : (⟨2, ![n, k]⟩ : Shape).Idx → α) (h : ∀ (r : Fin n) (j : Fin k), f (ix2 r j) = g (ix2 r j)) : f = g := by
  funext y
  rw [eq_ix2 y]
  exact h _ _

/-- From inputs that agree and are admissible the kernel and the reference leave the same three results. -/
theorem algebraic : @Cert.algebraic_KernelIdeal_ReferenceIdeal_pre_admissible Cert.KernelIdeal.Gen.facts Cert.ReferenceIdeal.Gen.facts Cert.Pre_admissible.facts := by
  intro m g m' g' hpre heq
  refine ⟨fun c => Cert.KernelIdeal.Own.asm Cert.KernelIdeal.Own.rTy Cert.KernelIdeal.Own.tlY Cert.KernelIdeal.Own.hrY (Cert.KernelIdeal.Own.K0 m c).yt,
    fun c => Cert.KernelIdeal.Own.asm Cert.KernelIdeal.Own.rTc Cert.KernelIdeal.Own.tlC Cert.KernelIdeal.Own.hrC (Cert.KernelIdeal.Own.K0 m c).ct,
    fun c => Cert.KernelIdeal.Own.asm Cert.KernelIdeal.Own.rTs Cert.KernelIdeal.Own.tlS Cert.KernelIdeal.Own.hrS (Cert.KernelIdeal.Own.K0 m c).st, ?_, ?_⟩
  · exact (θ_run (Cert.KernelIdeal.defs (F := Ideal)) _ _).mono (fun r h c => ⟨(h.1 c).2.1, (h.1 c).2.2.1, (h.1 c).2.2.2, (h.1 c).1⟩) (Cert.KernelIdeal.Own.run_values m g)
  · refine (θ_run (Cert.ReferenceIdeal.defs (F := Ideal)) _ _).mono (fun r h c => ?_) (Cert.ReferenceIdeal.Own.run_values m' g')
    obtain ⟨e0, e1, e2, e3, e4, e5⟩ := heq c
    have hx := fun j => @Cert.Pre_admissible.input_le Cert.Pre_admissible.facts _ _ _ _ _ _ j (congrFun (hpre c).1 j)
    have ho := fun j => @Cert.Pre_admissible.outlier_lt Cert.Pre_admissible.facts _ _ _ _ _ _ j (congrFun (hpre c).2.1 (ix1 j))
    have hi := fun j => @Cert.Pre_admissible.inlier_range Cert.Pre_admissible.facts _ _ _ _ _ _ j (congrFun (hpre c).2.2 (ix1 j))
    have hl := fun j => Cert.KernelIdeal.Own.inlier_lt _ hi j
    refine ⟨(h c).2.1.trans (ext2 _ _ fun r k => ?_), (h c).2.2.1.trans (ext2 _ _ fun r k => ?_), (h c).2.2.2.trans (ext2 _ _ fun r k => ?_), (h c).1⟩
    · exact (Cert.ReferenceIdeal.Own.run_product m' c _ _ _ _ _ _ e0 e1 e2 e3 e4 e5 hl ho r k).trans (Cert.KernelIdeal.Own.ker_product m c _ _ _ _ _ _ rfl rfl rfl rfl rfl rfl hx hi ho r k).symm
    · exact (Cert.ReferenceIdeal.Own.run_codes m' c _ _ e0 e2 hl r k).trans (Cert.KernelIdeal.Own.ker_codes m c _ _ rfl rfl hx hi r k).symm
    · exact (Cert.ReferenceIdeal.Own.run_scales m' c _ _ e0 e2 hl r k).trans (Cert.KernelIdeal.Own.ker_scales m c _ _ rfl rfl hx hi r k).symm

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init
public import proofs.«01_k».proof.Proof.Frames
public import proofs.«01_k».proof.Proof.Algebraic

@[expose] public section

noncomputable section

namespace Cert.Proof

/-- Every claim of the certificate. -/
theorem claim : Cert.Claim := ⟨Cert.Kernel.Gen.facts, Cert.KernelIdeal.Gen.facts, Cert.ReferenceIdeal.Gen.facts, Cert.Pre_admissible.facts,
  frame_kernel, frame_kernelIdeal, (fun m g _ => Cert.KernelIdeal.Own.frame m g),
  frame_referenceIdeal, (fun m g _ => Cert.ReferenceIdeal.Gen.frame m g), trivial, algebraic⟩

end Cert.Proof

end
